-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_qkb [hPre_finite_qkb : Cert.Pre_finite_qkb.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_qkb.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite_qkb.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite_qkb.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_qkb [hPre_finite_qkb : Cert.Pre_finite_qkb.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_qkb.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite_qkb.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite_qkb.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_qks [hPre_finite_qks : Cert.Pre_finite_qks.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_qks.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_qks.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_qks.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_qks [hPre_finite_qks : Cert.Pre_finite_qks.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_qks.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_qks.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_qks.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_qkb [hKernel3Ideal : Cert.Kernel3Ideal.Facts] [hPre_finite_qkb : Cert.Pre_finite_qkb.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_qkb m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_qkb [hReference3Ideal : Cert.Reference3Ideal.Facts] [hPre_finite_qkb : Cert.Pre_finite_qkb.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_qkb m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_qks [hKernel4Ideal : Cert.Kernel4Ideal.Facts] [hPre_finite_qks : Cert.Pre_finite_qks.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_qks m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_qks [hReference4Ideal : Cert.Reference4Ideal.Facts] [hPre_finite_qks : Cert.Pre_finite_qks.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_qks m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v104) = v0 c
          ∧ r.2.mem ((c.tc : Thread Cert.Reference2Ideal.nD Cert.Reference2Ideal.τ).loc Cert.Reference2Ideal.main_v106) = v1 c
          ∧ r.2.mem ((c.tc : Thread Cert.Reference2Ideal.nD Cert.Reference2Ideal.τ).loc Cert.Reference2Ideal.main_v107) = v2 c
          ∧ r.2.mem ((c.tc : Thread Cert.Reference2Ideal.nD Cert.Reference2Ideal.τ).loc Cert.Reference2Ideal.main_v108) = v3 c
          ∧ r.2.mem ((c.tc : Thread Cert.Reference2Ideal.nD Cert.Reference2Ideal.τ).loc Cert.Reference2Ideal.main_v109) = v4 c
          ∧ r.2.mem ((c.tc : Thread Cert.Reference2Ideal.nD Cert.Reference2Ideal.τ).loc Cert.Reference2Ideal.main_v110) = v5 c
          ∧ r.2.mem ((c.tc : Thread Cert.Reference2Ideal.nD Cert.Reference2Ideal.τ).loc Cert.Reference2Ideal.main_v112) = v6 c
          ∧ r.2.mem ((c.tc : Thread Cert.Reference2Ideal.nD Cert.Reference2Ideal.τ).loc Cert.Reference2Ideal.main_v114) = v7 c
          ∧ r.2.mem ((c.tc : Thread Cert.Reference2Ideal.nD Cert.Reference2Ideal.τ).loc Cert.Reference2Ideal.main_v115) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "mask" .f32 0xF149F2CA#32 ⊥

def algebraic_Kernel3Ideal_Reference3Ideal_pre_finite_qkb [hKernel3Ideal : Cert.Kernel3Ideal.Facts] [hReference3Ideal : Cert.Reference3Ideal.Facts] [hPre_finite_qkb : Cert.Pre_finite_qkb.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_qkb m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "mask" .f32 0xF149F2CA#32 ⊥

def algebraic_Kernel4Ideal_Reference4Ideal_pre_finite_qks [hKernel4Ideal : Cert.Kernel4Ideal.Facts] [hReference4Ideal : Cert.Reference4Ideal.Facts] [hPre_finite_qks : Cert.Pre_finite_qks.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_qks m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_finite_qkb : Cert.Pre_finite_qkb.Facts) (hPre_finite_qks : Cert.Pre_finite_qks.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_qkb (hKernel3Ideal := hKernel3Ideal) (hPre_finite_qkb := hPre_finite_qkb)
    ∧ quiescent_Reference3Ideal (hReference3Ideal := hReference3Ideal)
    ∧ quiescent_Reference3Ideal_pre_finite_qkb (hReference3Ideal := hReference3Ideal) (hPre_finite_qkb := hPre_finite_qkb)
    ∧ quiescent_Kernel4 (hKernel4 := hKernel4)
    ∧ quiescent_Kernel4Ideal (hKernel4Ideal := hKernel4Ideal)
    ∧ quiescent_Kernel4Ideal_pre_finite_qks (hKernel4Ideal := hKernel4Ideal) (hPre_finite_qks := hPre_finite_qks)
    ∧ quiescent_Reference4Ideal (hReference4Ideal := hReference4Ideal)
    ∧ quiescent_Reference4Ideal_pre_finite_qks (hReference4Ideal := hReference4Ideal) (hPre_finite_qks := hPre_finite_qks)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_qkb (hKernel3Ideal := hKernel3Ideal) (hReference3Ideal := hReference3Ideal) (hPre_finite_qkb := hPre_finite_qkb)
    ∧ preserves_Kernel4_Kernel4Ideal
    ∧ algebraic_Kernel4Ideal_Reference4Ideal_pre_finite_qks (hKernel4Ideal := hKernel4Ideal) (hReference4Ideal := hReference4Ideal) (hPre_finite_qks := hPre_finite_qks)
    ∧ preserves_Kernel5_Kernel5Ideal
    ∧ algebraic_Kernel5Ideal_Reference5Ideal (hKernel5Ideal := hKernel5Ideal) (hReference5Ideal := hReference5Ideal)
-- ==== Pre_finite_qk.lean ====
abbrev S32768x1024 : Shape := ⟨2, ![32768, 1024]⟩
abbrev S64x512x512 : Shape := ⟨3, ![64, 512, 512]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)

variable [Facts]

def fn {F : FTy → Type} [FloatOps F] (main_arg0 : FVec F S32768x1024 .bf16) (main_arg1 : FVec F S32768x1024 .bf16) (main_arg2 : FVec F S64x512x512 .bf16) : IVec S32768x1024 1 × IVec S32768x1024 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x1024 .f32 := (extf .f32 · bitsLt_bf16_f32) main_arg1
  let main_v5 : FVec F S32768x1024 .f32 := Host.absf main_v4
  let main_cst_0 : FVec F S_ .f32 := constant S_ .f32 0x7F800000#32
  let main_v6 : FVec F S32768x1024 .f32 := broadcastInDim S32768x1024 ![] bcast_S_S32768x1024 main_cst_0
  let main_v7 : IVec S32768x1024 1 := cmpf .olt main_v5 main_v6
  (main_v3, main_v7)
-- ==== Pre_finite_qkb.lean ====
abbrev S32768x256 : Shape := ⟨2, ![32768, 256]⟩
abbrev S4x256x768 : Shape := ⟨3, ![4, 256, 768]⟩
abbrev S_ : Shape := ⟨0, ![]⟩

class Facts : Prop where
  bitsLt_bf16_f32 : FTy.bits .bf16 < FTy.bits .f32
  bcast_S_S32768x256 : S_.BroadcastsInDim S32768x256 (![] : Fin 0 → Fin S32768x256.rank)
  bcast_S_S4x256x768 : S_.BroadcastsInDim S4x256x768 (![] : Fin 0 → Fin S4x256x768.rank)

variable [Facts]

def fn {F : FTy → Type} [FloatOps F] (main_arg0 : FVec F S32768x256 .bf16) (main_arg1 : FVec F S32768x256 .bf16) (main_arg2 : FVec F S32768x256 .bf16) (main_arg3 : FVec F S4x256x768 .f32) : IVec S32768x256 1 × IVec S32768x256 1 × IVec S4x256x768 1 :=
  let main_v0 : FVec F S32768x256 .f32 := (extf .f32 · bitsLt_bf16_f32) main_arg0
  let main_v1 : FVec F S32768x256 .f32 := Host.absf main_v0
  let main_cst : FVec F S_ .f32 := constant S_ .f32 0x7F800000#32
  let main_v2 : FVec F S32768x256 .f32 := broadcastInDim S32768x256 ![] bcast_S_S32768x256 main_cst
  let main_v3 : IVec S32768x256 1 := cmpf .olt main_v1 main_v2
  let main_v4 : FVec F S32768x256 .f32 := (extf .f32 · bitsLt_bf16_f32) main_arg1
  let main_v5 : FVec F S32768x256 .f32 := Host.absf main_v4
  let main_cst_0 : FVec F S_ .f32 := constant S_ .f32 0x7F800000#32
  let main_v6 : FVec F S32768x256 .f32 := broadcastInDim S32768x256 ![] bcast_S_S32768x256 main_cst_0
  let main_v7 : IVec S32768x256 1 := cmpf .olt main_v5 main_v6
  let main_v8 : FVec F S4x256x768 .f32 := Host.absf main_arg3
  let main_cst_1 : FVec F S_ .f32 := constant S_ .f32 0x7F800000#32
  let main_v9 : FVec F S4x256x768 .f32 := broadcastInDim S4x256x768 ![] bcast_S_S4x256x768 main_cst_1
  let main_v10 : IVec S4x256x768 1 := cmpf .olt main_v8 main_v9
  (main_v3, main_v7, main_v10)
-- ==== Pre_finite_qks.lean ====
abbrev S32768x256 : Shape := ⟨2, ![32768, 256]⟩
abbrev S32768x128 : Shape := ⟨2, ![32768, 128]⟩
abbrev S4 : Shape := ⟨1, ![4]⟩
abbrev S_ : Shape := ⟨0, ![]⟩

class Facts : Prop where
  bitsLt_bf16_f32 : FTy.bits .bf16 < FTy.bits .f32
  bcast_S_S32768x256 : S_.BroadcastsInDim S32768x256 (![] : Fin 0 → Fin S32768x256.rank)
  bcast_S_S32768x128 : S_.BroadcastsInDim S32768x128 (![] : Fin 0 → Fin S32768x128.rank)
  bcast_S_S4 : S_.BroadcastsInDim S4 (![] : Fin 0 → Fin S4.rank)

variable [Facts]

def fn {F : FTy → Type} [FloatOps F] (main_arg0 : FVec F S32768x256 .bf16) (main_arg1 : FVec F S32768x128 .bf16) (main_arg2 : FVec F S32768x128 .bf16) (main_arg3 : FVec F S4 .f32) : IVec S32768x256 1 × IVec S32768x128 1 × IVec S4 1 :=
  let main_v0 : FVec F S32768x256 .f32 := (extf .f32 · bitsLt_bf16_f32) main_arg0
  let main_v1 : FVec F S32768x256 .f32 := Host.absf main_v0
  let main_cst : FVec F S_ .f32 := constant S_ .f32 0x7F800000#32
  let main_v2 : FVec F S32768x256 .f32 := broadcastInDim S32768x256 ![] bcast_S_S32768x256 main_cst
  let main_v3 : IVec S32768x256 1 := cmpf .olt main_v1 main_v2
  let main_v4 : FVec F S32768x128 .f32 := (extf .f32 · bitsLt_bf16_f32) main_arg1
  let main_v5 : FVec F S32768x128 .f32 := Host.absf main_v4
  let main_cst_0 : FVec F S_ .f32 := constant S_ .f32 0x7F800000#32
  let main_v6 : FVec F S32768x128 .f32 := broadcastInDim S32768x128 ![] bcast_S_S32768x128 main_cst_0
  let main_v7 : IVec S32768x128 1 := cmpf .olt main_v5 main_v6
  let main_cst_1 : FVec F S_ .f32 := constant S_ .f32 0x7F800000#32
  let main_v8 : FVec F S4 .f32 := broadcastInDim S4 ![] bcast_S_S4 main_cst_1
  let main_v9 : IVec S4 1 := cmpf .olt main_arg3 main_v8
  (main_v3, main_v7, main_v9)
-- ==== Kernel.lean ====
abbrev S32768x1024 : Shape := ⟨2, ![32768, 1024]⟩
abbrev S64x512x512 : Shape := ⟨3, ![64, 512, 512]⟩
abbrev S32768x512 : Shape := ⟨2, ![32768, 512]⟩
abbrev S4096x256 : Shape := ⟨2, ![4096, 256]⟩
abbrev S8x128x512 : Shape := ⟨3, ![8, 128, 512]⟩
abbrev S4096x128 : Shape := ⟨2, ![4096, 128]⟩
abbrev S512x512 : Shape := ⟨2, ![512, 512]⟩
abbrev S16x512 : Shape := ⟨2, ![16, 512]⟩
abbrev S1x512 : Shape := ⟨2, ![1, 512]⟩
abbrev S80x512 : Shape := ⟨2, ![80, 512]⟩
abbrev S512x128 : Shape := ⟨2, ![512, 128]⟩
abbrev S512 : Shape := ⟨1, ![512]⟩
abbrev S1x64x512 : Shape := ⟨3, ![1, 64, 512]⟩
abbrev S64x512 : Shape := ⟨2, ![64, 512]⟩
abbrev S128x512 : Shape := ⟨2, ![128, 512]⟩

abbrev nBuf : Space → Nat
  | .hbm => 4
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S64x512x512, .bf16⟩
  | .hbm, ⟨3, _⟩ => ⟨S32768x512, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S8x128x512, .bf16⟩
  | .local _ .vmem, ⟨5, _⟩ => ⟨S8x128x512, .bf16⟩
  | .local _ .vmem, ⟨6, _⟩ => ⟨S4096x128, .bf16⟩
  | .local _ .vmem, ⟨7, _⟩ => ⟨S4096x128, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_13 : BitVec 32 := 0#32
  let c8_i32 : BitVec 32 := 8#32
  let v59 : BitVec 32 := Scalar.addi c0_i32_13 c8_i32
  let c1_i32_14 : BitVec 32 := 1#32
  ⟨c0_i32_13, v59, c1_i32_14⟩
def k0_mult1 (k0_t1 : Fin k0_t1_loop.trips) : BitVec 32 :=
  let c0_i32_13 : BitVec 32 := 0#32
  let c1_i32_14 : BitVec 32 := 1#32
  let arg6 : BitVec 32 := Scf.iv c0_i32_13 c1_i32_14 k0_t1
  let c512_i32 : BitVec 32 := 512#32
  let v60 : BitVec 32 := Scalar.muli arg6 c512_i32
  v60
def k0_off1 (k0_t1 : Fin k0_t1_loop.trips) : Fin 2 → Nat :=
  let c0_i32_13 : BitVec 32 := 0#32
  let c1_i32_14 : BitVec 32 := 1#32
  let arg6 : BitVec 32 := Scf.iv c0_i32_13 c1_i32_14 k0_t1
  let c512_i32 : BitVec 32 := 512#32
  let v60 : BitVec 32 := Scalar.muli arg6 c512_i32
  let v61 : BitVec 32 := v60
  let v62 : Index := Scalar.indexCast v61
  let c0 : Index := 0#32
  ![v62.toNat, 0]
def k0_off2 (k0_t1 : Fin k0_t1_loop.trips) : Fin 2 → Nat :=
  let c0_i32_13 : BitVec 32 := 0#32
  let c1_i32_14 : BitVec 32 := 1#32
  let arg6 : BitVec 32 := Scf.iv c0_i32_13 c1_i32_14 k0_t1
  let c512_i32 : BitVec 32 := 512#32
  let v60 : BitVec 32 := Scalar.muli arg6 c512_i32
  let v61 : BitVec 32 := v60
  let v64 : Index := Scalar.indexCast v61
  let c128 : Index := 128#32
  ![v64.toNat, 128]
@[reducible] def k0_t2_loop (k0_t1 : Fin k0_t1_loop.trips) : Scf.Loop 32 :=
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_24 : BitVec 32 := 1#32
  ⟨c0_i32_22, v87, c1_i32_24⟩
def k0_mult2 (k0_t1 : Fin k0_t1_loop.trips) (k0_t2 : Fin (k0_t2_loop k0_t1).trips) : BitVec 32 :=
  let c2_i32_35 : BitVec 32 := 2#32
  let c0_i32_22 : BitVec 32 := 0#32
  let c1_i32_24 : BitVec 32 := 1#32
  let arg7 : BitVec 32 := Scf.iv c0_i32_22 c1_i32_24 k0_t2
  let v117 : BitVec 32 := Scalar.muli c2_i32_35 arg7
  let c512_i32_38 : BitVec 32 := 512#32
  let v120 : BitVec 32 := Scalar.muli v117 c512_i32_38
  v120
def k0_off3 (k0_t1 : Fin k0_t1_loop.trips) (k0_t2 : Fin (k0_t2_loop k0_t1).trips) : Fin 2 → Nat :=
  let c2_i32_35 : BitVec 32 := 2#32
  let c0_i32_22 : BitVec 32 := 0#32
  let c1_i32_24 : BitVec 32 := 1#32
  let arg7 : BitVec 32 := Scf.iv c0_i32_22 c1_i32_24 k0_t2
  let v117 : BitVec 32 := Scalar.muli c2_i32_35 arg7
  let c512_i32_38 : BitVec 32 := 512#32
  let v120 : BitVec 32 := Scalar.muli v117 c512_i32_38
  let v121 : BitVec 32 := v120
  let v122 : Index := Scalar.indexCast v121
  let c0_39 : Index := 0#32
  ![v122.toNat, 0]
def k0_mult3 (k0_t1 : Fin k0_t1_loop.trips) (k0_t2 : Fin (k0_t2_loop k0_t1).trips) : BitVec 32 :=
  let c2_i32_35 : BitVec 32 := 2#32
  let c0_i32_22 : BitVec 32 := 0#32
  let c1_i32_24 : BitVec 32 := 1#32
  let arg7 : BitVec 32 := Scf.iv c0_i32_22 c1_i32_24 k0_t2
  let v117 : BitVec 32 := Scalar.muli c2_i32_35 arg7
  let c512_i32_41 : BitVec 32 := 512#32
  let v125 : BitVec 32 := Scalar.muli v117 c512_i32_41
  v125
def k0_off4 (k0_t1 : Fin k0_t1_loop.trips) (k0_t2 : Fin (k0_t2_loop k0_t1).trips) : Fin 2 → Nat :=
  let c2_i32_35 : BitVec 32 := 2#32
  let c0_i32_22 : BitVec 32 := 0#32
  let c1_i32_24 : BitVec 32 := 1#32
  let arg7 : BitVec 32 := Scf.iv c0_i32_22 c1_i32_24 k0_t2
  let v117 : BitVec 32 := Scalar.muli c2_i32_35 arg7
  let c512_i32_41 : BitVec 32 := 512#32
  let v125 : BitVec 32 := Scalar.muli v117 c512_i32_41
  let v126 : BitVec 32 := v125
  let v127 : Index := Scalar.indexCast v126
  let c128_42 : Index := 128#32
  ![v127.toNat, 128]
def k0_mult4 (k0_t1 : Fin k0_t1_loop.trips) (k0_t2 : Fin (k0_t2_loop k0_t1).trips) : BitVec 32 :=
  let c2_i32_36 : BitVec 32 := 2#32
  let c0_i32_22 : BitVec 32 := 0#32
  let c1_i32_24 : BitVec 32 := 1#32
  let arg7 : BitVec 32 := Scf.iv c0_i32_22 c1_i32_24 k0_t2
  let v118 : BitVec 32 := Scalar.muli c2_i32_36 arg7
  let c1_i32_37 : BitVec 32 := 1#32
  let v119 : BitVec 32 := Scalar.addi v118 c1_i32_37
  let c512_i32_44 : BitVec 32 := 512#32
  let v130 : BitVec 32 := Scalar.muli v119 c512_i32_44
  v130
def k0_off5 (k0_t1 : Fin k0_t1_loop.trips) (k0_t2 : Fin (k0_t2_loop k0_t1).trips) : Fin 2 → Nat :=
  let c2_i32_36 : BitVec 32 := 2#32
  let c0_i32_22 : BitVec 32 := 0#32
  let c1_i32_24 : BitVec 32 := 1#32
  let arg7 : BitVec 32 := Scf.iv c0_i32_22 c1_i32_24 k0_t2
  let v118 : BitVec 32 := Scalar.muli c2_i32_36 arg7
  let c1_i32_37 : BitVec 32 := 1#32
  let v119 : BitVec 32 := Scalar.addi v118 c1_i32_37
  let c512_i32_44 : BitVec 32 := 512#32
  let v130 : BitVec 32 := Scalar.muli v119 c512_i32_44
  let v131 : BitVec 32 := v130
  let v132 : Index := Scalar.indexCast v131
  let c0_45 : Index := 0#32
  ![v132.toNat, 0]
def k0_mult5 (k0_t1 : Fin k0_t1_loop.trips) (k0_t2 : Fin (k0_t2_loop k0_t1).trips) : BitVec 32 :=
  let c2_i32_36 : BitVec 32 := 2#32
  let c0_i32_22 : BitVec 32 := 0#32
  let c1_i32_24 : BitVec 32 := 1#32
  let arg7 : BitVec 32 := Scf.iv c0_i32_22 c1_i32_24 k0_t2
  let v118 : BitVec 32 := Scalar.muli c2_i32_36 arg7
  let c1_i32_37 : BitVec 32 := 1#32
  let v119 : BitVec 32 := Scalar.addi v118 c1_i32_37
  let c512_i32_47 : BitVec 32 := 512#32
  let v135 : BitVec 32 := Scalar.muli v119 c512_i32_47
  v135
def k0_off6 (k0_t1 : Fin k0_t1_loop.trips) (k0_t2 : Fin (k0_t2_loop k0_t1).trips) : Fin 2 → Nat :=
  let c2_i32_36 : BitVec 32 := 2#32
  let c0_i32_22 : BitVec 32 := 0#32
  let c1_i32_24 : BitVec 32 := 1#32
  let arg7 : BitVec 32 := Scf.iv c0_i32_22 c1_i32_24 k0_t2
  let v118 : BitVec 32 := Scalar.muli c2_i32_36 arg7
  let c1_i32_37 : BitVec 32 := 1#32
  let v119 : BitVec 32 := Scalar.addi v118 c1_i32_37
  let c512_i32_47 : BitVec 32 := 512#32
  let v135 : BitVec 32 := Scalar.muli v119 c512_i32_47
  let v136 : BitVec 32 := v135
  let v137 : Index := Scalar.indexCast v136
  let c128_48 : Index := 128#32
  ![v137.toNat, 128]
def k0_off7 (k0_t1 : Fin k0_t1_loop.trips) (k0_t2 : Fin (k0_t2_loop k0_t1).trips) : Fin 3 → Nat :=
  let c2_i32_35 : BitVec 32 := 2#32
  let c0_i32_22 : BitVec 32 := 0#32
  let c1_i32_24 : BitVec 32 := 1#32
  let arg7 : BitVec 32 := Scf.iv c0_i32_22 c1_i32_24 k0_t2
  let v117 : BitVec 32 := Scalar.muli c2_i32_35 arg7
  let v149 : Index := Scalar.indexCast v117
  let c0_51 : Index := 0#32
  let c0_52 : Index := 0#32
  ![v149.toNat, 0, 0]
def k0_off8 (k0_t1 : Fin k0_t1_loop.trips) (k0_t2 : Fin (k0_t2_loop k0_t1).trips) : Fin 3 → Nat :=
  let c2_i32_35 : BitVec 32 := 2#32
  let c0_i32_22 : BitVec 32 := 0#32
  let c1_i32_24 : BitVec 32 := 1#32
  let arg7 : BitVec 32 := Scf.iv c0_i32_22 c1_i32_24 k0_t2
  let v117 : BitVec 32 := Scalar.muli c2_i32_35 arg7
  let v166 : Index := Scalar.indexCast v117
  let c64 : Index := 64#32
  let c0_55 : Index := 0#32
  ![v166.toNat, 64, 0]
def k0_off9 (k0_t1 : Fin k0_t1_loop.trips) (k0_t2 : Fin (k0_t2_loop k0_t1).trips) : Fin 3 → Nat :=
  let c2_i32_36 : BitVec 32 := 2#32
  let c0_i32_22 : BitVec 32 := 0#32
  let c1_i32_24 : BitVec 32 := 1#32
  let arg7 : BitVec 32 := Scf.iv c0_i32_22 c1_i32_24 k0_t2
  let v118 : BitVec 32 := Scalar.muli c2_i32_36 arg7
  let c1_i32_37 : BitVec 32 := 1#32
  let v119 : BitVec 32 := Scalar.addi v118 c1_i32_37
  let v183 : Index := Scalar.indexCast v119
  let c0_58 : Index := 0#32
  let c0_59 : Index := 0#32
  ![v183.toNat, 0, 0]
def k0_off10 (k0_t1 : Fin k0_t1_loop.trips) (k0_t2 : Fin (k0_t2_loop k0_t1).trips) : Fin 3 → Nat :=
  let c2_i32_36 : BitVec 32 := 2#32
  let c0_i32_22 : BitVec 32 := 0#32
  let c1_i32_24 : BitVec 32 := 1#32
  let arg7 : BitVec 32 := Scf.iv c0_i32_22 c1_i32_24 k0_t2
  let v118 : BitVec 32 := Scalar.muli c2_i32_36 arg7
  let c1_i32_37 : BitVec 32 := 1#32
  let v119 : BitVec 32 := Scalar.addi v118 c1_i32_37
  let v200 : Index := Scalar.indexCast v119
  let c64_62 : Index := 64#32
  let c0_63 : Index := 0#32
  ![v200.toNat, 64, 0]
@[reducible] def k0_t3_loop (k0_t1 : Fin k0_t1_loop.trips) : Scf.Loop 32 :=
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let v84 : BitVec 32 := Scalar.addi c0_i32_22 v83
  let c1_i32_25 : BitVec 32 := 1#32
  ⟨v87, v84, c1_i32_25⟩
def k0_mult6 (k0_t1 : Fin k0_t1_loop.trips) (k0_t3 : Fin (k0_t3_loop k0_t1).trips) : BitVec 32 :=
  let c2_i32_35 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v117 : BitVec 32 := Scalar.muli c2_i32_35 arg7
  let c512_i32_38 : BitVec 32 := 512#32
  let v120 : BitVec 32 := Scalar.muli v117 c512_i32_38
  v120
def k0_off11 (k0_t1 : Fin k0_t1_loop.trips) (k0_t3 : Fin (k0_t3_loop k0_t1).trips) : Fin 2 → Nat :=
  let c2_i32_35 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v117 : BitVec 32 := Scalar.muli c2_i32_35 arg7
  let c512_i32_38 : BitVec 32 := 512#32
  let v120 : BitVec 32 := Scalar.muli v117 c512_i32_38
  let v121 : BitVec 32 := v120
  let v122 : Index := Scalar.indexCast v121
  let c0_39 : Index := 0#32
  ![v122.toNat, 0]
def k0_mult7 (k0_t1 : Fin k0_t1_loop.trips) (k0_t3 : Fin (k0_t3_loop k0_t1).trips) : BitVec 32 :=
  let c2_i32_35 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v117 : BitVec 32 := Scalar.muli c2_i32_35 arg7
  let c512_i32_41 : BitVec 32 := 512#32
  let v125 : BitVec 32 := Scalar.muli v117 c512_i32_41
  v125
def k0_off12 (k0_t1 : Fin k0_t1_loop.trips) (k0_t3 : Fin (k0_t3_loop k0_t1).trips) : Fin 2 → Nat :=
  let c2_i32_35 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v117 : BitVec 32 := Scalar.muli c2_i32_35 arg7
  let c512_i32_41 : BitVec 32 := 512#32
  let v125 : BitVec 32 := Scalar.muli v117 c512_i32_41
  let v126 : BitVec 32 := v125
  let v127 : Index := Scalar.indexCast v126
  let c128_42 : Index := 128#32
  ![v127.toNat, 128]
def k0_mult8 (k0_t1 : Fin k0_t1_loop.trips) (k0_t3 : Fin (k0_t3_loop k0_t1).trips) : BitVec 32 :=
  let c2_i32_36 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v118 : BitVec 32 := Scalar.muli c2_i32_36 arg7
  let c1_i32_37 : BitVec 32 := 1#32
  let v119 : BitVec 32 := Scalar.addi v118 c1_i32_37
  let c512_i32_44 : BitVec 32 := 512#32
  let v130 : BitVec 32 := Scalar.muli v119 c512_i32_44
  v130
def k0_off13 (k0_t1 : Fin k0_t1_loop.trips) (k0_t3 : Fin (k0_t3_loop k0_t1).trips) : Fin 2 → Nat :=
  let c2_i32_36 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v118 : BitVec 32 := Scalar.muli c2_i32_36 arg7
  let c1_i32_37 : BitVec 32 := 1#32
  let v119 : BitVec 32 := Scalar.addi v118 c1_i32_37
  let c512_i32_44 : BitVec 32 := 512#32
  let v130 : BitVec 32 := Scalar.muli v119 c512_i32_44
  let v131 : BitVec 32 := v130
  let v132 : Index := Scalar.indexCast v131
  let c0_45 : Index := 0#32
  ![v132.toNat, 0]
def k0_mult9 (k0_t1 : Fin k0_t1_loop.trips) (k0_t3 : Fin (k0_t3_loop k0_t1).trips) : BitVec 32 :=
  let c2_i32_36 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v118 : BitVec 32 := Scalar.muli c2_i32_36 arg7
  let c1_i32_37 : BitVec 32 := 1#32
  let v119 : BitVec 32 := Scalar.addi v118 c1_i32_37
  let c512_i32_47 : BitVec 32 := 512#32
  let v135 : BitVec 32 := Scalar.muli v119 c512_i32_47
  v135
def k0_off14 (k0_t1 : Fin k0_t1_loop.trips) (k0_t3 : Fin (k0_t3_loop k0_t1).trips) : Fin 2 → Nat :=
  let c2_i32_36 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v118 : BitVec 32 := Scalar.muli c2_i32_36 arg7
  let c1_i32_37 : BitVec 32 := 1#32
  let v119 : BitVec 32 := Scalar.addi v118 c1_i32_37
  let c512_i32_47 : BitVec 32 := 512#32
  let v135 : BitVec 32 := Scalar.muli v119 c512_i32_47
  let v136 : BitVec 32 := v135
  let v137 : Index := Scalar.indexCast v136
  let c128_48 : Index := 128#32
  ![v137.toNat, 128]
def k0_off15 (k0_t1 : Fin k0_t1_loop.trips) (k0_t3 : Fin (k0_t3_loop k0_t1).trips) : Fin 3 → Nat :=
  let c2_i32_35 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v117 : BitVec 32 := Scalar.muli c2_i32_35 arg7
  let v149 : Index := Scalar.indexCast v117
  let c0_51 : Index := 0#32
  let c0_52 : Index := 0#32
  ![v149.toNat, 0, 0]
def k0_off16 (k0_t1 : Fin k0_t1_loop.trips) (k0_t3 : Fin (k0_t3_loop k0_t1).trips) : Fin 3 → Nat :=
  let c2_i32_35 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v117 : BitVec 32 := Scalar.muli c2_i32_35 arg7
  let v166 : Index := Scalar.indexCast v117
  let c64 : Index := 64#32
  let c0_55 : Index := 0#32
  ![v166.toNat, 64, 0]
def k0_off17 (k0_t1 : Fin k0_t1_loop.trips) (k0_t3 : Fin (k0_t3_loop k0_t1).trips) : Fin 3 → Nat :=
  let c2_i32_36 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v118 : BitVec 32 := Scalar.muli c2_i32_36 arg7
  let c1_i32_37 : BitVec 32 := 1#32
  let v119 : BitVec 32 := Scalar.addi v118 c1_i32_37
  let v183 : Index := Scalar.indexCast v119
  let c0_58 : Index := 0#32
  let c0_59 : Index := 0#32
  ![v183.toNat, 0, 0]
def k0_off18 (k0_t1 : Fin k0_t1_loop.trips) (k0_t3 : Fin (k0_t3_loop k0_t1).trips) : Fin 3 → Nat :=
  let c2_i32_36 : BitVec 32 := 2#32
  let c0_i32_22 : BitVec 32 := 0#32
  let c0_i32_13 : BitVec 32 := 0#32
  let c1_i32_14 : BitVec 32 := 1#32
  let arg6 : BitVec 32 := Scf.iv c0_i32_13 c1_i32_14 k0_t1
  let c0_i32_16 : BitVec 32 := 0#32
  let v67 : BitVec 1 := Scalar.cmpi .sgt arg6 c0_i32_16
  let v68 : BitVec 32 := Scalar.extui v67
  let c0_i32_17 : BitVec 32 := 0#32
  let v69 : BitVec 1 := Scalar.cmpi .slt arg6 c0_i32_17
  let v70 : BitVec 32 := Scalar.extui v69
  let v71 : BitVec 32 := Scalar.subi v68 v70
  let c2_i32 : BitVec 32 := 2#32
  let c0_i32_18 : BitVec 32 := 0#32
  let v72 : BitVec 1 := Scalar.cmpi .sgt c2_i32 c0_i32_18
  let v73 : BitVec 32 := Scalar.extui v72
  let c0_i32_19 : BitVec 32 := 0#32
  let v74 : BitVec 1 := Scalar.cmpi .slt c2_i32 c0_i32_19
  let v75 : BitVec 32 := Scalar.extui v74
  let v76 : BitVec 32 := Scalar.subi v73 v75
  let v77 : BitVec 1 := Scalar.cmpi .ne v71 v76
  let v78 : BitVec 32 := Scalar.remsi arg6 c2_i32
  let c0_i32_20 : BitVec 32 := 0#32
  let v79 : BitVec 1 := Scalar.cmpi .ne v78 c0_i32_20
  let v80 : BitVec 1 := Scalar.andi v77 v79
  let v66 : BitVec 32 := Scalar.divsi arg6 c2_i32
  let c1_i32_21 : BitVec 32 := 1#32
  let v81 : BitVec 32 := Scalar.subi v66 c1_i32_21
  let v82 : BitVec 32 := Scalar.select v80 v81 v66
  let v83 : BitVec 32 := Scalar.subi v82 c0_i32_22
  let c1_i32_23 : BitVec 32 := 1#32
  let v85 : BitVec 32 := Scalar.divsi v83 c1_i32_23
  let v86 : BitVec 32 := Scalar.muli v85 c1_i32_23
  let v87 : BitVec 32 := Scalar.addi c0_i32_22 v86
  let c1_i32_25 : BitVec 32 := 1#32
  let arg7 : BitVec 32 := Scf.iv v87 c1_i32_25 k0_t3
  let v118 : BitVec 32 := Scalar.muli c2_i32_36 arg7
  let c1_i32_37 : BitVec 32 := 1#32
  let v119 : BitVec 32 := Scalar.addi v118 c1_i32_37
  let v200 : Index := Scalar.indexCast v119
  let c64_62 : Index := 64#32
  let c0_63 : Index := 0#32
  ![v200.toNat, 64, 0]
def k0_cond1 (k0_t1 : Fin k0_t1_loop.trips) : BitVec 1 :=
  let c0_i32_13 : BitVec 32 := 0#32
  let c1_i32_14 : BitVec 32 := 1#32
  let arg6 : BitVec 32 := Scf.iv c0_i32_13 c1_i32_14 k0_t1
  let c2_i32_26 : BitVec 32 := 2#32
  let c0_i32_27 : BitVec 32 := 0#32
  let v90 : BitVec 1 := Scalar.cmpi .eq c2_i32_26 c0_i32_27
  let c1_i32_28 : BitVec 32 := 1#32
  let v91 : BitVec 32 := Scalar.select v90 c1_i32_28 c2_i32_26
  let v92 : BitVec 32 := Scalar.remsi arg6 v91
  let c0_i32_30 : BitVec 32 := 0#32
  let v94 : BitVec 1 := Scalar.cmpi .slt v92 c0_i32_30
  let c0_i32_31 : BitVec 32 := 0#32
  let v95 : BitVec 1 := Scalar.cmpi .slt v91 c0_i32_31
  let v96 : BitVec 1 := Scalar.xori v94 v95
  let c0_i32_29 : BitVec 32 := 0#32
  let v93 : BitVec 1 := Scalar.cmpi .ne v92 c0_i32_29
  let v97 : BitVec 1 := Scalar.andi v96 v93
  let v98 : BitVec 32 := Scalar.addi v92 v91
  let v99 : BitVec 32 := Scalar.select v97 v98 v92
  let c1_i32_32 : BitVec 32 := 1#32
  let v100 : BitVec 1 := Scalar.cmpi .eq v99 c1_i32_32
  let v101 : BitVec 32 := Scalar.extui v100
  let c0_i32_33 : BitVec 32 := 0#32
  let v102 : BitVec 1 := Scalar.cmpi .ne v101 c0_i32_33
  v102

def k0_mult10 (k0_t1 : Fin k0_t1_loop.trips) : BitVec 32 :=
  let c0_i32_13 : BitVec 32 := 0#32
  let c1_i32_14 : BitVec 32 := 1#32
  let arg6 : BitVec 32 := Scf.iv c0_i32_13 c1_i32_14 k0_t1
  let c1_i32_35 : BitVec 32 := 1#32
  let v117 : BitVec 32 := Scalar.subi arg6 c1_i32_35
  let c512_i32_36 : BitVec 32 := 512#32
  let v118 : BitVec 32 := Scalar.muli v117 c512_i32_36
  v118
def k0_off19 (k0_t1 : Fin k0_t1_loop.trips) : Fin 2 → Nat :=
  let c0_i32_13 : BitVec 32 := 0#32
  let c1_i32_14 : BitVec 32 := 1#32
  let arg6 : BitVec 32 := Scf.iv c0_i32_13 c1_i32_14 k0_t1
  let c1_i32_35 : BitVec 32 := 1#32
  let v117 : BitVec 32 := Scalar.subi arg6 c1_i32_35
  let c512_i32_36 : BitVec 32 := 512#32
  let v118 : BitVec 32 := Scalar.muli v117 c512_i32_36
  let v119 : BitVec 32 := v118
  let v120 : Index := Scalar.indexCast v119
  let c0_37 : Index := 0#32
  ![v120.toNat, 0]
def k0_mult11 (k0_t1 : Fin k0_t1_loop.trips) : BitVec 32 :=
  let c0_i32_13 : BitVec 32 := 0#32
  let c1_i32_14 : BitVec 32 := 1#32
  let arg6 : BitVec 32 := Scf.iv c0_i32_13 c1_i32_14 k0_t1
  let c1_i32_35 : BitVec 32 := 1#32
  let v117 : BitVec 32 := Scalar.subi arg6 c1_i32_35
  let c512_i32_39 : BitVec 32 := 512#32
  let v123 : BitVec 32 := Scalar.muli v117 c512_i32_39
  v123
def k0_off20 (k0_t1 : Fin k0_t1_loop.trips) : Fin 2 → Nat :=
  let c0_i32_13 : BitVec 32 := 0#32
  let c1_i32_14 : BitVec 32 := 1#32
  let arg6 : BitVec 32 := Scf.iv c0_i32_13 c1_i32_14 k0_t1
  let c1_i32_35 : BitVec 32 := 1#32
  let v117 : BitVec 32 := Scalar.subi arg6 c1_i32_35
  let c512_i32_39 : BitVec 32 := 512#32
  let v123 : BitVec 32 := Scalar.muli v117 c512_i32_39
  let v124 : BitVec 32 := v123
  let v125 : Index := Scalar.indexCast v124
  let c128_40 : Index := 128#32
  ![v125.toNat, 128]
def k0_mult12 (k0_t1 : Fin k0_t1_loop.trips) : BitVec 32 :=
  let c0_i32_13 : BitVec 32 := 0#32
  let c1_i32_14 : BitVec 32 := 1#32
  let arg6 : BitVec 32 := Scf.iv c0_i32_13 c1_i32_14 k0_t1
  let c512_i32_42 : BitVec 32 := 512#32
  let v128 : BitVec 32 := Scalar.muli arg6 c512_i32_42
  v128
def k0_off21 (k0_t1 : Fin k0_t1_loop.trips) : Fin 2 → Nat :=
  let c0_i32_13 : BitVec 32 := 0#32
  let c1_i32_14 : BitVec 32 := 1#32
  let arg6 : BitVec 32 := Scf.iv c0_i32_13 c1_i32_14 k0_t1
  let c512_i32_42 : BitVec 32 := 512#32
  let v128 : BitVec 32 := Scalar.muli arg6 c512_i32_42
  let v129 : BitVec 32 := v128
  let v130 : Index := Scalar.indexCast v129
  let c0_43 : Index := 0#32
  ![v130.toNat, 0]
def k0_mult13 (k0_t1 : Fin k0_t1_loop.trips) : BitVec 32 :=
  let c0_i32_13 : BitVec 32 := 0#32
  let c1_i32_14 : BitVec 32 := 1#32
  let arg6 : BitVec 32 := Scf.iv c0_i32_13 c1_i32_14 k0_t1
  let c512_i32_45 : BitVec 32 := 512#32
  let v133 : BitVec 32 := Scalar.muli arg6 c512_i32_45
  v133
def k0_off22 (k0_t1 : Fin k0_t1_loop.trips) : Fin 2 → Nat :=
  let c0_i32_13 : BitVec 32 := 0#32
  let c1_i32_14 : BitVec 32 := 1#32
  let arg6 : BitVec 32 := Scf.iv c0_i32_13 c1_i32_14 k0_t1
  let c512_i32_45 : BitVec 32 := 512#32
  let v133 : BitVec 32 := Scalar.muli arg6 c512_i32_45
  let v134 : BitVec 32 := v133
  let v135 : Index := Scalar.indexCast v134
  let c128_46 : Index := 128#32
  ![v135.toNat, 128]
def k0_off23 (k0_t1 : Fin k0_t1_loop.trips) : Fin 3 → Nat :=
  let c0_i32_13 : BitVec 32 := 0#32
  let c1_i32_14 : BitVec 32 := 1#32
  let arg6 : BitVec 32 := Scf.iv c0_i32_13 c1_i32_14 k0_t1
  let c1_i32_35 : BitVec 32 := 1#32
  let v117 : BitVec 32 := Scalar.subi arg6 c1_i32_35
  let v147 : Index := Scalar.indexCast v117
  let c0_49 : Index := 0#32
  let c0_50 : Index := 0#32
  ![v147.toNat, 0, 0]
def k0_off24 (k0_t1 : Fin k0_t1_loop.trips) : Fin 3 → Nat :=
  let c0_i32_13 : BitVec 32 := 0#32
  let c1_i32_14 : BitVec 32 := 1#32
  let arg6 : BitVec 32 := Scf.iv c0_i32_13 c1_i32_14 k0_t1
  let c1_i32_35 : BitVec 32 := 1#32
  let v117 : BitVec 32 := Scalar.subi arg6 c1_i32_35
  let v164 : Index := Scalar.indexCast v117
  let c64 : Index := 64#32
  let c0_53 : Index := 0#32
  ![v164.toNat, 64, 0]
def k0_off25 (k0_t1 : Fin k0_t1_loop.trips) : Fin 3 → Nat :=
  let c0_i32_13 : BitVec 32 := 0#32
  let c1_i32_14 : BitVec 32 := 1#32
  let arg6 : BitVec 32 := Scf.iv c0_i32_13 c1_i32_14 k0_t1
  let v183 : Index := Scalar.indexCast arg6
  let c0_57 : Index := 0#32
  let c0_58 : Index := 0#32
  ![v183.toNat, 0, 0]
def k0_off26 (k0_t1 : Fin k0_t1_loop.trips) : Fin 3 → Nat :=
  let c0_i32_13 : BitVec 32 := 0#32
  let c1_i32_14 : BitVec 32 := 1#32
  let arg6 : BitVec 32 := Scf.iv c0_i32_13 c1_i32_14 k0_t1
  let v202 : Index := Scalar.indexCast arg6
  let c64_62 : Index := 64#32
  let c0_63 : Index := 0#32
  ![v202.toNat, 64, 0]
def k0_mult14 (k0_t1 : Fin k0_t1_loop.trips) : BitVec 32 :=
  let c0_i32_13 : BitVec 32 := 0#32
  let c1_i32_14 : BitVec 32 := 1#32
  let arg6 : BitVec 32 := Scf.iv c0_i32_13 c1_i32_14 k0_t1
  let c512_i32_35 : BitVec 32 := 512#32
  let v117 : BitVec 32 := Scalar.muli arg6 c512_i32_35
  v117
def k0_off27 (k0_t1 : Fin k0_t1_loop.trips) : Fin 2 → Nat :=
  let c0_i32_13 : BitVec 32 := 0#32
  let c1_i32_14 : BitVec 32 := 1#32
  let arg6 : BitVec 32 := Scf.iv c0_i32_13 c1_i32_14 k0_t1
  let c512_i32_35 : BitVec 32 := 512#32
  let v117 : BitVec 32 := Scalar.muli arg6 c512_i32_35
  let v118 : BitVec 32 := v117
  let v119 : Index := Scalar.indexCast v118
  let c0_36 : Index := 0#32
  ![v119.toNat, 0]
def k0_mult15 (k0_t1 : Fin k0_t1_loop.trips) : BitVec 32 :=
  let c0_i32_13 : BitVec 32 := 0#32
  let c1_i32_14 : BitVec 32 := 1#32
  let arg6 : BitVec 32 := Scf.iv c0_i32_13 c1_i32_14 k0_t1
  let c512_i32_38 : BitVec 32 := 512#32
  let v122 : BitVec 32 := Scalar.muli arg6 c512_i32_38
  v122
def k0_off28 (k0_t1 : Fin k0_t1_loop.trips) : Fin 2 → Nat :=
  let c0_i32_13 : BitVec 32 := 0#32
  let c1_i32_14 : BitVec 32 := 1#32
  let arg6 : BitVec 32 := Scf.iv c0_i32_13 c1_i32_14 k0_t1
  let c512_i32_38 : BitVec 32 := 512#32
  let v122 : BitVec 32 := Scalar.muli arg6 c512_i32_38
  let v123 : BitVec 32 := v122
  let v124 : Index := Scalar.indexCast v123
  let c128_39 : Index := 128#32
  ![v124.toNat, 128]
def k0_off29 (k0_t1 : Fin k0_t1_loop.trips) : Fin 3 → Nat :=
  let c0_i32_13 : BitVec 32 := 0#32
  let c1_i32_14 : BitVec 32 := 1#32
  let arg6 : BitVec 32 := Scf.iv c0_i32_13 c1_i32_14 k0_t1
  let v138 : Index := Scalar.indexCast arg6
  let c0_43 : Index := 0#32
  let c0_44 : Index := 0#32
  ![v138.toNat, 0, 0]
def k0_off30 (k0_t1 : Fin k0_t1_loop.trips) : Fin 3 → Nat :=
  let c0_i32_13 : BitVec 32 := 0#32
  let c1_i32_14 : BitVec 32 := 1#32
  let arg6 : BitVec 32 := Scf.iv c0_i32_13 c1_i32_14 k0_t1
  let v157 : Index := Scalar.indexCast arg6
  let c64 : Index := 64#32
  let c0_48 : Index := 0#32
  ![v157.toNat, 64, 0]
def k0_off31 (k0_t1 : Fin k0_t1_loop.trips) : Fin 2 → Nat :=
  let c0_i32_13 : BitVec 32 := 0#32
  let c1_i32_14 : BitVec 32 := 1#32
  let arg6 : BitVec 32 := Scf.iv c0_i32_13 c1_i32_14 k0_t1
  let c512_i32 : BitVec 32 := 512#32
  let v60 : BitVec 32 := Scalar.muli arg6 c512_i32
  let v61 : BitVec 32 := v60
  let v115 : Index := Scalar.indexCast v61
  let c0_34 : Index := 0#32
  ![v115.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x1024 : Shape := ⟨2, ![32768, 1024]⟩
abbrev S64x512x512 : Shape := ⟨3, ![64, 512, 512]⟩
abbrev S8x4096x8x128 : Shape := ⟨4, ![8, 4096, 8, 128]⟩
abbrev S8x8x8x64x512 : Shape := ⟨5, ![8, 8, 8, 64, 512]⟩
abbrev S8x8x512x8x64 : Shape := ⟨5, ![8, 8, 512, 8, 64]⟩
abbrev S8x4096x8x64 : Shape := ⟨4, ![8, 4096, 8, 64]⟩
abbrev S8x8x4096x4096 : Shape := ⟨4, ![8, 8, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S32768x512 : Shape := ⟨2, ![32768, 512]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S64x512x512, .bf16⟩
  | .hbm, ⟨3, _⟩ => ⟨S32768x1024, .f32⟩
  | .hbm, ⟨4, _⟩ => ⟨S8x4096x8x128, .f32⟩
  | .hbm, ⟨5, _⟩ => ⟨S32768x1024, .f32⟩
  | .hbm, ⟨6, _⟩ => ⟨S8x4096x8x128, .f32⟩
  | .hbm, ⟨7, _⟩ => ⟨S64x512x512, .f32⟩
  | .hbm, ⟨8, _⟩ => ⟨S8x8x8x64x512, .f32⟩
  | .hbm, ⟨9, _⟩ => ⟨S8x8x512x8x64, .f32⟩
  | .hbm, ⟨10, _⟩ => ⟨S8x4096x8x64, .f32⟩
  | .hbm, ⟨11, _⟩ => ⟨S8x8x4096x4096, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S8x8x4096x4096, .i1⟩
  | .hbm, ⟨39, _⟩ => ⟨S8x8x4096x4096, .f32⟩
  | .hbm, ⟨40, _⟩ => ⟨S8x8x4096x4096, .f32⟩
  | .hbm, ⟨41, _⟩ => ⟨S_, .f32⟩
  | .hbm, ⟨42, _⟩ => ⟨S8x8x4096, .f32⟩
  | .hbm, ⟨43, _⟩ => ⟨S_, .f32⟩
  | .hbm, ⟨44, _⟩ => ⟨S8x8x4096, .f32⟩
  | .hbm, ⟨45, _⟩ => ⟨S8x8x4096, .f32⟩
  | .hbm, ⟨46, _⟩ => ⟨S8x8x4096x1, .f32⟩
  | .hbm, ⟨47, _⟩ => ⟨S8x8x4096x4096, .f32⟩
  | .hbm, ⟨48, _⟩ => ⟨S8x8x4096x4096, .f32⟩
  | .hbm, ⟨49, _⟩ => ⟨S8x8x4096x4096, .f32⟩
  | .hbm, ⟨50, _⟩ => ⟨S_, .f32⟩
  | .hbm, ⟨51, _⟩ => ⟨S8x8x4096, .f32⟩
  | .hbm, ⟨52, _⟩ => ⟨S8x8x4096x1, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .bf16⟩
  | .hbm, ⟨56, _⟩ => ⟨S8x8x4096x4096, .f32⟩
  | .hbm, ⟨57, _⟩ => ⟨S8x8x64x4096, .f32⟩
  | .hbm, ⟨58, _⟩ => ⟨S8x4096x8x64, .f32⟩
  | .hbm, ⟨59, _⟩ => ⟨S32768x512, .f32⟩
  | .hbm, ⟨60, _⟩ => ⟨S32768x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩

abbrev nD : Nat := 1
abbrev τ : Topo := Topo.v7x

variable {F : FTy → Type} [FloatOps F]
-- ==== Kernel2.lean ====
abbrev S32768x1024 : Shape := ⟨2, ![32768, 1024]⟩
abbrev S1024x2560 : Shape := ⟨2, ![1024, 2560]⟩
abbrev S1x384 : Shape := ⟨2, ![1, 384]⟩
abbrev S384x2048 : Shape := ⟨2, ![384, 2048]⟩
abbrev S1x256 : Shape := ⟨2, ![1, 256]⟩
abbrev S256x1024 : Shape := ⟨2, ![256, 1024]⟩
abbrev S512x256 : Shape := ⟨2, ![512, 256]⟩
abbrev S6x4096x128 : Shape := ⟨3, ![6, 4096, 128]⟩
abbrev S64x512x512 : Shape := ⟨3, ![64, 512, 512]⟩
abbrev S32768x256 : Shape := ⟨2, ![32768, 256]⟩
abbrev S32768x128 : Shape := ⟨2, ![32768, 128]⟩
abbrev S512x1024 : Shape := ⟨2, ![512, 1024]⟩
abbrev S6x512x128 : Shape := ⟨3, ![6, 512, 128]⟩
abbrev S1x512x512 : Shape := ⟨3, ![1, 512, 512]⟩
abbrev S512x128 : Shape := ⟨2, ![512, 128]⟩
abbrev S512x2560 : Shape := ⟨2, ![512, 2560]⟩
abbrev S1x512x128 : Shape := ⟨3, ![1, 512, 128]⟩
abbrev S512x384 : Shape := ⟨2, ![512, 384]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩

abbrev nBuf : Space → Nat
  | .hbm => 17
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S1024x2560, .bf16⟩
  | .hbm, ⟨2, _⟩ => ⟨S1x384, .f32⟩
  | .hbm, ⟨3, _⟩ => ⟨S384x2048, .bf16⟩
  | .hbm, ⟨4, _⟩ => ⟨S1x256, .f32⟩
  | .hbm, ⟨5, _⟩ => ⟨S256x1024, .bf16⟩
  | .hbm, ⟨6, _⟩ => ⟨S512x256, .bf16⟩
  | .hbm, ⟨7, _⟩ => ⟨S6x4096x128, .f32⟩
  | .hbm, ⟨8, _⟩ => ⟨S32768x1024, .bf16⟩
  | .hbm, ⟨9, _⟩ => ⟨S32768x1024, .bf16⟩
  | .hbm, ⟨10, _⟩ => ⟨S64x512x512, .bf16⟩
  | .hbm, ⟨11, _⟩ => ⟨S32768x256, .bf16⟩
  | .hbm, ⟨12, _⟩ => ⟨S32768x256, .bf16⟩
  | .hbm, ⟨13, _⟩ => ⟨S32768x256, .bf16⟩
  | .hbm, ⟨14, _⟩ => ⟨S32768x256, .bf16⟩
  | .hbm, ⟨15, _⟩ => ⟨S32768x128, .bf16⟩
  | .hbm, ⟨16, _⟩ => ⟨S32768x128, .bf16⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S1x384, .f32⟩
  | .local _ .vmem, ⟨4, _⟩ => ⟨S384x2048, .bf16⟩
  | .local _ .vmem, ⟨5, _⟩ => ⟨S1x256, .f32⟩
  | .local _ .vmem, ⟨6, _⟩ => ⟨S256x1024, .bf16⟩
  | .local _ .vmem, ⟨7, _⟩ => ⟨S512x256, .bf16⟩
  | .local _ .vmem, ⟨8, _⟩ => ⟨S6x512x128, .f32⟩
  | .local _ .vmem, ⟨9, _⟩ => ⟨S6x512x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x512, .bf16⟩
  | .local _ .vmem, ⟨15, _⟩ => ⟨S1x512x512, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S512x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev main_v0_8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S32768x1024 : Shape := ⟨2, ![32768, 1024]⟩
abbrev S1024x2560 : Shape := ⟨2, ![1024, 2560]⟩
abbrev S1x384 : Shape := ⟨2, ![1, 384]⟩
abbrev S384x2048 : Shape := ⟨2, ![384, 2048]⟩
abbrev S1x256 : Shape := ⟨2, ![1, 256]⟩
abbrev S256x1024 : Shape := ⟨2, ![256, 1024]⟩
abbrev S512x256 : Shape := ⟨2, ![512, 256]⟩
abbrev S6x4096x128 : Shape := ⟨3, ![6, 4096, 128]⟩
abbrev S32768x2560 : Shape := ⟨2, ![32768, 2560]⟩
abbrev S32768x384 : Shape := ⟨2, ![32768, 384]⟩
abbrev S32768x256 : Shape := ⟨2, ![32768, 256]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S32768x2048 : Shape := ⟨2, ![32768, 2048]⟩
abbrev S8x4096x8x128 : Shape := ⟨4, ![8, 4096, 8, 128]⟩
abbrev S1x4096x128 : Shape := ⟨3, ![1, 4096, 128]⟩
abbrev S4096x128 : Shape := ⟨2, ![4096, 128]⟩
abbrev S1x4096x1x128 : Shape := ⟨4, ![1, 4096, 1, 128]⟩
abbrev S8x4096x1x128 : Shape := ⟨4, ![8, 4096, 1, 128]⟩
abbrev S64x512x256 : Shape := ⟨3, ![64, 512, 256]⟩
abbrev S64x512x512 : Shape := ⟨3, ![64, 512, 512]⟩
abbrev S8x4096x2x128 : Shape := ⟨4, ![8, 4096, 2, 128]⟩

abbrev nBuf : Space → Nat
  | .hbm => 130
  | .vmem => 0
  | .smem => 0
  | _ => 0

abbrev hbmTy0_0 (i : Nat) : BufTy := match i % 128 with
  | 0 => ⟨S32768x1024, .f32⟩
  | 1 => ⟨S1024x2560, .bf16⟩
  | 2 => ⟨S1x384, .f32⟩
  | 3 => ⟨S384x2048, .bf16⟩
  | 4 => ⟨S1x256, .f32⟩
  | 5 => ⟨S256x1024, .bf16⟩
  | 6 => ⟨S512x256, .bf16⟩
  | 7 => ⟨S6x4096x128, .f32⟩
  | 8 => ⟨S1024x2560, .f32⟩
  | 9 => ⟨S32768x2560, .f32⟩
  | 10 => ⟨S32768x384, .f32⟩
  | 11 => ⟨S32768x256, .f32⟩
  | 12 => ⟨S32768x128, .f32⟩
  | 13 => ⟨S32768x128, .f32⟩
  | 14 => ⟨S32768x256, .f32⟩
  | 15 => ⟨S32768x256, .f32⟩
  | 16 => ⟨S32768x256, .f32⟩
  | 17 => ⟨S32768x256, .f32⟩
  | 18 => ⟨S32768x256, .f32⟩
  | 19 => ⟨S32768x128, .f32⟩
  | 20 => ⟨S32768x128, .f32⟩
  | 21 => ⟨S32768x128, .f32⟩
  | 22 => ⟨S32768x384, .f32⟩
  | 23 => ⟨S_, .f32⟩
  | 24 => ⟨S32768, .f32⟩
  | 25 => ⟨S32768x1, .f32⟩
  | 26 => ⟨S_, .f32⟩
  | 27 => ⟨S32768x1, .f32⟩
  | 28 => ⟨S32768x1, .f32⟩
  | 29 => ⟨S_, .f32⟩
  | 30 => ⟨S32768x1, .f32⟩
  | 31 => ⟨S32768x1, .f32⟩
  | 32 => ⟨S32768x1, .f32⟩
  | 33 => ⟨S32768x384, .f32⟩
  | 34 => ⟨S32768x384, .f32⟩
  | 35 => ⟨S32768x384, .f32⟩
  | 36 => ⟨S32768x384, .f32⟩
  | 37 => ⟨S384x2048, .f32⟩
  | 38 => ⟨S32768x2048, .f32⟩
  | 39 => ⟨S32768x1024, .f32⟩
  | 40 => ⟨S8x4096x8x128, .f32⟩
  | 41 => ⟨S32768x1024, .f32⟩
  | 42 => ⟨S8x4096x8x128, .f32⟩
  | 43 => ⟨S1x4096x128, .f32⟩
  | 44 => ⟨S4096x128, .f32⟩
  | 45 => ⟨S1x4096x128, .f32⟩
  | 46 => ⟨S4096x128, .f32⟩
  | 47 => ⟨S1x4096x1x128, .f32⟩
  | 48 => ⟨S8x4096x8x128, .f32⟩
  | 49 => ⟨S8x4096x8x128, .f32⟩
  | 50 => ⟨S1x4096x1x128, .f32⟩
  | 51 => ⟨S8x4096x8x128, .f32⟩
  | 52 => ⟨S8x4096x8x128, .f32⟩
  | 53 => ⟨S8x4096x8x128, .f32⟩
  | 54 => ⟨S32768x256, .f32⟩
  | 55 => ⟨S_, .f32⟩
  | 56 => ⟨S32768, .f32⟩
  | 57 => ⟨S32768x1, .f32⟩
  | 58 => ⟨S_, .f32⟩
  | 59 => ⟨S32768x1, .f32⟩
  | 60 => ⟨S32768x1, .f32⟩
  | 61 => ⟨S_, .f32⟩
  | 62 => ⟨S32768x1, .f32⟩
  | 63 => ⟨S32768x1, .f32⟩
  | 64 => ⟨S32768x1, .f32⟩
  | 65 => ⟨S32768x256, .f32⟩
  | 66 => ⟨S32768x256, .f32⟩
  | 67 => ⟨S32768x256, .f32⟩
  | 68 => ⟨S32768x256, .f32⟩
  | 69 => ⟨S8x4096x1x128, .f32⟩
  | 70 => ⟨S8x4096x1x128, .f32⟩
  | 71 => ⟨S1x4096x128, .f32⟩
  | 72 => ⟨S4096x128, .f32⟩
  | 73 => ⟨S1x4096x128, .f32⟩
  | 74 => ⟨S4096x128, .f32⟩
  | 75 => ⟨S1x4096x1x128, .f32⟩
  | 76 => ⟨S8x4096x1x128, .f32⟩
  | 77 => ⟨S8x4096x1x128, .f32⟩
  | 78 => ⟨S1x4096x1x128, .f32⟩
  | 79 => ⟨S8x4096x1x128, .f32⟩
  | 80 => ⟨S8x4096x1x128, .f32⟩
  | 81 => ⟨S8x4096x1x128, .f32⟩
  | 82 => ⟨S256x1024, .f32⟩
  | 83 => ⟨S32768x1024, .f32⟩
  | 84 => ⟨S8x4096x8x128, .f32⟩
  | 85 => ⟨S8x4096x8x128, .f32⟩
  | 86 => ⟨S8x4096x8x128, .f32⟩
  | 87 => ⟨S512x256, .f32⟩
  | 88 => ⟨S64x512x256, .f32⟩
  | 89 => ⟨S64x512x512, .f32⟩
  | 90 => ⟨S64x512x512, .f32⟩
  | 91 => ⟨S8x4096x2x128, .f32⟩
  | 92 => ⟨S8x4096x2x128, .f32⟩
  | 93 => ⟨S1x4096x128, .f32⟩
  | 94 => ⟨S4096x128, .f32⟩
  | 95 => ⟨S1x4096x128, .f32⟩
  | 96 => ⟨S4096x128, .f32⟩
  | 97 => ⟨S1x4096x1x128, .f32⟩
  | 98 => ⟨S8x4096x2x128, .f32⟩
  | 99 => ⟨S8x4096x2x128, .f32⟩
  | 100 => ⟨S1x4096x1x128, .f32⟩
  | 101 => ⟨S8x4096x2x128, .f32⟩
  | 102 => ⟨S8x4096x2x128, .f32⟩
  | 103 => ⟨S8x4096x2x128, .f32⟩
  | 104 => ⟨S8x4096x1x128, .f32⟩
  | 105 => ⟨S8x4096x1x128, .f32⟩
  | 106 => ⟨S1x4096x128, .f32⟩
  | 107 => ⟨S4096x128, .f32⟩
  | 108 => ⟨S1x4096x128, .f32⟩
  | 109 => ⟨S4096x128, .f32⟩
  | 110 => ⟨S1x4096x1x128, .f32⟩
  | 111 => ⟨S8x4096x1x128, .f32⟩
  | 112 => ⟨S8x4096x1x128, .f32⟩
  | 113 => ⟨S1x4096x1x128, .f32⟩
  | 114 => ⟨S8x4096x1x128, .f32⟩
  | 115 => ⟨S8x4096x1x128, .f32⟩
  | 116 => ⟨S8x4096x1x128, .f32⟩
  | 117 => ⟨S32768x1024, .f32⟩
  | 118 => ⟨S32768x1024, .bf16⟩
  | 119 => ⟨S32768x1024, .f32⟩
  | 120 => ⟨S32768x1024, .bf16⟩
  | 121 => ⟨S64x512x512, .bf16⟩
  | 122 => ⟨S32768x256, .bf16⟩
  | 123 => ⟨S32768x256, .bf16⟩
  | 124 => ⟨S32768x256, .bf16⟩
  | 125 => ⟨S32768x256, .f32⟩
  | 126 => ⟨S32768x256, .bf16⟩
  | 127 => ⟨S32768x128, .f32⟩
  | _ => ⟨S32768x1024, .f32⟩

abbrev hbmTy0_1 (i : Nat) : BufTy := match i % 128 with
  | 0 => ⟨S32768x128, .bf16⟩
  | 1 => ⟨S32768x128, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_cst_3 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩

abbrev nD : Nat := 1
abbrev τ : Topo := Topo.v7x

variable {F : FTy → Type} [FloatOps F]
-- ==== Kernel3.lean ====
abbrev S32768x256 : Shape := ⟨2, ![32768, 256]⟩
abbrev S4x256x768 : Shape := ⟨3, ![4, 256, 768]⟩
abbrev S256x256 : Shape := ⟨2, ![256, 256]⟩
abbrev S768x256 : Shape := ⟨2, ![768, 256]⟩
abbrev S1x768 : Shape := ⟨2, ![1, 768]⟩
abbrev S1x128 : Shape := ⟨2, ![1, 128]⟩
abbrev S256x128 : Shape := ⟨2, ![256, 128]⟩
abbrev S768x128 : Shape := ⟨2, ![768, 128]⟩
abbrev S256x768 : Shape := ⟨2, ![256, 768]⟩
abbrev S1x256x768 : Shape := ⟨3, ![1, 256, 768]⟩
abbrev S256 : Shape := ⟨1, ![256]⟩
abbrev S256x1 : Shape := ⟨2, ![256, 1]⟩

abbrev nBuf : Space → Nat
  | .hbm => 5
  | .vmem => 17
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x256, .bf16⟩
  | .hbm, ⟨3, _⟩ => ⟨S4x256x768, .f32⟩
  | .hbm, ⟨4, _⟩ => ⟨S32768x256, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S4x256x768, .f32⟩
  | .local _ .vmem, ⟨15, _⟩ => ⟨S256x256, .bf16⟩
  | .local _ .vmem, ⟨16, _⟩ => ⟨S256x256, .bf16⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S32768x256 : Shape := ⟨2, ![32768, 256]⟩
abbrev S4x256x768 : Shape := ⟨3, ![4, 256, 768]⟩
abbrev S8x16x256x4x64 : Shape := ⟨5, ![8, 16, 256, 4, 64]⟩
abbrev S_ : Shape := ⟨0, ![]⟩
abbrev S8x18x256x4x64 : Shape := ⟨5, ![8, 18, 256, 4, 64]⟩
abbrev S8x16x768x4x64 : Shape := ⟨5, ![8, 16, 768, 4, 64]⟩
abbrev S8x4x16x256x768 : Shape := ⟨5, ![8, 4, 16, 256, 768]⟩
abbrev S16 : Shape := ⟨1, ![16]⟩
abbrev S16x1 : Shape := ⟨2, ![16, 1]⟩
abbrev S768 : Shape := ⟨1, ![768]⟩
abbrev S1x768 : Shape := ⟨2, ![1, 768]⟩
abbrev S16x768 : Shape := ⟨2, ![16, 768]⟩
abbrev S1x1x16x1x768 : Shape := ⟨5, ![1, 1, 16, 1, 768]⟩
abbrev S1x4x1x256x768 : Shape := ⟨5, ![1, 4, 1, 256, 768]⟩
abbrev S8x4x16x256 : Shape := ⟨4, ![8, 4, 16, 256]⟩
abbrev S8x4x16x256x1 : Shape := ⟨5, ![8, 4, 16, 256, 1]⟩
abbrev S8x16x4x64x256 : Shape := ⟨5, ![8, 16, 4, 64, 256]⟩

abbrev nBuf : Space → Nat
  | .hbm => 67
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x256, .bf16⟩
  | .hbm, ⟨3, _⟩ => ⟨S4x256x768, .f32⟩
  | .hbm, ⟨4, _⟩ => ⟨S32768x256, .f32⟩
  | .hbm, ⟨5, _⟩ => ⟨S8x16x256x4x64, .f32⟩
  | .hbm, ⟨6, _⟩ => ⟨S32768x256, .f32⟩
  | .hbm, ⟨7, _⟩ => ⟨S8x16x256x4x64, .f32⟩
  | .hbm, ⟨8, _⟩ => ⟨S_, .i32⟩
  | .hbm, ⟨9, _⟩ => ⟨S_, .f32⟩
  | .hbm, ⟨10, _⟩ => ⟨S8x18x256x4x64, .f32⟩
  | .hbm, ⟨11, _⟩ => ⟨S8x16x256x4x64, .f32⟩
  | .hbm, ⟨12, _⟩ => ⟨S8x16x256x4x64, .f32⟩
  | .hbm, ⟨13, _⟩ => ⟨S8x16x256x4x64, .f32⟩
  | .hbm, ⟨14, _⟩ => ⟨S8x16x768x4x64, .f32⟩
  | .hbm, ⟨15, _⟩ => ⟨S8x4x16x256x768, .f32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S768, .i32⟩
  | .hbm, ⟨22, _⟩ => ⟨S1x768, .i32⟩
  | .hbm, ⟨23, _⟩ => ⟨S16x768, .i32⟩
  | .hbm, ⟨24, _⟩ => ⟨S16x768, .i32⟩
  | .hbm, ⟨25, _⟩ => ⟨S16x768, .i32⟩
  | .hbm, ⟨26, _⟩ => ⟨S_, .i32⟩
  | .hbm, ⟨27, _⟩ => ⟨S16x768, .i32⟩
  | .hbm, ⟨28, _⟩ => ⟨S16x768, .i1⟩
  | .hbm, ⟨29, _⟩ => ⟨S1x1x16x1x768, .i1⟩
  | .hbm, ⟨30, _⟩ => ⟨S1x4x1x256x768, .f32⟩
  | .hbm, ⟨31, _⟩ => ⟨S8x4x16x256x768, .f32⟩
  | .hbm, ⟨32, _⟩ => ⟨S8x4x16x256x768, .f32⟩
  | .hbm, ⟨33, _⟩ => ⟨S_, .f32⟩
  | .hbm, ⟨34, _⟩ => ⟨S_, .f32⟩
  | .hbm, ⟨35, _⟩ => ⟨S8x4x16x256x768, .i1⟩
  | .hbm, ⟨36, _⟩ => ⟨S8x4x16x256x768, .f32⟩
  | .hbm, ⟨37, _⟩ => ⟨S8x4x16x256x768, .f32⟩
  | .hbm, ⟨38, _⟩ => ⟨S_, .f32⟩
  | .hbm, ⟨39, _⟩ => ⟨S8x4x16x256, .f32⟩
  | .hbm, ⟨40, _⟩ => ⟨S_, .f32⟩
  | .hbm, ⟨41, _⟩ => ⟨S8x4x16x256, .f32⟩
  | .hbm, ⟨42, _⟩ => ⟨S8x4x16x256, .f32⟩
  | .hbm, ⟨43, _⟩ => ⟨S8x4x16x256x1, .f32⟩
  | .hbm, ⟨44, _⟩ => ⟨S8x4x16x256x768, .f32⟩
  | .hbm, ⟨45, _⟩ => ⟨S8x4x16x256x768, .f32⟩
  | .hbm, ⟨46, _⟩ => ⟨S8x4x16x256x768, .f32⟩
  | .hbm, ⟨47, _⟩ => ⟨S_, .f32⟩
  | .hbm, ⟨48, _⟩ => ⟨S8x4x16x256, .f32⟩
  | .hbm, ⟨49, _⟩ => ⟨S8x4x16x256x1, .f32⟩
  | .hbm, ⟨50, _⟩ => ⟨S8x4x16x256x768, .f32⟩
  | .hbm, ⟨51, _⟩ => ⟨S8x4x16x256x768, .f32⟩
  | .hbm, ⟨52, _⟩ => ⟨S8x4x16x256x768, .bf16⟩
  | .hbm, ⟨53, _⟩ => ⟨S8x4x16x256x768, .f32⟩
  | .hbm, ⟨54, _⟩ => ⟨S32768x256, .f32⟩
  | .hbm, ⟨55, _⟩ => ⟨S8x16x256x4x64, .f32⟩
  | .hbm, ⟨56, _⟩ => ⟨S_, .i32⟩
  | .hbm, ⟨57, _⟩ => ⟨S_, .f32⟩
  | .hbm, ⟨58, _⟩ => ⟨S8x18x256x4x64, .f32⟩
  | .hbm, ⟨59, _⟩ => ⟨S8x16x256x4x64, .f32⟩
  | .hbm, ⟨60, _⟩ => ⟨S8x16x256x4x64, .f32⟩
  | .hbm, ⟨61, _⟩ => ⟨S8x16x256x4x64, .f32⟩
  | .hbm, ⟨62, _⟩ => ⟨S8x16x768x4x64, .f32⟩
  | .hbm, ⟨63, _⟩ => ⟨S8x16x4x64x256, .f32⟩
  | .hbm, ⟨64, _⟩ => ⟨S8x16x256x4x64, .f32⟩
  | .hbm, ⟨65, _⟩ => ⟨S32768x256, .f32⟩
  | .hbm, ⟨66, _⟩ => ⟨S32768x256, .bf16⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_call2_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel4.lean ====
abbrev S32768x256 : Shape := ⟨2, ![32768, 256]⟩
abbrev S32768x128 : Shape := ⟨2, ![32768, 128]⟩
abbrev S4 : Shape := ⟨1, ![4]⟩
abbrev S256x256 : Shape := ⟨2, ![256, 256]⟩
abbrev S256x128 : Shape := ⟨2, ![256, 128]⟩
abbrev S128x128 : Shape := ⟨2, ![128, 128]⟩
abbrev S384x128 : Shape := ⟨2, ![384, 128]⟩
abbrev S256x384 : Shape := ⟨2, ![256, 384]⟩
abbrev S1x128 : Shape := ⟨2, ![1, 128]⟩
abbrev S1 : Shape := ⟨1, ![1]⟩
abbrev S256 : Shape := ⟨1, ![256]⟩
abbrev S256x1 : Shape := ⟨2, ![256, 1]⟩

abbrev nBuf : Space → Nat
  | .hbm => 5
  | .vmem => 12
  | .smem => 1
  | _ => 0

abbrev bufTy : (tb : Table) → Fin (tcTables nBuf tb) → BufTy
  | .hbm, ⟨0, _⟩ => ⟨S32768x256, .bf16⟩
  | .hbm, ⟨1, _⟩ => ⟨S32768x128, .bf16⟩
  | .hbm, ⟨2, _⟩ => ⟨S32768x128, .bf16⟩
  | .hbm, ⟨3, _⟩ => ⟨S4, .f32⟩
  | .hbm, ⟨4, _⟩ => ⟨S32768x256, .bf16⟩
  | .local _ .vmem, ⟨0, _⟩ => ⟨S256x256, .bf16⟩
  | .local _ .vmem, ⟨1, _⟩ => ⟨S256x256, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x256, .bf16⟩
  | .local _ .vmem, ⟨11, _⟩ => ⟨S256x256, .bf16⟩
  | .local _ .smem, ⟨0, _⟩ => ⟨S4, .f32⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S32768x256 : Shape := ⟨2, ![32768, 256]⟩
abbrev S32768x128 : Shape := ⟨2, ![32768, 128]⟩
abbrev S4 : Shape := ⟨1, ![4]⟩
abbrev S512x64x2x2x64 : Shape := ⟨5, ![512, 64, 2, 2, 64]⟩
abbrev S8x64x64x2x64 : Shape := ⟨5, ![8, 64, 64, 2, 64]⟩
abbrev S_ : Shape := ⟨0, ![]⟩
abbrev S8x66x64x2x64 : Shape := ⟨5, ![8, 66, 64, 2, 64]⟩
abbrev S8x64x192x2x64 : Shape := ⟨5, ![8, 64, 192, 2, 64]⟩
abbrev S512x192x2x64 : Shape := ⟨4, ![512, 192, 2, 64]⟩
abbrev S512x2x192x64x2 : Shape := ⟨5, ![512, 2, 192, 64, 2]⟩
abbrev S512x2x2x64x192 : Shape := ⟨5, ![512, 2, 2, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S1x64x1x192 : Shape := ⟨4, ![1, 64, 1, 192]⟩
abbrev S8x64x1x192 : Shape := ⟨4, ![8, 64, 1, 192]⟩
abbrev S512x192 : Shape := ⟨2, ![512, 192]⟩
abbrev S512x1x1x1x192 : Shape := ⟨5, ![512, 1, 1, 1, 192]⟩
abbrev S2x2 : Shape := ⟨2, ![2, 2]⟩
abbrev S1x2x2x1x1 : Shape := ⟨5, ![1, 2, 2, 1, 1]⟩
abbrev S512x2x2x64x1 : Shape := ⟨5, ![512, 2, 2, 64, 1]⟩
abbrev S512x2x2x64x193 : Shape := ⟨5, ![512, 2, 2, 64, 193]⟩
abbrev S512x2x2x64 : Shape := ⟨4, ![512, 2, 2, 64]⟩
abbrev S512x2x64x2x64 : Shape := ⟨5, ![512, 2, 64, 2, 64]⟩

abbrev nBuf : Space → Nat
  | .hbm => 75
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S32768x128, .bf16⟩
  | .hbm, ⟨2, _⟩ => ⟨S32768x128, .bf16⟩
  | .hbm, ⟨3, _⟩ => ⟨S4, .f32⟩
  | .hbm, ⟨4, _⟩ => ⟨S32768x256, .f32⟩
  | .hbm, ⟨5, _⟩ => ⟨S512x64x2x2x64, .f32⟩
  | .hbm, ⟨6, _⟩ => ⟨S32768x128, .f32⟩
  | .hbm, ⟨7, _⟩ => ⟨S8x64x64x2x64, .f32⟩
  | .hbm, ⟨8, _⟩ => ⟨S_, .i32⟩
  | .hbm, ⟨9, _⟩ => ⟨S_, .f32⟩
  | .hbm, ⟨10, _⟩ => ⟨S8x66x64x2x64, .f32⟩
  | .hbm, ⟨11, _⟩ => ⟨S8x64x64x2x64, .f32⟩
  | .hbm, ⟨12, _⟩ => ⟨S8x64x64x2x64, .f32⟩
  | .hbm, ⟨13, _⟩ => ⟨S8x64x64x2x64, .f32⟩
  | .hbm, ⟨14, _⟩ => ⟨S8x64x192x2x64, .f32⟩
  | .hbm, ⟨15, _⟩ => ⟨S512x192x2x64, .f32⟩
  | .hbm, ⟨16, _⟩ => ⟨S512x2x192x64x2, .f32⟩
  | .hbm, ⟨17, _⟩ => ⟨S512x2x2x64x192, .f32⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S192, .i32⟩
  | .hbm, ⟨24, _⟩ => ⟨S1x192, .i32⟩
  | .hbm, ⟨25, _⟩ => ⟨S64x192, .i32⟩
  | .hbm, ⟨26, _⟩ => ⟨S64x192, .i32⟩
  | .hbm, ⟨27, _⟩ => ⟨S64x192, .i32⟩
  | .hbm, ⟨28, _⟩ => ⟨S_, .i32⟩
  | .hbm, ⟨29, _⟩ => ⟨S64x192, .i32⟩
  | .hbm, ⟨30, _⟩ => ⟨S64x192, .i1⟩
  | .hbm, ⟨31, _⟩ => ⟨S1x64x1x192, .i1⟩
  | .hbm, ⟨32, _⟩ => ⟨S8x64x1x192, .i1⟩
  | .hbm, ⟨33, _⟩ => ⟨S512x192, .i1⟩
  | .hbm, ⟨34, _⟩ => ⟨S512x1x1x1x192, .i1⟩
  | .hbm, ⟨35, _⟩ => ⟨S_, .f32⟩
  | .hbm, ⟨36, _⟩ => ⟨S_, .f32⟩
  | .hbm, ⟨37, _⟩ => ⟨S512x2x2x64x192, .i1⟩
  | .hbm, ⟨38, _⟩ => ⟨S512x2x2x64x192, .f32⟩
  | .hbm, ⟨39, _⟩ => ⟨S512x2x2x64x192, .f32⟩
  | .hbm, ⟨40, _⟩ => ⟨S2x2, .f32⟩
  | .hbm, ⟨41, _⟩ => ⟨S1x2x2x1x1, .f32⟩
  | .hbm, ⟨42, _⟩ => ⟨S512x2x2x64x1, .f32⟩
  | .hbm, ⟨43, _⟩ => ⟨S512x2x2x64x193, .f32⟩
  | .hbm, ⟨44, _⟩ => ⟨S_, .f32⟩
  | .hbm, ⟨45, _⟩ => ⟨S512x2x2x64, .f32⟩
  | .hbm, ⟨46, _⟩ => ⟨S_, .f32⟩
  | .hbm, ⟨47, _⟩ => ⟨S512x2x2x64, .f32⟩
  | .hbm, ⟨48, _⟩ => ⟨S512x2x2x64, .f32⟩
  | .hbm, ⟨49, _⟩ => ⟨S512x2x2x64x1, .f32⟩
  | .hbm, ⟨50, _⟩ => ⟨S512x2x2x64x193, .f32⟩
  | .hbm, ⟨51, _⟩ => ⟨S512x2x2x64x193, .f32⟩
  | .hbm, ⟨52, _⟩ => ⟨S512x2x2x64x193, .f32⟩
  | .hbm, ⟨53, _⟩ => ⟨S_, .f32⟩
  | .hbm, ⟨54, _⟩ => ⟨S512x2x2x64, .f32⟩
  | .hbm, ⟨55, _⟩ => ⟨S512x2x2x64x1, .f32⟩
  | .hbm, ⟨56, _⟩ => ⟨S512x2x2x64x193, .f32⟩
  | .hbm, ⟨57, _⟩ => ⟨S512x2x2x64x193, .f32⟩
  | .hbm, ⟨58, _⟩ => ⟨S512x2x2x64x192, .f32⟩
  | .hbm, ⟨59, _⟩ => ⟨S512x2x2x64x192, .bf16⟩
  | .hbm, ⟨60, _⟩ => ⟨S512x2x2x64x192, .f32⟩
  | .hbm, ⟨61, _⟩ => ⟨S32768x128, .f32⟩
  | .hbm, ⟨62, _⟩ => ⟨S8x64x64x2x64, .f32⟩
  | .hbm, ⟨63, _⟩ => ⟨S_, .i32⟩
  | .hbm, ⟨64, _⟩ => ⟨S_, .f32⟩
  | .hbm, ⟨65, _⟩ => ⟨S8x66x64x2x64, .f32⟩
  | .hbm, ⟨66, _⟩ => ⟨S8x64x64x2x64, .f32⟩
  | .hbm, ⟨67, _⟩ => ⟨S8x64x64x2x64, .f32⟩
  | .hbm, ⟨68, _⟩ => ⟨S8x64x64x2x64, .f32⟩
  | .hbm, ⟨69, _⟩ => ⟨S8x64x192x2x64, .f32⟩
  | .hbm, ⟨70, _⟩ => ⟨S512x192x2x64, .f32⟩
  | .hbm, ⟨71, _⟩ => ⟨S512x2x64x2x64, .f32⟩
  | .hbm, ⟨72, _⟩ => ⟨S512x64x2x2x64, .f32⟩
  | .hbm, ⟨73, _⟩ => ⟨S32768x256, .f32⟩
  | .hbm, ⟨74, _⟩ => ⟨S32768x256, .bf16⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_5 : Ref sig .tc := ⟨.hbm, 63, rfl⟩
abbrev main_call2_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Kernel5.lean ====
abbrev S4x320 : Shape := ⟨2, ![4, 320]⟩
abbrev S1024 : Shape := ⟨1, ![1024]⟩
abbrev S_ : Shape := ⟨0, ![]⟩
abbrev S1024x1 : Shape := ⟨2, ![1024, 1]⟩
abbrev S4x1024 : Shape := ⟨2, ![4, 1024]⟩
abbrev S4x1x1024 : Shape := ⟨3, ![4, 1, 1024]⟩
abbrev S4x256x768 : Shape := ⟨3, ![4, 256, 768]⟩
abbrev S1x1x1024 : Shape := ⟨3, ![1, 1, 1024]⟩
abbrev S1x256x768 : Shape := ⟨3, ![1, 256, 768]⟩
abbrev S1x1024 : Shape := ⟨2, ![1, 1024]⟩
abbrev S256x1024 : Shape := ⟨2, ![256, 1024]⟩
abbrev S256x768 : Shape := ⟨2, ![256, 768]⟩

abbrev nBuf : Space → Nat
  | .hbm => 27
  | .vmem => 4
  | .smem => 0
  | _ => 0

abbrev bufTy : (tb : Table) → Fin (tcTables nBuf tb) → BufTy
  | .hbm, ⟨0, _⟩ => ⟨S4x320, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S4x1024, .f32⟩
  | .hbm, ⟨25, _⟩ => ⟨S4x1x1024, .f32⟩
  | .hbm, ⟨26, _⟩ => ⟨S4x256x768, .f32⟩
  | .local _ .vmem, ⟨0, _⟩ => ⟨S1x1x1024, .f32⟩
  | .local _ .vmem, ⟨1, _⟩ => ⟨S1x1x1024, .f32⟩
  | .local _ .vmem, ⟨2, _⟩ => ⟨S1x256x768, .f32⟩
  | .local _ .vmem, ⟨3, _⟩ => ⟨S1x256x768, .f32⟩
  | _, _ => ⟨S4x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_c_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_c_3 : Ref sig .tc := ⟨.hbm, 16, rfl⟩
abbrev main_v6 : Ref sig .tc := ⟨.hbm, 17, rfl⟩
abbrev main_v7 : Ref sig .tc := ⟨.hbm, 18, rfl⟩
abbrev main_c_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S4x320 : Shape := ⟨2, ![4, 320]⟩
abbrev S256 : Shape := ⟨1, ![256]⟩
abbrev S256x1 : Shape := ⟨2, ![256, 1]⟩
abbrev S_ : Shape := ⟨0, ![]⟩
abbrev S768 : Shape := ⟨1, ![768]⟩
abbrev S1x768 : Shape := ⟨2, ![1, 768]⟩
abbrev S256x768 : Shape := ⟨2, ![256, 768]⟩
abbrev S256x768x1 : Shape := ⟨3, ![256, 768, 1]⟩
abbrev S4x256x768 : Shape := ⟨3, ![4, 256, 768]⟩
abbrev S1x256x768 : Shape := ⟨3, ![1, 256, 768]⟩

abbrev nBuf : Space → Nat
  | .hbm => 119
  | .vmem => 0
  | .smem => 0
  | _ => 0

abbrev bufTy : (tb : Table) → Fin (tcTables nBuf tb) → BufTy
  | .hbm, ⟨0, _⟩ => ⟨S4x320, .f32⟩
  | .hbm, ⟨1, _⟩ => ⟨S256, .i32⟩
  | .hbm, ⟨2, _⟩ => ⟨S256x1, .i32⟩
  | .hbm, ⟨3, _⟩ => ⟨S_, .i32⟩
  | .hbm, ⟨4, _⟩ => ⟨S256x1, .i32⟩
  | .hbm, ⟨5, _⟩ => ⟨S256x1, .i32⟩
  | .hbm, ⟨6, _⟩ => ⟨S768, .i32⟩
  | .hbm, ⟨7, _⟩ => ⟨S1x768, .i32⟩
  | .hbm, ⟨8, _⟩ => ⟨S256x768, .i32⟩
  | .hbm, ⟨9, _⟩ => ⟨S256x768, .i32⟩
  | .hbm, ⟨10, _⟩ => ⟨S256x768, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S256x768, .i32⟩
  | .hbm, ⟨15, _⟩ => ⟨S256x768, .i32⟩
  | .hbm, ⟨16, _⟩ => ⟨S_, .i32⟩
  | .hbm, ⟨17, _⟩ => ⟨S256x768, .i32⟩
  | .hbm, ⟨18, _⟩ => ⟨S256x768, .i32⟩
  | .hbm, ⟨19, _⟩ => ⟨S_, .i32⟩
  | .hbm, ⟨20, _⟩ => ⟨S256x768, .i32⟩
  | .hbm, ⟨21, _⟩ => ⟨S256x768, .i32⟩
  | .hbm, ⟨22, _⟩ => ⟨S_, .i32⟩
  | .hbm, ⟨23, _⟩ => ⟨S256x768, .i32⟩
  | .hbm, ⟨24, _⟩ => ⟨S256x768, .i1⟩
  | .hbm, ⟨25, _⟩ => ⟨S_, .i32⟩
  | .hbm, ⟨26, _⟩ => ⟨S256x768, .i32⟩
  | .hbm, ⟨27, _⟩ => ⟨S256x768, .i32⟩
  | .hbm, ⟨28, _⟩ => ⟨S256x768, .i32⟩
  | .hbm, ⟨29, _⟩ => ⟨S256x768x1, .i32⟩
  | .hbm, ⟨30, _⟩ => ⟨S4x256x768, .f32⟩
  | .hbm, ⟨31, _⟩ => ⟨S_, .i32⟩
  | .hbm, ⟨32, _⟩ => ⟨S_, .i32⟩
  | .hbm, ⟨33, _⟩ => ⟨S1x768, .i32⟩
  | .hbm, ⟨34, _⟩ => ⟨S1x768, .i32⟩
  | .hbm, ⟨35, _⟩ => ⟨S1x768, .i32⟩
  | .hbm, ⟨36, _⟩ => ⟨S_, .i32⟩
  | .hbm, ⟨37, _⟩ => ⟨S1x768, .i32⟩
  | .hbm, ⟨38, _⟩ => ⟨S1x768, .i1⟩
  | .hbm, ⟨39, _⟩ => ⟨S1x768, .i32⟩
  | .hbm, ⟨40, _⟩ => ⟨S1x768, .i32⟩
  | .hbm, ⟨41, _⟩ => ⟨S_, .i32⟩
  | .hbm, ⟨42, _⟩ => ⟨S1x768, .i32⟩
  | .hbm, ⟨43, _⟩ => ⟨S1x768, .i1⟩
  | .hbm, ⟨44, _⟩ => ⟨S1x768, .i1⟩
  | .hbm, ⟨45, _⟩ => ⟨S_, .i32⟩
  | .hbm, ⟨46, _⟩ => ⟨S1x768, .i32⟩
  | .hbm, ⟨47, _⟩ => ⟨S1x768, .i32⟩
  | .hbm, ⟨48, _⟩ => ⟨S1x768, .i32⟩
  | .hbm, ⟨49, _⟩ => ⟨S_, .i32⟩
  | .hbm, ⟨50, _⟩ => ⟨S_, .i32⟩
  | .hbm, ⟨51, _⟩ => ⟨S256x1, .i32⟩
  | .hbm, ⟨52, _⟩ => ⟨S256x1, .i32⟩
  | .hbm, ⟨53, _⟩ => ⟨S256x1, .i32⟩
  | .hbm, ⟨54, _⟩ => ⟨S_, .i32⟩
  | .hbm, ⟨55, _⟩ => ⟨S256x1, .i32⟩
  | .hbm, ⟨56, _⟩ => ⟨S256x1, .i1⟩
  | .hbm, ⟨57, _⟩ => ⟨S256x1, .i32⟩
  | .hbm, ⟨58, _⟩ => ⟨S256x1, .i32⟩
  | .hbm, ⟨59, _⟩ => ⟨S_, .i32⟩
  | .hbm, ⟨60, _⟩ => ⟨S256x1, .i32⟩
  | .hbm, ⟨61, _⟩ => ⟨S256x1, .i1⟩
  | .hbm, ⟨62, _⟩ => ⟨S256x1, .i1⟩
  | .hbm, ⟨63, _⟩ => ⟨S_, .i32⟩
  | .hbm, ⟨64, _⟩ => ⟨S256x1, .i32⟩
  | .hbm, ⟨65, _⟩ => ⟨S256x1, .i32⟩
  | .hbm, ⟨66, _⟩ => ⟨S256x1, .i32⟩
  | .hbm, ⟨67, _⟩ => ⟨S256x768, .i32⟩
  | .hbm, ⟨68, _⟩ => ⟨S256x768, .i32⟩
  | .hbm, ⟨69, _⟩ => ⟨S256x768, .i1⟩
  | .hbm, ⟨70, _⟩ => ⟨S_, .i32⟩
  | .hbm, ⟨71, _⟩ => ⟨S_, .i32⟩
  | .hbm, ⟨72, _⟩ => ⟨S256x1, .i32⟩
  | .hbm, ⟨73, _⟩ => ⟨S256x1, .i32⟩
  | .hbm, ⟨74, _⟩ => ⟨S256x1, .i32⟩
  | .hbm, ⟨75, _⟩ => ⟨S_, .i32⟩
  | .hbm, ⟨76, _⟩ => ⟨S256x1, .i32⟩
  | .hbm, ⟨77, _⟩ => ⟨S256x1, .i1⟩
  | .hbm, ⟨78, _⟩ => ⟨S256x1, .i32⟩
  | .hbm, ⟨79, _⟩ => ⟨S256x1, .i32⟩
  | .hbm, ⟨80, _⟩ => ⟨S_, .i32⟩
  | .hbm, ⟨81, _⟩ => ⟨S256x1, .i32⟩
  | .hbm, ⟨82, _⟩ => ⟨S256x1, .i1⟩
  | .hbm, ⟨83, _⟩ => ⟨S256x1, .i1⟩
  | .hbm, ⟨84, _⟩ => ⟨S_, .i32⟩
  | .hbm, ⟨85, _⟩ => ⟨S256x1, .i32⟩
  | .hbm, ⟨86, _⟩ => ⟨S256x1, .i32⟩
  | .hbm, ⟨87, _⟩ => ⟨S256x1, .i32⟩
  | .hbm, ⟨88, _⟩ => ⟨S_, .i32⟩
  | .hbm, ⟨89, _⟩ => ⟨S_, .i32⟩
  | .hbm, ⟨90, _⟩ => ⟨S1x768, .i32⟩
  | .hbm, ⟨91, _⟩ => ⟨S1x768, .i32⟩
  | .hbm, ⟨92, _⟩ => ⟨S1x768, .i32⟩
  | .hbm, ⟨93, _⟩ => ⟨S_, .i32⟩
  | .hbm, ⟨94, _⟩ => ⟨S1x768, .i32⟩
  | .hbm, ⟨95, _⟩ => ⟨S1x768, .i1⟩
  | .hbm, ⟨96, _⟩ => ⟨S1x768, .i32⟩
  | .hbm, ⟨97, _⟩ => ⟨S1x768, .i32⟩
  | .hbm, ⟨98, _⟩ => ⟨S_, .i32⟩
  | .hbm, ⟨99, _⟩ => ⟨S1x768, .i32⟩
  | .hbm, ⟨100, _⟩ => ⟨S1x768, .i1⟩
  | .hbm, ⟨101, _⟩ => ⟨S1x768, .i1⟩
  | .hbm, ⟨102, _⟩ => ⟨S_, .i32⟩
  | .hbm, ⟨103, _⟩ => ⟨S1x768, .i32⟩
  | .hbm, ⟨104, _⟩ => ⟨S1x768, .i32⟩
  | .hbm, ⟨105, _⟩ => ⟨S1x768, .i32⟩
  | .hbm, ⟨106, _⟩ => ⟨S_, .i32⟩
  | .hbm, ⟨107, _⟩ => ⟨S1x768, .i32⟩
  | .hbm, ⟨108, _⟩ => ⟨S1x768, .i32⟩
  | .hbm, ⟨109, _⟩ => ⟨S256x768, .i32⟩
  | .hbm, ⟨110, _⟩ => ⟨S256x768, .i32⟩
  | .hbm, ⟨111, _⟩ => ⟨S256x768, .i1⟩
  | .hbm, ⟨112, _⟩ => ⟨S256x768, .i1⟩
  | .hbm, ⟨113, _⟩ => ⟨S1x256x768, .i1⟩
  | .hbm, ⟨114, _⟩ => ⟨S_, .f32⟩
  | .hbm, ⟨115, _⟩ => ⟨S_, .f32⟩
  | .hbm, ⟨116, _⟩ => ⟨S4x256x768, .i1⟩
  | .hbm, ⟨117, _⟩ => ⟨S4x256x768, .f32⟩
  | .hbm, ⟨118, _⟩ => ⟨S4x256x768, .f32⟩
  | _, _ => ⟨S4x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v19 : Ref sig .tc := ⟨.hbm, 48, rfl⟩
abbrev main_c_6 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_c : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_0 : Ref sig .tc := ⟨.hbm, 63, rfl⟩
abbrev main_call2_v12 : Ref sig .tc := ⟨.hbm, 64, rfl⟩
abbrev main_call2_v13 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_c_7 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_c : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_0 : Ref sig .tc := ⟨.hbm, 84, rfl⟩
abbrev main_call3_v12 : Ref sig .tc := ⟨.hbm, 85, rfl⟩
abbrev main_call3_v13 : Ref sig .tc := ⟨.hbm, 86, rfl⟩
abbrev main_v24 : Ref sig .tc := ⟨.hbm, 87, rfl⟩
abbrev main_c_8 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_c : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_0 : Ref sig .tc := ⟨.hbm, 102, rfl⟩
abbrev main_call4_v12 : Ref sig .tc := ⟨.hbm, 103, rfl⟩
abbrev main_call4_v13 : Ref sig .tc := ⟨.hbm, 104, rfl⟩
abbrev main_v25 : Ref sig .tc := ⟨.hbm, 105, rfl⟩
abbrev main_c_9 : Ref sig .tc := ⟨.hbm, 106, rfl⟩
abbrev main_v26 : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_cst : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v33 : Ref sig .tc := ⟨.hbm, 118, rfl⟩

abbrev nD : Nat := 1
abbrev τ : Topo := Topo.v7x

variable {F : FTy → Type} [FloatOps F]
-- ==== Proof.TripIdeal.lean ====
/- The counted loop over the eight query blocks of `KernelIdeal`: one trip of it, run once at a symbolic
   trip, and the loop's invariant. -/
module

public import proofs.«01_k».proof.Proof.Gen.KernelIdeal.Loops
public import proofs.«01_k».proof.Proof.Gen.KernelIdeal.Frame
public import Idealize.ShloMosaic.Lib.Tactic

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The buffers one trip of the query loop touches: the queries, keys and values it reads, at their
    contents, and the output block it stores into. -/
abbrev QTrip (c : Dev nD) (arg2 : Memref sig .tc .vmem S4096x256 .bf16) (arg3 : Memref sig .tc .vmem S4096x256 .bf16)
    (arg4 : Memref sig .tc .vmem S8x128x512 .bf16) (arg5 : Memref sig .tc .vmem S4096x128 .bf16)
    (X2 : BufTy.Contents (Elt F) arg2.view.ty) (X3 : BufTy.Contents (Elt F) arg3.view.ty)
    (X4 : BufTy.Contents (Elt F) arg4.view.ty) (X5 : BufTy.Contents (Elt F) arg5.view.ty) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5))

/-- One trip of the query loop at an odd query block (two key blocks are left for the last step): the
    pieces it stores, found by running it. -/
@[irreducible] def tripOdd (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (v24 v27 : IVec S512x512 32) (v41 : IVec S512x512 1) (v43 v44 : IVec S512x512 32)
    (X2 : BufTy.Contents (Elt F) arg2.view.ty) (X3 : BufTy.Contents (Elt F) arg3.view.ty) (X4 : BufTy.Contents (Elt F) arg4.view.ty)
    (k : Fin k0_t1_loop.trips) (hk : k0_cond1 k = 1#1) :
    { L : List (View.Piece (Elt F) S4096x128 .bf16) // ∀ (E : Set ℕ) (f : BufTy.Contents (Elt F) arg5.view.ty),
      QTrip (F := F) c arg2 arg3 arg4 arg5 X2 X3 X4 f
      ⊢ wp frame (wpE (defs₀ (F := F)) Variants.none (c : Thread nD τ) none) E
          (k0_t1_body (F := F) i arg2 harg2 arg3 harg3 arg4 harg4 arg5 harg5 v24 v27 v41 v43 v44 k ())
          (fun _ => QTrip (F := F) c arg2 arg3 arg4 arg5 X2 X3 X4 (arg5.view.writes (Elt F) f L)) } := by
  refine ⟨?_, fun E f => ?run⟩
  case run =>
    unfold k0_t1_body
    simp only [k0_part8_eq_skeleton]; unfold k0_part8_skel
    simp only [dif_pos hk]; simp only [k0_part5_eq_skeleton, k0_part6_eq_skeleton]
    iintro ⟨H2, H3, H4, H5⟩
    simp only [Prog.bind_assoc]
    sl_exec
    sl_step
    sl_close

/-- One trip of the query loop at an even query block (one key block is left for the last step): the
    pieces it stores, found by running it. -/
@[irreducible] def tripEven (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (v24 v27 : IVec S512x512 32) (v41 : IVec S512x512 1) (v43 v44 : IVec S512x512 32)
    (X2 : BufTy.Contents (Elt F) arg2.view.ty) (X3 : BufTy.Contents (Elt F) arg3.view.ty) (X4 : BufTy.Contents (Elt F) arg4.view.ty)
    (k : Fin k0_t1_loop.trips) (hk : ¬k0_cond1 k = 1#1) :
    { L : List (View.Piece (Elt F) S4096x128 .bf16) // ∀ (E : Set ℕ) (f : BufTy.Contents (Elt F) arg5.view.ty),
      QTrip (F := F) c arg2 arg3 arg4 arg5 X2 X3 X4 f
      ⊢ wp frame (wpE (defs₀ (F := F)) Variants.none (c : Thread nD τ) none) E
          (k0_t1_body (F := F) i arg2 harg2 arg3 harg3 arg4 harg4 arg5 harg5 v24 v27 v41 v43 v44 k ())
          (fun _ => QTrip (F := F) c arg2 arg3 arg4 arg5 X2 X3 X4 (arg5.view.writes (Elt F) f L)) } := by
  refine ⟨?_, fun E f => ?run⟩
  case run =>
    unfold k0_t1_body
    simp only [k0_part8_eq_skeleton]; unfold k0_part8_skel
    simp only [dif_neg hk]; simp only [k0_part7_eq_skeleton]
    iintro ⟨H2, H3, H4, H5⟩
    simp only [Prog.bind_assoc]
    sl_exec
    sl_step
    sl_close

/-- The pieces trip `k` of the query loop stores. -/
def tripL (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (v24 v27 : IVec S512x512 32) (v41 : IVec S512x512 1) (v43 v44 : IVec S512x512 32)
    (X2 : BufTy.Contents (Elt F) arg2.view.ty) (X3 : BufTy.Contents (Elt F) arg3.view.ty) (X4 : BufTy.Contents (Elt F) arg4.view.ty)
    (k : Fin k0_t1_loop.trips) : List (View.Piece (Elt F) S4096x128 .bf16) :=
  if hk : k0_cond1 k = 1#1 then (tripOdd (F := F) c i arg2 harg2 arg3 harg3 arg4 harg4 arg5 harg5 v24 v27 v41 v43 v44 X2 X3 X4 k hk).1
  else (tripEven (F := F) c i arg2 harg2 arg3 harg3 arg4 harg4 arg5 harg5 v24 v27 v41 v43 v44 X2 X3 X4 k hk).1

/-- One trip of the query loop, at either parity: the output block ends with the trip's pieces written. -/
theorem trip_spec (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (v24 v27 : IVec S512x512 32) (v41 : IVec S512x512 1) (v43 v44 : IVec S512x512 32)
    (X2 : BufTy.Contents (Elt F) arg2.view.ty) (X3 : BufTy.Contents (Elt F) arg3.view.ty) (X4 : BufTy.Contents (Elt F) arg4.view.ty)
    (k : Fin k0_t1_loop.trips) (E : Set ℕ) (f : BufTy.Contents (Elt F) arg5.view.ty) :
    QTrip (F := F) c arg2 arg3 arg4 arg5 X2 X3 X4 f
      ⊢ wp frame (wpE (defs₀ (F := F)) Variants.none (c : Thread nD τ) none) E
          (k0_t1_body (F := F) i arg2 harg2 arg3 harg3 arg4 harg4 arg5 harg5 v24 v27 v41 v43 v44 k ())
          (fun _ => QTrip (F := F) c arg2 arg3 arg4 arg5 X2 X3 X4 (arg5.view.writes (Elt F) f
            (tripL (F := F) c i arg2 harg2 arg3 harg3 arg4 harg4 arg5 harg5 v24 v27 v41 v43 v44 X2 X3 X4 k))) := by
  unfold tripL
  by_cases hk : k0_cond1 k = 1#1
  · rw [dif_pos hk]; exact (tripOdd (F := F) c i arg2 harg2 arg3 harg3 arg4 harg4 arg5 harg5 v24 v27 v41 v43 v44 X2 X3 X4 k hk).2 E f
  · rw [dif_neg hk]; exact (tripEven (F := F) c i arg2 harg2 arg3 harg3 arg4 harg4 arg5 harg5 v24 v27 v41 v43 v44 X2 X3 X4 k hk).2 E f

/-- The pieces stored by the trips before trip `k`, the last trip's first. -/
def pcs (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (v24 v27 : IVec S512x512 32) (v41 : IVec S512x512 1) (v43 v44 : IVec S512x512 32)
    (X2 : BufTy.Contents (Elt F) arg2.view.ty) (X3 : BufTy.Contents (Elt F) arg3.view.ty) (X4 : BufTy.Contents (Elt F) arg4.view.ty) :
    ℕ → List (View.Piece (Elt F) S4096x128 .bf16)
  | 0 => []
  | k + 1 => (if h : k < k0_t1_loop.trips then tripL (F := F) c i arg2 harg2 arg3 harg3 arg4 harg4 arg5 harg5 v24 v27 v41 v43 v44 X2 X3 X4 ⟨k, h⟩ else [])
      ++ pcs c i arg2 harg2 arg3 harg3 arg4 harg4 arg5 harg5 v24 v27 v41 v43 v44 X2 X3 X4 k

theorem pcs_succ (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (v24 v27 : IVec S512x512 32) (v41 : IVec S512x512 1) (v43 v44 : IVec S512x512 32)
    (X2 : BufTy.Contents (Elt F) arg2.view.ty) (X3 : BufTy.Contents (Elt F) arg3.view.ty) (X4 : BufTy.Contents (Elt F) arg4.view.ty)
    (k : Fin k0_t1_loop.trips) :
    pcs (F := F) c i arg2 harg2 arg3 harg3 arg4 harg4 arg5 harg5 v24 v27 v41 v43 v44 X2 X3 X4 (k.val + 1)
      = tripL (F := F) c i arg2 harg2 arg3 harg3 arg4 harg4 arg5 harg5 v24 v27 v41 v43 v44 X2 X3 X4 k ++ pcs (F := F) c i arg2 harg2 arg3 harg3 arg4 harg4 arg5 harg5 v24 v27 v41 v43 v44 X2 X3 X4 k.val := by
  rw [pcs.eq_2]; exact congrArg (· ++ _) (dif_pos k.isLt)

/-- Before trip `k`: the inputs as they were, the output block with the earlier trips' pieces written
    over the contents `G` it was entered with. -/
abbrev qInv (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (v24 v27 : IVec S512x512 32) (v41 : IVec S512x512 1) (v43 v44 : IVec S512x512 32)
    (X2 : BufTy.Contents (Elt F) arg2.view.ty) (X3 : BufTy.Contents (Elt F) arg3.view.ty) (X4 : BufTy.Contents (Elt F) arg4.view.ty)
    (G : BufTy.Contents (Elt F) arg5.view.ty) (k : ℕ) (_ : Unit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} arg5.view.writes (Elt F) G
        (pcs (F := F) c i arg2 harg2 arg3 harg3 arg4 harg4 arg5 harg5 v24 v27 v41 v43 v44 X2 X3 X4 k)))

set_option warn.classDefReducibility false in
/-- The query loop by its invariant. -/
@[sl_loop] def loopInv_k0_t1 (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (v24 v27 : IVec S512x512 32) (v41 : IVec S512x512 1) (v43 v44 : IVec S512x512 32)
    (X2 : BufTy.Contents (Elt F) arg2.view.ty) (X3 : BufTy.Contents (Elt F) arg3.view.ty) (X4 : BufTy.Contents (Elt F) arg4.view.ty)
    (G : BufTy.Contents (Elt F) arg5.view.ty) (E : Set ℕ) :
    LoopInvTy_k0_t1 (F := F) Unit ℕ (UR sig nD τ) ℕ Variants.none c none E i arg2 harg2 arg3 harg3 arg4 harg4 arg5 harg5 v24 v27 v41 v43 v44 where
  inv := qInv (F := F) c i arg2 harg2 arg3 harg3 arg4 harg4 arg5 harg5 v24 v27 v41 v43 v44 X2 X3 X4 G
  step k acc := by
    obtain ⟨⟩ := acc
    iintro ⟨H2, H3, H4, H5⟩
    iapply (wp_wand_r Idealize.ShloMosaic.frame (wpE (defs₀ (F := F)) Variants.none (c : Thread nD τ) none) E)
    isplitl [H2 H3 H4 H5]
    · iapply (trip_spec (F := F) c i arg2 harg2 arg3 harg3 arg4 harg4 arg5 harg5 v24 v27 v41 v43 v44 X2 X3 X4 k E _)
      isplitl [H2]; · iexact H2
      isplitl [H3]; · iexact H3
      isplitl [H4]; · iexact H4
      iexact H5
    · iintro %_ ⟨H2, H3, H4, H5⟩
      isplitl [H2]; · iexact H2
      isplitl [H3]; · iexact H3
      isplitl [H4]; · iexact H4
      rw [pcs_succ, View.writes_append]
      iexact H5

end Cert.Proof.KernelIdeal

end
-- ==== Proof.RunIdeal.lean ====
/- The kernel body of `KernelIdeal` at any grid point, and the whole launch: every run ends, the arguments are
   unchanged, every counter is at zero, and the result array holds what the bodies wrote. -/
module

public import Idealize.ShloMosaic.Lib.Claim
public import proofs.«01_k».proof.Proof.TripIdeal
public import proofs.«01_k».proof.Proof.Gen.KernelIdeal.Launch
public import proofs.«01_k».proof.Proof.Gen.KernelIdeal.Points
public import Idealize.ShloMosaic.Lib.Pipeline.FrameBody
public import Idealize.ShloMosaic.Lib.Quiescent

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The pieces the body stores into the output block, from the contents of the three input blocks. -/
def bodyL (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (x2 : Vec F S4096x256 .bf16) (x3 : Vec F S4096x256 .bf16) (x4 : Vec F S8x128x512 .bf16) : List (View.Piece (Elt F) S4096x128 .bf16) :=
  pcs (F := F) c i arg2 harg2 arg3 harg3 arg4 harg4 arg5 harg5 k0_pay57 k0_pay58 k0_pay59 k0_pay60 k0_pay61
    (harg2.unread x2) (harg3.unread x3) (harg4.unread x4) k0_t1_loop.trips

/-- The body on any whole buffers: the inputs stay, the output block ends with `bodyL`'s pieces. -/
theorem body_run (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (x2 : Vec F S4096x256 .bf16) (x3 : Vec F S4096x256 .bf16) (x4 : Vec F S8x128x512 .bf16)
    (E : Set ℕ) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d)
        ∗ (iprop(owns (c : Thread nD τ) arg2 fullShare x2 ∗ owns (c : Thread nD τ) arg3 fullShare x3 ∗ owns (c : Thread nD τ) arg4 fullShare x4
            ∗ (∃ f, arg5.view.loc (c : Thread nD τ) ↦[arg5.view.set]{fullShare} arg5.view.writes (Elt F) f (bodyL (F := F) c i arg2 harg2 arg3 harg3 arg4 harg4 arg5 harg5 x2 x3 x4))) -∗ K ⟨⟩))
      ⊢ wp frame (wpE (defs₀ (F := F)) Variants.none c none) E (cc0_mla_attention i arg2 harg2 arg3 harg3 arg4 harg4 arg5 harg5) K := by
  simp only [cc0_mla_attention_eq_skeleton]; unfold cc0_mla_attention_skel
  simp only [k0_part9_eq_skeleton]; unfold k0_part9_skel
  unfold owns bodyL
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3; obtain rfl := harg4.eq_unread hf4
  simp only [Prog.bind_assoc]
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; iexact H5

/-- A trip stores one piece: rows `512 k` to `512 k + 511`, every lane. -/
theorem tripL_form (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (v24 v27 : IVec S512x512 32) (v41 : IVec S512x512 1) (v43 v44 : IVec S512x512 32)
    (X2 : BufTy.Contents (Elt F) arg2.view.ty) (X3 : BufTy.Contents (Elt F) arg3.view.ty) (X4 : BufTy.Contents (Elt F) arg4.view.ty)
    (k : Fin k0_t1_loop.trips) :
    ∃ p : Vec F S512x128 .bf16, tripL (F := F) c i arg2 harg2 arg3 harg3 arg4 harg4 arg5 harg5 v24 v27 v41 v43 v44 X2 X3 X4 k
      = [⟨Rect.unit (s := S4096x128) (k0_off31 k) S512x128.size (k0_off31_inb k), p⟩] := by
  unfold tripL
  by_cases hk : k0_cond1 k = 1#1
  · rw [dif_pos hk]; unfold tripOdd; exact ⟨_, rfl⟩
  · rw [dif_neg hk]; unfold tripEven; exact ⟨_, rfl⟩

/-- The pieces of trip `k` are among those of the trips before `n`, for `k < n`. -/
theorem tripL_mem (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (v24 v27 : IVec S512x512 32) (v41 : IVec S512x512 1) (v43 v44 : IVec S512x512 32)
    (X2 : BufTy.Contents (Elt F) arg2.view.ty) (X3 : BufTy.Contents (Elt F) arg3.view.ty) (X4 : BufTy.Contents (Elt F) arg4.view.ty)
    (k : Fin k0_t1_loop.trips) {pc} (hpc : pc ∈ tripL (F := F) c i arg2 harg2 arg3 harg3 arg4 harg4 arg5 harg5 v24 v27 v41 v43 v44 X2 X3 X4 k) :
    ∀ n, k.val < n → pc ∈ pcs (F := F) c i arg2 harg2 arg3 harg3 arg4 harg4 arg5 harg5 v24 v27 v41 v43 v44 X2 X3 X4 n
  | 0, h => absurd h (Nat.not_lt_zero _)
  | n + 1, h => by
    rw [pcs.eq_2, List.mem_append]
    rcases Nat.lt_or_ge k.val n with h' | h'
    · exact Or.inr (tripL_mem c i arg2 harg2 arg3 harg3 arg4 harg4 arg5 harg5 v24 v27 v41 v43 v44 X2 X3 X4 k hpc n h')
    · obtain rfl : n = k.val := by omega
      rw [dif_pos k.isLt]; exact Or.inl hpc

/-- There are eight query blocks. -/
theorem trips_eq : k0_t1_loop.trips = 8 := by decide +kernel

/-- The body's pieces cover the output block: row `r` is in the piece of query block `r / 512`. -/
theorem bodyL_cover (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (x2 : Vec F S4096x256 .bf16) (x3 : Vec F S4096x256 .bf16) (x4 : Vec F S8x128x512 .bf16) (y : S4096x128.Idx) :
    ∃ pc ∈ bodyL (F := F) c i arg2 harg2 arg3 harg3 arg4 harg4 arg5 harg5 x2 x3 x4, y ∈ pc.1.set := by
  have hy : (y 0).val < 4096 := (y 0).isLt
  have hy1 : (y 1).val < 128 := (y 1).isLt
  have hk : (y 0).val / 512 < k0_t1_loop.trips := by rw [trips_eq]; omega
  obtain ⟨p, hp⟩ := tripL_form (F := F) c i arg2 harg2 arg3 harg3 arg4 harg4 arg5 harg5 k0_pay57 k0_pay58 k0_pay59 k0_pay60 k0_pay61
    (harg2.unread x2) (harg3.unread x3) (harg4.unread x4) ⟨_, hk⟩
  refine ⟨_, tripL_mem (F := F) c i arg2 harg2 arg3 harg3 arg4 harg4 arg5 harg5 _ _ _ _ _ _ _ _ ⟨_, hk⟩ (by rw [hp]; exact List.mem_singleton.mpr rfl) _ hk, ?_⟩
  rw [Rect.mem_set_unit, k0_off31_eq]
  intro a
  match a with
  | ⟨0, _⟩ => show 512 * ((y 0).val / 512) ≤ (y 0).val ∧ (y 0).val < 512 * ((y 0).val / 512) + 512; omega
  | ⟨1, _⟩ => show 0 ≤ (y 1).val ∧ (y 1).val < 0 + 128; omega

/-! ## The launch -/

variable (m : (ℓ : Loc nD τ sig) → Buf (Elt F) ℓ) (ρ : Dev nD → PrngReg)

/-- The staging buffer of each window at point `t`, and that it is a whole buffer. -/
abbrev b2 (t : Fin cfg0.N) : Memref sig .tc .vmem S4096x256 .bf16 := win0_0.stage (cfg0.slots t 0)
abbrev w2 (t : Fin cfg0.N) : (b2 t).IsWhole := hstage0_0 ((cfg0.slots t 0).cast nbuf0_0)
abbrev b3 (t : Fin cfg0.N) : Memref sig .tc .vmem S4096x256 .bf16 := win0_1.stage (cfg0.slots t 1)
abbrev w3 (t : Fin cfg0.N) : (b3 t).IsWhole := hstage0_1 ((cfg0.slots t 1).cast nbuf0_1)
abbrev b4 (t : Fin cfg0.N) : Memref sig .tc .vmem S8x128x512 .bf16 := win0_2.stage (cfg0.slots t 2)
abbrev w4 (t : Fin cfg0.N) : (b4 t).IsWhole := hstage0_2 ((cfg0.slots t 2).cast nbuf0_2)
abbrev b5 (t : Fin cfg0.N) : Memref sig .tc .vmem S4096x128 .bf16 := win0_3.stage (cfg0.slots t 3)
abbrev w5 (t : Fin cfg0.N) : (b5 t).IsWhole := hstage0_3 ((cfg0.slots t 3).cast nbuf0_3)

/-- The pieces the body stores at point `t`. -/
def ptL (c : Dev nD) (t : Fin cfg0.N) : List (View.Piece (Elt F) S4096x128 .bf16) :=
  bodyL (F := F) c (grid0.coords t) (b2 t) (w2 t) (b3 t) (w3 t) (b4 t) (w4 t) (b5 t) (w5 t)
    (iblk m c 0 t) (iblk m c 1 t) (iblk m c 2 t)

/-- What the body leaves in the output block at point `t`: its pieces, read back. -/
def ptOut (c : Dev nD) (t : Fin cfg0.N) : Vec F S4096x128 .bf16 := View.canon (ptL m c t)

/-- The launch's data: each input window keeps its block, the output window ends at `ptOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => ptOut m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = ptOut m c t := by dsimp only [dats]

/-- The body at a grid point takes each window's buffer from what it holds before to what it holds after. -/
theorem point_body (c : Dev nD) (t : Fin cfg0.N) :
    iprop((dats m 0 c).Φ t.castSucc ∗ (dats m 0 c).owesAt () t.castSucc
      ∗ (∃ d, owns (c : Thread nD τ) (b2 t) fullShare ((dats m 0 c).before 0 t d))
      ∗ (∃ d, owns (c : Thread nD τ) (b3 t) fullShare ((dats m 0 c).before 1 t d))
      ∗ (∃ d, owns (c : Thread nD τ) (b4 t) fullShare ((dats m 0 c).before 2 t d))
      ∗ (∃ d, owns (c : Thread nD τ) (b5 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (b2 t) fullShare ((dats m 0 c).after 0 t)
        ∗ owns (c : Thread nD τ) (b3 t) fullShare ((dats m 0 c).after 1 t)
        ∗ owns (c : Thread nD τ) (b4 t) fullShare ((dats m 0 c).after 2 t)
        ∗ owns (c : Thread nD τ) (b5 t) fullShare ((dats m 0 c).after 3 t))) := by
  have e0 : ∀ d, (dats m 0 c).before 0 t d = iblk m c 0 t := before0_0_of m (dats m 0 c) (dats_A m c 0) (dats_after0 m c) t
  have e1 : ∀ d, (dats m 0 c).before 1 t d = iblk m c 1 t := before0_1_of m (dats m 0 c) (dats_A m c 1) (dats_after1 m c) t
  have e2 : ∀ d, (dats m 0 c).before 2 t d = iblk m c 2 t := before0_2_of m (dats m 0 c) (dats_A m c 2) (dats_after2 m c) t
  unfold bodyAt0
  simp only [e0, e1, e2]
  rw [show (dats m 0 c).Φ t.succ = (dats m 0 c).Φ t.castSucc from rfl,
    show (dats m 0 c).owesAt () t.succ = (dats m 0 c).owesAt () t.castSucc from rfl,
    dats_after0, dats_after1, dats_after2, dats_after3]
  unfold ptOut
  iintro ⟨HΦ, Ho, ⟨%d2, H2⟩, ⟨%d3, H3⟩, ⟨%d4, H4⟩, ⟨%d5, H5⟩⟩
  iapply (body_run c (grid0.coords t) _ _ _ _ _ _ _ _ (iblk m c 0 t) (iblk m c 1 t) (iblk m c 2 t) Set.univ _)
  isplitl [H2]; · iexact H2
  isplitl [H3]; · iexact H3
  isplitl [H4]; · iexact H4
  isplitl [H5]; · iexists _; iexact H5
  iintro ⟨H2, H3, H4, ⟨%f5, H5⟩⟩
  isplitl [HΦ]; · iexact HΦ
  isplitl [Ho]; · iexact Ho
  isplitl [H2]; · iexact H2
  isplitl [H3]; · iexact H3
  isplitl [H4]; · iexact H4
  unfold owns; iexists _; isplitr
  swap; · iexact H5
  ipureintro; exact View.read_writes_eq_canon _ _ _ (bodyL_cover c _ _ _ _ _ _ _ _ _ _ _ _)

/-- The body's obligation at every grid point. -/
theorem obligation (c : Dev nD) : BodyObligation (dats (F := F) m 0 c) (defs₀ (F := F)) Variants.none () Set.univ := fun t => by
  have row : defs₀ (F := F) .tc cfg0.body (cfg0.bodyArgs t (cfg0.slots t)) = bodyAt0 t := by
    unfold defs₀; rw [Defs.onTc_tc]
  rw [bigSep_W0, bigSep_W0, row]
  exact triple_restated (point_body m c t) rfl .rfl fun _ => .rfl

set_option backward.isDefEq.respectTransparency.types false in
/-- The launch: every array of the pipeline ends at what the proof data computes, the rest of the memory is
    as the region found it, and every counter is at zero. -/
theorem launch_run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The frame: the program ends in every run, its arguments unchanged and its counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (launch_run m ρ)))
    ((θ_run defs _ _).mono (fun _ h => h.2) (launch_run m ρ))

end Cert.Proof.KernelIdeal

end
-- ==== Proof.StepIdeal.lean ====
module
public import proofs.«01_k».proof.Proof.RunIdeal
@[expose] public section
set_option maxRecDepth 16384
set_option maxHeartbeats 4000000
noncomputable section

/-!
# The attention kernel: its trips by one step

The kernel takes a block of 512 queries of two heads and goes over the blocks of 512 keys. For each head it
keeps a running maximum of the scores (one per query) and an accumulator of 80 rows: 64 of values weighted
by `exp (score − maximum)`, one with the sum of the weights, the rest unused. Every trip of the program does the
same step for each head and key block, written out at several places. Here the step is named, and each
trip is shown to consist of it.
-/

namespace Cert.Proof.KernelIdeal
open Cert.KernelIdeal Cert.KernelIdeal.Gen
open Idealize.ShloMosaic Idealize.ShloMosaic.TcCoe Idealize.ShloMosaic.Tactic
variable {F : FTy → Type} [FloatOps F] [Named F]

/-- The running maximum and the accumulator of one head. -/
abbrev HState (F : FTy → Type) : Type := FVec F S1x512 .f32 × FVec F S80x512 .f32

/-- One key block: `s` its scores (rows keys, columns queries), `v` its values. -/
def stp (a : HState F) (s : FVec F S512x512 .f32) (v : Vec F S1x64x512 .bf16) : HState F :=
  (k0_pay15 s a.1, k0_pay16 k0_pay2 s a.1 a.2 v)

/-- The causal block mask of the diagonal block. -/
def dmask : IVec S512x512 1 := k0_pay1 k0_pay57 k0_pay58 k0_pay59 k0_pay60 k0_pay61

/-- The masked scores of the diagonal block. -/
def mskd (s : FVec F S512x512 .f32) : FVec F S512x512 .f32 := k0_pay44 dmask s

/-- The first trip number of the loop left over after the key blocks are taken in pairs: `k / 2`. -/
def t3lb (k : Fin k0_t1_loop.trips) : BitVec 32 :=
  have a : BitVec 32 := Scf.iv 0#32 1#32 k.val
  have sg : BitVec 32 := Scalar.subi (Scalar.extui (Scalar.cmpi .sgt a 0#32)) (Scalar.extui (Scalar.cmpi .slt a 0#32))
  have s2 : BitVec 32 := Scalar.subi (Scalar.extui (Scalar.cmpi .sgt 2#32 0#32)) (Scalar.extui (Scalar.cmpi .slt 2#32 0#32))
  have b : BitVec 1 := Scalar.andi (Scalar.cmpi .ne sg s2) (Scalar.cmpi .ne (Scalar.remsi a 2#32) 0#32)
  have h : BitVec 32 := Scalar.select b (Scalar.subi (Scalar.divsi a 2#32) 1#32) (Scalar.divsi a 2#32)
  Scalar.addi 0#32 (Scalar.muli (Scalar.divsi (Scalar.subi h 0#32) 1#32) 1#32)

/-- One trip of the inner loop takes two key blocks, at each head by the same step. -/
theorem trip_t2 (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole) (c0 c1 : BitVec 32) (k : Fin k0_t1_loop.trips) (q0 q1 : Vec F S512x128 .bf16)
    (X3 : BufTy.Contents (Elt F) arg3.view.ty) (X4 : BufTy.Contents (Elt F) arg4.view.ty)
    (j : Fin (k0_t2_loop k).trips) (a0 a1 : HState F) :
    tripR_k0_t2 (F := F) 𝒱 c bd i arg2 harg2 arg3 harg3 arg4 harg4 arg5 harg5 k0_pay2 k0_pay3 k0_pay4 c0 c1 k q0 q1 X3 X4 j (a0.1, a0.2, a1.1, a1.2)
      = ((stp (stp a0 (k0_pay8 q0 (View.readAt (Elt F) arg3.view (Rect.unit (s := S4096x256) (k0_off3 k j) S512x128.size (k0_off3_inb k j)).toLoadRect X3)) (View.readAt (Elt F) arg4.view (Rect.unit (s := S8x128x512) (k0_off7 k j) S1x64x512.size (k0_off7_inb k j)).toLoadRect X4)) (k0_pay8 q0 (View.readAt (Elt F) arg3.view (Rect.unit (s := S4096x256) (k0_off5 k j) S512x128.size (k0_off5_inb k j)).toLoadRect X3)) (View.readAt (Elt F) arg4.view (Rect.unit (s := S8x128x512) (k0_off9 k j) S1x64x512.size (k0_off9_inb k j)).toLoadRect X4)).1,
         (stp (stp a0 (k0_pay8 q0 (View.readAt (Elt F) arg3.view (Rect.unit (s := S4096x256) (k0_off3 k j) S512x128.size (k0_off3_inb k j)).toLoadRect X3)) (View.readAt (Elt F) arg4.view (Rect.unit (s := S8x128x512) (k0_off7 k j) S1x64x512.size (k0_off7_inb k j)).toLoadRect X4)) (k0_pay8 q0 (View.readAt (Elt F) arg3.view (Rect.unit (s := S4096x256) (k0_off5 k j) S512x128.size (k0_off5_inb k j)).toLoadRect X3)) (View.readAt (Elt F) arg4.view (Rect.unit (s := S8x128x512) (k0_off9 k j) S1x64x512.size (k0_off9_inb k j)).toLoadRect X4)).2,
         (stp (stp a1 (k0_pay8 q1 (View.readAt (Elt F) arg3.view (Rect.unit (s := S4096x256) (k0_off4 k j) S512x128.size (k0_off4_inb k j)).toLoadRect X3)) (View.readAt (Elt F) arg4.view (Rect.unit (s := S8x128x512) (k0_off8 k j) S1x64x512.size (k0_off8_inb k j)).toLoadRect X4)) (k0_pay8 q1 (View.readAt (Elt F) arg3.view (Rect.unit (s := S4096x256) (k0_off6 k j) S512x128.size (k0_off6_inb k j)).toLoadRect X3)) (View.readAt (Elt F) arg4.view (Rect.unit (s := S8x128x512) (k0_off10 k j) S1x64x512.size (k0_off10_inb k j)).toLoadRect X4)).1,
         (stp (stp a1 (k0_pay8 q1 (View.readAt (Elt F) arg3.view (Rect.unit (s := S4096x256) (k0_off4 k j) S512x128.size (k0_off4_inb k j)).toLoadRect X3)) (View.readAt (Elt F) arg4.view (Rect.unit (s := S8x128x512) (k0_off8 k j) S1x64x512.size (k0_off8_inb k j)).toLoadRect X4)) (k0_pay8 q1 (View.readAt (Elt F) arg3.view (Rect.unit (s := S4096x256) (k0_off6 k j) S512x128.size (k0_off6_inb k j)).toLoadRect X3)) (View.readAt (Elt F) arg4.view (Rect.unit (s := S8x128x512) (k0_off10 k j) S1x64x512.size (k0_off10_inb k j)).toLoadRect X4)).2) := by
  unfold tripR_k0_t2 trip_k0_t2
  rfl

/-- A trip of the query loop at an even query block: after the inner loop, the masked diagonal block. -/
theorem tripEven_eq (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole) (X2 : BufTy.Contents (Elt F) arg2.view.ty) (X3 : BufTy.Contents (Elt F) arg3.view.ty) (X4 : BufTy.Contents (Elt F) arg4.view.ty)
    (k : Fin k0_t1_loop.trips) (hk : ¬k0_cond1 k = 1#1) (S : FVec F S1x512 .f32 × FVec F S80x512 .f32 × FVec F S1x512 .f32 × FVec F S80x512 .f32)
    (hS : ∀ w : BitVec 32, st_k0_t3 (F := F) Variants.none c none i arg2 harg2 arg3 harg3 arg4 harg4 arg5 harg5 k0_pay2 k0_pay3 k0_pay4 0#32 1#32 k (View.readAt (Elt F) arg2.view (Rect.unit (s := S4096x256) (k0_off1 k) S512x128.size (k0_off1_inb k)).toLoadRect X2) (View.readAt (Elt F) arg2.view (Rect.unit (s := S4096x256) (k0_off2 k) S512x128.size (k0_off2_inb k)).toLoadRect X2) w X3 X4
      (st_k0_t2 (F := F) Variants.none c none i arg2 harg2 arg3 harg3 arg4 harg4 arg5 harg5 k0_pay2 k0_pay3 k0_pay4 0#32 1#32 k (View.readAt (Elt F) arg2.view (Rect.unit (s := S4096x256) (k0_off1 k) S512x128.size (k0_off1_inb k)).toLoadRect X2) (View.readAt (Elt F) arg2.view (Rect.unit (s := S4096x256) (k0_off2 k) S512x128.size (k0_off2_inb k)).toLoadRect X2) X3 X4 (k0_pay3, k0_pay4, k0_pay3, k0_pay4) (k0_t2_loop k).trips) (k0_t3_loop k).trips = S) :
    (tripEven (F := F) c i arg2 harg2 arg3 harg3 arg4 harg4 arg5 harg5 k0_pay57 k0_pay58 k0_pay59 k0_pay60 k0_pay61 X2 X3 X4 k hk).1
      = [⟨Rect.unit (k0_off31 k) S512x128.size (k0_off31_inb k), k0_pay7
          ((stp (S.1, S.2.1) (mskd (k0_pay8 (View.readAt (Elt F) arg2.view (Rect.unit (s := S4096x256) (k0_off1 k) S512x128.size (k0_off1_inb k)).toLoadRect X2) (View.readAt (Elt F) arg3.view (Rect.unit (s := S4096x256) (k0_off27 k) S512x128.size (k0_off27_inb k hk)).toLoadRect X3))) (View.readAt (Elt F) arg4.view (Rect.unit (s := S8x128x512) (k0_off29 k) S1x64x512.size (k0_off29_inb k hk)).toLoadRect X4)).2)
          ((stp (S.2.2.1, S.2.2.2) (mskd (k0_pay8 (View.readAt (Elt F) arg2.view (Rect.unit (s := S4096x256) (k0_off2 k) S512x128.size (k0_off2_inb k)).toLoadRect X2) (View.readAt (Elt F) arg3.view (Rect.unit (s := S4096x256) (k0_off28 k) S512x128.size (k0_off28_inb k hk)).toLoadRect X3))) (View.readAt (Elt F) arg4.view (Rect.unit (s := S8x128x512) (k0_off30 k) S1x64x512.size (k0_off30_inb k hk)).toLoadRect X4)).2)⟩] := by
  refine Eq.trans ?_ (congrArg (fun S : FVec F S1x512 .f32 × FVec F S80x512 .f32 × FVec F S1x512 .f32 × FVec F S80x512 .f32 =>
    ([⟨Rect.unit (k0_off31 k) S512x128.size (k0_off31_inb k), k0_pay7
          ((stp (S.1, S.2.1) (mskd (k0_pay8 (View.readAt (Elt F) arg2.view (Rect.unit (s := S4096x256) (k0_off1 k) S512x128.size (k0_off1_inb k)).toLoadRect X2) (View.readAt (Elt F) arg3.view (Rect.unit (s := S4096x256) (k0_off27 k) S512x128.size (k0_off27_inb k hk)).toLoadRect X3))) (View.readAt (Elt F) arg4.view (Rect.unit (s := S8x128x512) (k0_off29 k) S1x64x512.size (k0_off29_inb k hk)).toLoadRect X4)).2)
          ((stp (S.2.2.1, S.2.2.2) (mskd (k0_pay8 (View.readAt (Elt F) arg2.view (Rect.unit (s := S4096x256) (k0_off2 k) S512x128.size (k0_off2_inb k)).toLoadRect X2) (View.readAt (Elt F) arg3.view (Rect.unit (s := S4096x256) (k0_off28 k) S512x128.size (k0_off28_inb k hk)).toLoadRect X3))) (View.readAt (Elt F) arg4.view (Rect.unit (s := S8x128x512) (k0_off30 k) S1x64x512.size (k0_off30_inb k hk)).toLoadRect X4)).2)⟩] : List (View.Piece (Elt F) S4096x128 .bf16))) (hS (t3lb k)))
  unfold tripEven
  rfl

/-- A trip of the query loop at an odd query block: after the inner loop, the last full key block and the masked diagonal block. -/
theorem tripOdd_eq (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole) (X2 : BufTy.Contents (Elt F) arg2.view.ty) (X3 : BufTy.Contents (Elt F) arg3.view.ty) (X4 : BufTy.Contents (Elt F) arg4.view.ty)
    (k : Fin k0_t1_loop.trips) (hk : k0_cond1 k = 1#1) (S : FVec F S1x512 .f32 × FVec F S80x512 .f32 × FVec F S1x512 .f32 × FVec F S80x512 .f32)
    (hS : ∀ w : BitVec 32, st_k0_t3 (F := F) Variants.none c none i arg2 harg2 arg3 harg3 arg4 harg4 arg5 harg5 k0_pay2 k0_pay3 k0_pay4 0#32 1#32 k (View.readAt (Elt F) arg2.view (Rect.unit (s := S4096x256) (k0_off1 k) S512x128.size (k0_off1_inb k)).toLoadRect X2) (View.readAt (Elt F) arg2.view (Rect.unit (s := S4096x256) (k0_off2 k) S512x128.size (k0_off2_inb k)).toLoadRect X2) w X3 X4
      (st_k0_t2 (F := F) Variants.none c none i arg2 harg2 arg3 harg3 arg4 harg4 arg5 harg5 k0_pay2 k0_pay3 k0_pay4 0#32 1#32 k (View.readAt (Elt F) arg2.view (Rect.unit (s := S4096x256) (k0_off1 k) S512x128.size (k0_off1_inb k)).toLoadRect X2) (View.readAt (Elt F) arg2.view (Rect.unit (s := S4096x256) (k0_off2 k) S512x128.size (k0_off2_inb k)).toLoadRect X2) X3 X4 (k0_pay3, k0_pay4, k0_pay3, k0_pay4) (k0_t2_loop k).trips) (k0_t3_loop k).trips = S) :
    (tripOdd (F := F) c i arg2 harg2 arg3 harg3 arg4 harg4 arg5 harg5 k0_pay57 k0_pay58 k0_pay59 k0_pay60 k0_pay61 X2 X3 X4 k hk).1
      = [⟨Rect.unit (k0_off31 k) S512x128.size (k0_off31_inb k), k0_pay7
          ((stp (stp (S.1, S.2.1) (k0_pay8 (View.readAt (Elt F) arg2.view (Rect.unit (s := S4096x256) (k0_off1 k) S512x128.size (k0_off1_inb k)).toLoadRect X2) (View.readAt (Elt F) arg3.view (Rect.unit (s := S4096x256) (k0_off19 k) S512x128.size (k0_off19_inb k hk)).toLoadRect X3)) (View.readAt (Elt F) arg4.view (Rect.unit (s := S8x128x512) (k0_off23 k) S1x64x512.size (k0_off23_inb k hk)).toLoadRect X4)) (mskd (k0_pay8 (View.readAt (Elt F) arg2.view (Rect.unit (s := S4096x256) (k0_off1 k) S512x128.size (k0_off1_inb k)).toLoadRect X2) (View.readAt (Elt F) arg3.view (Rect.unit (s := S4096x256) (k0_off21 k) S512x128.size (k0_off21_inb k hk)).toLoadRect X3))) (View.readAt (Elt F) arg4.view (Rect.unit (s := S8x128x512) (k0_off25 k) S1x64x512.size (k0_off25_inb k hk)).toLoadRect X4)).2)
          ((stp (stp (S.2.2.1, S.2.2.2) (k0_pay8 (View.readAt (Elt F) arg2.view (Rect.unit (s := S4096x256) (k0_off2 k) S512x128.size (k0_off2_inb k)).toLoadRect X2) (View.readAt (Elt F) arg3.view (Rect.unit (s := S4096x256) (k0_off20 k) S512x128.size (k0_off20_inb k hk)).toLoadRect X3)) (View.readAt (Elt F) arg4.view (Rect.unit (s := S8x128x512) (k0_off24 k) S1x64x512.size (k0_off24_inb k hk)).toLoadRect X4)) (mskd (k0_pay8 (View.readAt (Elt F) arg2.view (Rect.unit (s := S4096x256) (k0_off2 k) S512x128.size (k0_off2_inb k)).toLoadRect X2) (View.readAt (Elt F) arg3.view (Rect.unit (s := S4096x256) (k0_off22 k) S512x128.size (k0_off22_inb k hk)).toLoadRect X3))) (View.readAt (Elt F) arg4.view (Rect.unit (s := S8x128x512) (k0_off26 k) S1x64x512.size (k0_off26_inb k hk)).toLoadRect X4)).2)⟩] := by
  refine Eq.trans ?_ (congrArg (fun S : FVec F S1x512 .f32 × FVec F S80x512 .f32 × FVec F S1x512 .f32 × FVec F S80x512 .f32 =>
    ([⟨Rect.unit (k0_off31 k) S512x128.size (k0_off31_inb k), k0_pay7
          ((stp (stp (S.1, S.2.1) (k0_pay8 (View.readAt (Elt F) arg2.view (Rect.unit (s := S4096x256) (k0_off1 k) S512x128.size (k0_off1_inb k)).toLoadRect X2) (View.readAt (Elt F) arg3.view (Rect.unit (s := S4096x256) (k0_off19 k) S512x128.size (k0_off19_inb k hk)).toLoadRect X3)) (View.readAt (Elt F) arg4.view (Rect.unit (s := S8x128x512) (k0_off23 k) S1x64x512.size (k0_off23_inb k hk)).toLoadRect X4)) (mskd (k0_pay8 (View.readAt (Elt F) arg2.view (Rect.unit (s := S4096x256) (k0_off1 k) S512x128.size (k0_off1_inb k)).toLoadRect X2) (View.readAt (Elt F) arg3.view (Rect.unit (s := S4096x256) (k0_off21 k) S512x128.size (k0_off21_inb k hk)).toLoadRect X3))) (View.readAt (Elt F) arg4.view (Rect.unit (s := S8x128x512) (k0_off25 k) S1x64x512.size (k0_off25_inb k hk)).toLoadRect X4)).2)
          ((stp (stp (S.2.2.1, S.2.2.2) (k0_pay8 (View.readAt (Elt F) arg2.view (Rect.unit (s := S4096x256) (k0_off2 k) S512x128.size (k0_off2_inb k)).toLoadRect X2) (View.readAt (Elt F) arg3.view (Rect.unit (s := S4096x256) (k0_off20 k) S512x128.size (k0_off20_inb k hk)).toLoadRect X3)) (View.readAt (Elt F) arg4.view (Rect.unit (s := S8x128x512) (k0_off24 k) S1x64x512.size (k0_off24_inb k hk)).toLoadRect X4)) (mskd (k0_pay8 (View.readAt (Elt F) arg2.view (Rect.unit (s := S4096x256) (k0_off2 k) S512x128.size (k0_off2_inb k)).toLoadRect X2) (View.readAt (Elt F) arg3.view (Rect.unit (s := S4096x256) (k0_off22 k) S512x128.size (k0_off22_inb k hk)).toLoadRect X3))) (View.readAt (Elt F) arg4.view (Rect.unit (s := S8x128x512) (k0_off26 k) S1x64x512.size (k0_off26_inb k hk)).toLoadRect X4)).2)⟩] : List (View.Piece (Elt F) S4096x128 .bf16))) (hS (t3lb k)))
  unfold tripOdd
  rfl

end Cert.Proof.KernelIdeal

end
-- ==== Proof.StateIdeal.lean ====
module
public import proofs.«01_k».proof.Proof.StepIdeal
public import Idealize.ShloMosaic.Lib.Pipeline.ValueKit
@[expose] public section
set_option maxRecDepth 16384
set_option maxHeartbeats 4000000
noncomputable section

/-!
# The attention kernel: what one trip of the query loop stores

The kernel's loads are named as blocks of the arrays it is given, and the trip over the query block `k` is shown to
store the quotient of the two heads' accumulators after the key blocks `0 … k − 1` and the masked
diagonal block `k`.
-/

namespace Cert.Proof.KernelIdeal
open Cert.KernelIdeal Cert.KernelIdeal.Gen
open Idealize.ShloMosaic Idealize.ShloMosaic.TcCoe Idealize.ShloMosaic.Tactic
variable {F : FTy → Type} [FloatOps F] [Named F]

/-- Rows `512 n …` of the query or key block, lanes of head `h`. -/
def kblk (x : Vec F S4096x256 .bf16) (h n : ℕ) : Vec F S512x128 .bf16 := fun y =>
  x (ix2 ⟨(512 * n + (y 0).val) % 4096, Nat.mod_lt _ (by decide)⟩ ⟨(128 * h + (y 1).val) % 256, Nat.mod_lt _ (by decide)⟩)

/-- The transposed values of key block `n`, rows of head `h`. -/
def vblk (x : Vec F S8x128x512 .bf16) (h n : ℕ) : Vec F S1x64x512 .bf16 := fun y =>
  x (ix3 ⟨n % 8, Nat.mod_lt _ (by decide)⟩ ⟨(64 * h + (y 1).val) % 128, Nat.mod_lt _ (by decide)⟩ (y 2))

/-- One head's state after the key blocks `0 … n − 1`. -/
def hst (q : Vec F S512x128 .bf16) (K : ℕ → Vec F S512x128 .bf16) (V : ℕ → Vec F S1x64x512 .bf16) : ℕ → HState F
  | 0 => (k0_pay3, k0_pay4)
  | n + 1 => stp (hst q K V n) (k0_pay8 q (K n)) (V n)

/-- One head's accumulator after the masked diagonal block `k`. -/
def hfin (q : Vec F S512x128 .bf16) (K : ℕ → Vec F S512x128 .bf16) (V : ℕ → Vec F S1x64x512 .bf16) (k : ℕ) : FVec F S80x512 .f32 :=
  (stp (hst q K V k) (mskd (k0_pay8 q (K k))) (V k)).2

/-- What the trip over query block `k` stores. -/
def tripPay (x2 x3 : Vec F S4096x256 .bf16) (x4 : Vec F S8x128x512 .bf16) (k : ℕ) : FVec F S512x128 .bf16 :=
  k0_pay7 (hfin (kblk x2 0 k) (kblk x3 0) (vblk x4 0) k) (hfin (kblk x2 1 k) (kblk x3 1) (vblk x4 1) k)

/-- A load of 512 rows of one head is that block. -/
theorem readAt_kblk {a : Memref sig .tc .vmem S4096x256 .bf16} (ha : a.IsWhole) (x : Vec F S4096x256 .bf16) (h n : ℕ) (hn : n < 8) (hh : h < 2)
    (off : Fin 2 → ℕ) (inb : ∀ b, off b + S512x128.size b ≤ S4096x256.size b) (ho : off = ![512 * n, 128 * h]) :
    View.readAt (Elt F) a.view (Rect.unit (s := S4096x256) off S512x128.size inb).toLoadRect (ha.unread x) = kblk x h n := by
  subst ho
  rw [View.readAt_eq_ld, ha.read_unread]
  funext y
  have h0 : (y 0).val < 512 := (y 0).isLt
  have h1 : (y 1).val < 128 := (y 1).isLt
  rw [View.ld_apply]
  refine congrArg x (funext fun b => Fin.ext ?_)
  fin_cases b
  · show 512 * n + 1 * (y 0).val = (512 * n + (y 0).val) % 4096
    omega
  · show 128 * h + 1 * (y 1).val = (128 * h + (y 1).val) % 256
    omega

/-- A load of one head's transposed values of one key block is that block. -/
theorem readAt_vblk {a : Memref sig .tc .vmem S8x128x512 .bf16} (ha : a.IsWhole) (x : Vec F S8x128x512 .bf16) (h n : ℕ) (hn : n < 8) (hh : h < 2)
    (off : Fin 3 → ℕ) (inb : ∀ b, off b + S1x64x512.size b ≤ S8x128x512.size b) (ho : off = ![n, 64 * h, 0]) :
    View.readAt (Elt F) a.view (Rect.unit (s := S8x128x512) off S1x64x512.size inb).toLoadRect (ha.unread x) = vblk x h n := by
  subst ho
  rw [View.readAt_eq_ld, ha.read_unread]
  funext y
  have h0 : (y 0).val < 1 := (y 0).isLt
  have h1 : (y 1).val < 64 := (y 1).isLt
  rw [View.ld_apply]
  refine congrArg x (funext fun b => Fin.ext ?_)
  fin_cases b
  · show n + 1 * (y 0).val = n % 8
    omega
  · show 64 * h + 1 * (y 1).val = (64 * h + (y 1).val) % 128
    omega
  · show 0 + 1 * (y 2).val = (y 2).val
    omega

theorem off3_at : ∀ (k : Fin k0_t1_loop.trips) (j : Fin (k0_t2_loop k).trips), k0_off3 k j = ![512 * (2 * j.val), 0] := by decide +kernel
theorem off4_at : ∀ (k : Fin k0_t1_loop.trips) (j : Fin (k0_t2_loop k).trips), k0_off4 k j = ![512 * (2 * j.val), 128] := by decide +kernel
theorem off5_at : ∀ (k : Fin k0_t1_loop.trips) (j : Fin (k0_t2_loop k).trips), k0_off5 k j = ![512 * (2 * j.val + 1), 0] := by decide +kernel
theorem off6_at : ∀ (k : Fin k0_t1_loop.trips) (j : Fin (k0_t2_loop k).trips), k0_off6 k j = ![512 * (2 * j.val + 1), 128] := by decide +kernel
theorem off7_at : ∀ (k : Fin k0_t1_loop.trips) (j : Fin (k0_t2_loop k).trips), k0_off7 k j = ![2 * j.val, 0, 0] := by decide +kernel
theorem off8_at : ∀ (k : Fin k0_t1_loop.trips) (j : Fin (k0_t2_loop k).trips), k0_off8 k j = ![2 * j.val, 64, 0] := by decide +kernel
theorem off9_at : ∀ (k : Fin k0_t1_loop.trips) (j : Fin (k0_t2_loop k).trips), k0_off9 k j = ![2 * j.val + 1, 0, 0] := by decide +kernel
theorem off10_at : ∀ (k : Fin k0_t1_loop.trips) (j : Fin (k0_t2_loop k).trips), k0_off10 k j = ![2 * j.val + 1, 64, 0] := by decide +kernel
theorem off1_at : ∀ k : Fin k0_t1_loop.trips, k0_off1 k = ![512 * k.val, 0] := by decide +kernel
theorem off2_at : ∀ k : Fin k0_t1_loop.trips, k0_off2 k = ![512 * k.val, 128] := by decide +kernel
theorem off21_at : ∀ k : Fin k0_t1_loop.trips, k0_off21 k = ![512 * k.val, 0] := by decide +kernel
theorem off22_at : ∀ k : Fin k0_t1_loop.trips, k0_off22 k = ![512 * k.val, 128] := by decide +kernel
theorem off27_at : ∀ k : Fin k0_t1_loop.trips, k0_off27 k = ![512 * k.val, 0] := by decide +kernel
theorem off28_at : ∀ k : Fin k0_t1_loop.trips, k0_off28 k = ![512 * k.val, 128] := by decide +kernel
theorem off31_at : ∀ k : Fin k0_t1_loop.trips, k0_off31 k = ![512 * k.val, 0] := by decide +kernel
theorem off25_at : ∀ k : Fin k0_t1_loop.trips, k0_off25 k = ![k.val, 0, 0] := by decide +kernel
theorem off26_at : ∀ k : Fin k0_t1_loop.trips, k0_off26 k = ![k.val, 64, 0] := by decide +kernel
theorem off29_at : ∀ k : Fin k0_t1_loop.trips, k0_off29 k = ![k.val, 0, 0] := by decide +kernel
theorem off30_at : ∀ k : Fin k0_t1_loop.trips, k0_off30 k = ![k.val, 64, 0] := by decide +kernel
theorem off19_at : ∀ k : Fin k0_t1_loop.trips, k0_cond1 k = 1#1 → k0_off19 k = ![512 * (k.val - 1), 0] := by decide +kernel
theorem off20_at : ∀ k : Fin k0_t1_loop.trips, k0_cond1 k = 1#1 → k0_off20 k = ![512 * (k.val - 1), 128] := by decide +kernel
theorem off23_at : ∀ k : Fin k0_t1_loop.trips, k0_cond1 k = 1#1 → k0_off23 k = ![k.val - 1, 0, 0] := by decide +kernel
theorem off24_at : ∀ k : Fin k0_t1_loop.trips, k0_cond1 k = 1#1 → k0_off24 k = ![k.val - 1, 64, 0] := by decide +kernel

theorem t2_trips : ∀ k : Fin k0_t1_loop.trips, (k0_t2_loop k).trips = k.val / 2 := by decide +kernel
theorem t3_trips : ∀ k : Fin k0_t1_loop.trips, (k0_t3_loop k).trips = 0 := by decide +kernel
theorem odd_iff : ∀ k : Fin k0_t1_loop.trips, k0_cond1 k = 1#1 ↔ k.val % 2 = 1 := by decide +kernel
theorem lt_eight (k : Fin k0_t1_loop.trips) : k.val < 8 := k.isLt

/-- Before trip `n` of the inner loop both heads have taken the key blocks `0 … 2 n − 1`. -/
theorem st_t2_eq (𝒱 : Variants) (c : Dev nD) (bd : Option 𝒱.V) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole) (c0 c1 : BitVec 32) (k : Fin k0_t1_loop.trips) (q0 q1 : Vec F S512x128 .bf16)
    (x3 : Vec F S4096x256 .bf16) (x4 : Vec F S8x128x512 .bf16) : ∀ n : ℕ, n ≤ (k0_t2_loop k).trips →
    st_k0_t2 (F := F) 𝒱 c bd i arg2 harg2 arg3 harg3 arg4 harg4 arg5 harg5 k0_pay2 k0_pay3 k0_pay4 c0 c1 k q0 q1 (harg3.unread x3) (harg4.unread x4)
        (k0_pay3, k0_pay4, k0_pay3, k0_pay4) n
      = ((hst q0 (kblk x3 0) (vblk x4 0) (2 * n)).1, (hst q0 (kblk x3 0) (vblk x4 0) (2 * n)).2,
         (hst q1 (kblk x3 1) (vblk x4 1) (2 * n)).1, (hst q1 (kblk x3 1) (vblk x4 1) (2 * n)).2)
  | 0, _ => rfl
  | n + 1, hn => by
    have hk := lt_eight k
    have ht := t2_trips k
    have e := st_k0_t2_succ (F := F) 𝒱 c bd i arg2 harg2 arg3 harg3 arg4 harg4 arg5 harg5 k0_pay2 k0_pay3 k0_pay4 c0 c1 k q0 q1 (harg3.unread x3) (harg4.unread x4)
      (k0_pay3, k0_pay4, k0_pay3, k0_pay4) ⟨n, by omega⟩
    refine e.trans ?_
    rw [st_t2_eq 𝒱 c bd i arg2 harg2 arg3 harg3 arg4 harg4 arg5 harg5 c0 c1 k q0 q1 x3 x4 n (by omega), trip_t2,
      readAt_kblk harg3 x3 0 (2 * n) (by omega) (by omega) _ _ (off3_at k ⟨n, by omega⟩),
      readAt_kblk harg3 x3 1 (2 * n) (by omega) (by omega) _ _ (off4_at k ⟨n, by omega⟩),
      readAt_kblk harg3 x3 0 (2 * n + 1) (by omega) (by omega) _ _ (off5_at k ⟨n, by omega⟩),
      readAt_kblk harg3 x3 1 (2 * n + 1) (by omega) (by omega) _ _ (off6_at k ⟨n, by omega⟩),
      readAt_vblk harg4 x4 0 (2 * n) (by omega) (by omega) _ _ (off7_at k ⟨n, by omega⟩),
      readAt_vblk harg4 x4 1 (2 * n) (by omega) (by omega) _ _ (off8_at k ⟨n, by omega⟩),
      readAt_vblk harg4 x4 0 (2 * n + 1) (by omega) (by omega) _ _ (off9_at k ⟨n, by omega⟩),
      readAt_vblk harg4 x4 1 (2 * n + 1) (by omega) (by omega) _ _ (off10_at k ⟨n, by omega⟩)]
    rfl

/-- A trip of the query loop stores the quotients after the key blocks up to and including its own. -/
theorem tripL_pay (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole) (x2 : Vec F S4096x256 .bf16) (x3 : Vec F S4096x256 .bf16) (x4 : Vec F S8x128x512 .bf16) (k : Fin k0_t1_loop.trips) :
    tripL (F := F) c i arg2 harg2 arg3 harg3 arg4 harg4 arg5 harg5 k0_pay57 k0_pay58 k0_pay59 k0_pay60 k0_pay61 (harg2.unread x2) (harg3.unread x3) (harg4.unread x4) k
      = [⟨Rect.unit (k0_off31 k) S512x128.size (k0_off31_inb k), tripPay x2 x3 x4 k⟩] := by
  have hk8 := lt_eight k
  have ht := t2_trips k
  have hS : ∀ w : BitVec 32, st_k0_t3 (F := F) Variants.none c none i arg2 harg2 arg3 harg3 arg4 harg4 arg5 harg5 k0_pay2 k0_pay3 k0_pay4 0#32 1#32 k (kblk x2 0 k) (kblk x2 1 k) w (harg3.unread x3) (harg4.unread x4)
      (st_k0_t2 (F := F) Variants.none c none i arg2 harg2 arg3 harg3 arg4 harg4 arg5 harg5 k0_pay2 k0_pay3 k0_pay4 0#32 1#32 k (kblk x2 0 k) (kblk x2 1 k) (harg3.unread x3) (harg4.unread x4) (k0_pay3, k0_pay4, k0_pay3, k0_pay4) (k0_t2_loop k).trips) (k0_t3_loop k).trips
      = ((hst (kblk x2 0 k) (kblk x3 0) (vblk x4 0) (2 * (k.val / 2))).1, (hst (kblk x2 0 k) (kblk x3 0) (vblk x4 0) (2 * (k.val / 2))).2,
         (hst (kblk x2 1 k) (kblk x3 1) (vblk x4 1) (2 * (k.val / 2))).1, (hst (kblk x2 1 k) (kblk x3 1) (vblk x4 1) (2 * (k.val / 2))).2) := by
    intro w
    rw [t3_trips k, st_t2_eq _ _ _ _ _ _ _ _ _ _ _ _ _ _ _ _ _ x3 x4 _ le_rfl, ht]
    rfl
  have e1 := readAt_kblk harg2 x2 0 k.val (by omega) (by omega) _ (k0_off1_inb k) (off1_at k)
  have e2 := readAt_kblk harg2 x2 1 k.val (by omega) (by omega) _ (k0_off2_inb k) (off2_at k)
  unfold tripL
  by_cases hk : k0_cond1 k = 1#1
  · have hp := (odd_iff k).mp hk
    rw [dif_pos hk, tripOdd_eq _ _ _ _ _ _ _ _ _ _ _ _ _ _ hk _ (by rw [e1, e2]; exact hS), e1, e2,
      readAt_kblk harg3 x3 0 (k.val - 1) (by omega) (by omega) _ _ (off19_at k hk),
      readAt_kblk harg3 x3 1 (k.val - 1) (by omega) (by omega) _ _ (off20_at k hk),
      readAt_kblk harg3 x3 0 (k) (by omega) (by omega) _ _ (off21_at k),
      readAt_kblk harg3 x3 1 (k) (by omega) (by omega) _ _ (off22_at k),
      readAt_vblk harg4 x4 0 (k.val - 1) (by omega) (by omega) _ _ (off23_at k hk),
      readAt_vblk harg4 x4 1 (k.val - 1) (by omega) (by omega) _ _ (off24_at k hk),
      readAt_vblk harg4 x4 0 (k) (by omega) (by omega) _ _ (off25_at k),
      readAt_vblk harg4 x4 1 (k) (by omega) (by omega) _ _ (off26_at k)]
    obtain ⟨r, hr⟩ : ∃ r, k.val = 2 * r + 1 := ⟨k.val / 2, by omega⟩
    have hd : k.val / 2 = r := by omega
    unfold tripPay hfin
    rw [hd, hr, Nat.add_sub_cancel]
    rfl
  · have hp : k.val % 2 = 0 := by have := (odd_iff k).not.mp hk; omega
    rw [dif_neg hk, tripEven_eq _ _ _ _ _ _ _ _ _ _ _ _ _ _ hk _ (by rw [e1, e2]; exact hS), e1, e2,
      readAt_kblk harg3 x3 0 (k) (by omega) (by omega) _ _ (off27_at k),
      readAt_kblk harg3 x3 1 (k) (by omega) (by omega) _ _ (off28_at k),
      readAt_vblk harg4 x4 0 (k) (by omega) (by omega) _ _ (off29_at k),
      readAt_vblk harg4 x4 1 (k) (by omega) (by omega) _ _ (off30_at k)]
    have hd : 2 * (k.val / 2) = k.val := by omega
    rw [hd]
    rfl

end Cert.Proof.KernelIdeal

end
-- ==== Proof.Softmax.lean ====
module
public import Idealize.ShloMosaic.Lib.Pointwise
@[expose] public section
noncomputable section

/-!
# The online softmax over the extended reals

The scores of one query arrive in blocks of 512 keys. `mx` is the running maximum, `ac` the accumulator of
one row of weights, rescaled whenever the maximum grows. `quot` says that after the last block with an
unmasked key the quotient of a value row by the row of ones is the softmax average over all 4096 keys. A score may
be `⊥` (a masked key); the values are any extended reals.
-/

namespace Cert.Proof.Softmax
open Idealize.ShloMosaic

/-- A number per block and key of the block. -/
abbrev Blk : Type := ℕ → Fin 512 → EReal

/-- The running maximum after `n` blocks. -/
def mx (S : Blk) : ℕ → EReal
  | 0 => ⊥
  | n + 1 => max (mx S n) ((Finset.univ : Finset (Fin 512)).fold max ⊥ (S n))

/-- The accumulator after `n` blocks. -/
def ac (S V : Blk) : ℕ → EReal
  | 0 => 0
  | n + 1 => Ideal.exp (mx S n - mx S (n + 1)) * ac S V n + ∑ i, V n i * Ideal.exp (S n i - mx S (n + 1))

/-- Each of the first `n` blocks has no score `⊤` and some score that is not `⊥`. -/
def Good (S : Blk) (n : ℕ) : Prop := ∀ b < n, (∀ i, S b i ≠ ⊤) ∧ ∃ i, S b i ≠ ⊥

/-- A nonnegative real as an extended real. -/
def NN (x : EReal) : Prop := ∃ r : ℝ, 0 ≤ r ∧ x = (r : EReal)

theorem NN.add {x y : EReal} : NN x → NN y → NN (x + y) := by
  rintro ⟨r, hr, rfl⟩ ⟨s, hs, rfl⟩
  exact ⟨r + s, add_nonneg hr hs, (EReal.coe_add r s).symm⟩

theorem NN.zero : NN 0 := ⟨0, le_rfl, rfl⟩

theorem NN.nonneg {x : EReal} : NN x → 0 ≤ x := by
  rintro ⟨r, hr, rfl⟩; exact EReal.coe_nonneg.mpr hr

theorem NN.ne_top {x : EReal} : NN x → x ≠ ⊤ := by
  rintro ⟨r, _, rfl⟩; exact EReal.coe_ne_top r

/-- A finite nonnegative factor goes into a sum. -/
theorem mul_sum {ι : Type} (s : Finset ι) (f : ι → EReal) {c : EReal} (hc : NN c) : c * ∑ i ∈ s, f i = ∑ i ∈ s, c * f i := by
  classical
  induction s using Finset.induction with
  | empty => simp
  | insert a s ha ih =>
    rw [Finset.sum_insert ha, Finset.sum_insert ha, EReal.left_distrib_of_nonneg_of_ne_top hc.nonneg hc.ne_top, ih]

/-- A weight is a finite nonnegative number. -/
theorem exp_sub_nn {x : EReal} (hx : x ≠ ⊤) (m : ℝ) : NN (Ideal.exp (x - (m : EReal))) := by
  induction x with
  | bot => exact ⟨0, le_rfl, by rw [EReal.bot_sub, Ideal.exp_bot]; rfl⟩
  | top => exact absurd rfl hx
  | coe r => exact ⟨Real.exp (r - m), (Real.exp_pos _).le, by rw [← EReal.coe_sub, Ideal.exp_coe]⟩

/-- Weights at two maxima: the factor between them moves a weight from one to the other. -/
theorem exp_shift {x : EReal} (hx : x ≠ ⊤) (m m' : ℝ) :
    Ideal.exp ((m : EReal) - m') * Ideal.exp (x - m) = Ideal.exp (x - m') := by
  induction x with
  | bot => rw [EReal.bot_sub, EReal.bot_sub, Ideal.exp_bot, mul_zero]
  | top => exact absurd rfl hx
  | coe r =>
    rw [← EReal.coe_sub, ← EReal.coe_sub, ← EReal.coe_sub, Ideal.exp_coe, Ideal.exp_coe, Ideal.exp_coe, ← EReal.coe_mul, ← Real.exp_add]
    congr 2; ring

theorem fold_sup {ι : Type} (s : Finset ι) (f : ι → EReal) : s.fold max ⊥ f = s.sup f := rfl

theorem mx_eq (S : Blk) : ∀ n, mx S n = (Finset.range n).sup fun b => Finset.univ.sup (S b)
  | 0 => rfl
  | n + 1 => by rw [mx, mx_eq S n, Finset.range_add_one, Finset.sup_insert, fold_sup, max_comm]

theorem sup_ne_top {ι : Type} (s : Finset ι) (f : ι → EReal) (h : ∀ i ∈ s, f i ≠ ⊤) : s.sup f ≠ ⊤ :=
  ((Finset.sup_lt_iff (bot_lt_top)).mpr fun i hi => lt_top_iff_ne_top.mpr (h i hi)).ne

/-- After at least one block the maximum is a real number. -/
theorem mx_real {S : Blk} {n : ℕ} (hn : 0 < n) (h : Good S n) : ∃ r : ℝ, mx S n = (r : EReal) := by
  have ht : mx S n ≠ ⊤ := by
    rw [mx_eq]
    exact sup_ne_top _ _ fun b hb => sup_ne_top _ _ fun i _ => (h b (Finset.mem_range.mp hb)).1 i
  have hb : mx S n ≠ ⊥ := by
    obtain ⟨i, hi⟩ := (h 0 hn).2
    rw [mx_eq]
    intro e
    have h1 : S 0 i ≤ Finset.univ.sup (S 0) := Finset.le_sup (Finset.mem_univ i)
    have h2 := Finset.le_sup (f := fun b => Finset.univ.sup (S b)) (Finset.mem_range.mpr hn)
    exact hi (le_bot_iff.mp (e ▸ h1.trans h2))
  exact ⟨(mx S n).toReal, (EReal.coe_toReal ht hb).symm⟩

theorem Good.mono {S : Blk} {n m : ℕ} (h : Good S m) (hnm : n ≤ m) : Good S n := fun b hb => h b (by omega)

/-- The accumulator is the weighted sum at the current maximum. -/
theorem ac_eq (S V : Blk) : ∀ n, Good S n → ac S V n = ∑ b ∈ Finset.range n, ∑ i, V b i * Ideal.exp (S b i - mx S n)
  | 0, _ => rfl
  | n + 1, h => by
    obtain ⟨m', hm'⟩ := mx_real (Nat.succ_pos n) h
    rw [ac, Finset.sum_range_succ, ac_eq S V n (h.mono (Nat.le_succ n))]
    refine congrArg (· + _) ?_
    rcases Nat.eq_zero_or_pos n with rfl | hn
    · simp
    · obtain ⟨m, hm⟩ := mx_real hn (h.mono (Nat.le_succ n))
      have hc : NN (Ideal.exp (mx S n - mx S (n + 1))) := by
        rw [hm, hm']; exact exp_sub_nn (EReal.coe_ne_top m) m'
      rw [mul_sum _ _ hc]
      refine Finset.sum_congr rfl fun b hb => ?_
      rw [mul_sum _ _ hc]
      refine Finset.sum_congr rfl fun i _ => ?_
      rw [mul_left_comm, hm, hm', exp_shift ((h b (by have := Finset.mem_range.mp hb; omega)).1 i)]

/-- The sum of the weights is a positive real number. -/
theorem ones_pos {S : Blk} {n : ℕ} (hn : 0 < n) (h : Good S n) : ∃ l : ℝ, 0 < l ∧ ac S (fun _ _ => 1) n = (l : EReal) := by
  obtain ⟨m, hm⟩ := mx_real hn h
  rw [ac_eq _ _ _ h, hm]
  have hw : ∀ b ∈ Finset.range n, ∀ i, NN (1 * Ideal.exp (S b i - (m : EReal))) := fun b hb i => by
    rw [one_mul]; exact exp_sub_nn ((h b (Finset.mem_range.mp hb)).1 i) m
  have hs : ∀ b ∈ Finset.range n, NN (∑ i, 1 * Ideal.exp (S b i - (m : EReal))) := fun b hb =>
    Finset.sum_induction _ NN (fun _ _ => NN.add) NN.zero fun i _ => hw b hb i
  obtain ⟨l, hl, e⟩ : NN (∑ b ∈ Finset.range n, ∑ i, 1 * Ideal.exp (S b i - (m : EReal))) :=
    Finset.sum_induction _ NN (fun _ _ => NN.add) NN.zero hs
  refine ⟨l, lt_of_le_of_ne hl fun e0 => ?_, e⟩
  obtain ⟨i, hi⟩ := (h 0 hn).2
  have h0 := Finset.mem_range.mpr hn
  have p1 : 1 * Ideal.exp (S 0 i - (m : EReal)) ≤ ∑ i, 1 * Ideal.exp (S 0 i - (m : EReal)) :=
    Finset.single_le_sum (f := fun i => 1 * Ideal.exp (S 0 i - (m : EReal))) (fun i _ => (hw 0 h0 i).nonneg) (Finset.mem_univ i)
  have p2 : ∑ i, 1 * Ideal.exp (S 0 i - (m : EReal)) ≤ ∑ b ∈ Finset.range n, ∑ i, 1 * Ideal.exp (S b i - (m : EReal)) :=
    Finset.single_le_sum (f := fun b => ∑ i, 1 * Ideal.exp (S b i - (m : EReal))) (fun b hb => (hs b hb).nonneg) h0
  have p3 := p1.trans p2
  rw [e, ← e0, one_mul, ← EReal.coe_toReal ((h 0 hn).1 i) hi, ← EReal.coe_sub, Ideal.exp_coe] at p3
  exact absurd (EReal.coe_le_coe_iff.mp p3) (not_le.mpr (Real.exp_pos _))

/-- Division by a positive real number is multiplication by its reciprocal. -/
theorem div_pos_real (x : EReal) {l : ℝ} (hl : 0 < l) : Ideal.div x (l : EReal) = ((l⁻¹ : ℝ) : EReal) * x := by
  unfold Ideal.div
  rw [if_neg (by exact_mod_cast hl.ne'), ← EReal.coe_inv, mul_comm]

/-- Key `i` of block `b` among the 4096 keys. -/
def key (b : ℕ) (i : Fin 512) : Fin 4096 := ⟨(512 * b + i.val) % 4096, Nat.mod_lt _ (by decide)⟩

theorem key_val {b : ℕ} (hb : b < 8) (i : Fin 512) : (key b i).val = 512 * b + i.val := by
  have := i.isLt
  exact Nat.mod_eq_of_lt (by omega)

/-- A sum over the keys by blocks. -/
theorem sum_keys (f : Fin 4096 → EReal) : ∑ x, f x = ∑ b ∈ Finset.range 8, ∑ i, f (key b i) := by
  rw [Finset.sum_range, ← (finProdFinEquiv (m := 8) (n := 512)).sum_comp f, Fintype.sum_prod_type]
  refine Finset.sum_congr rfl fun b _ => Finset.sum_congr rfl fun i _ => congrArg f (Fin.ext ?_)
  rw [key_val b.isLt]
  show i.val + 512 * b.val = _
  omega

/-- Every key is a key of its block. -/
theorem key_of (x : Fin 4096) : x = key (x.val / 512) ⟨x.val % 512, Nat.mod_lt _ (by decide)⟩ := by
  have := x.isLt
  apply Fin.ext
  rw [key_val (by omega)]
  show x.val = 512 * (x.val / 512) + x.val % 512
  omega

/-- The online quotient after block `k` is the softmax average over all keys, when the keys of later blocks are
    masked. -/
theorem quot (S V : Blk) (k : ℕ) (hk : k < 8) (T W : Fin 4096 → EReal) (h : Good S (k + 1))
    (hT : ∀ b ≤ k, ∀ i, T (key b i) = S b i) (hT' : ∀ b < 8, k < b → ∀ i, T (key b i) = ⊥)
    (hW : ∀ b ≤ k, ∀ i, W (key b i) = V b i) :
    Ideal.div (ac S V (k + 1)) (ac S (fun _ _ => 1) (k + 1))
      = ∑ x, W x * Ideal.div (Ideal.exp (T x - (Finset.univ : Finset (Fin 4096)).fold max ⊥ T))
          (∑ y, Ideal.exp (T y - (Finset.univ : Finset (Fin 4096)).fold max ⊥ T)) := by
  have hM : (Finset.univ : Finset (Fin 4096)).fold max ⊥ T = mx S (k + 1) := by
    rw [fold_sup, mx_eq]
    refine le_antisymm (Finset.sup_le fun x _ => ?_) (Finset.sup_le fun b hb => Finset.sup_le fun i _ => ?_)
    · rw [key_of x]
      by_cases hx : x.val / 512 ≤ k
      · rw [hT _ hx]
        exact (Finset.le_sup (f := S (x.val / 512)) (Finset.mem_univ _)).trans
          (Finset.le_sup (f := fun b => Finset.univ.sup (S b)) (Finset.mem_range.mpr (by omega)))
      · rw [hT' _ (by have := x.isLt; omega) (by omega)]; exact bot_le
    · have := Finset.mem_range.mp hb
      rw [← hT b (by omega)]
      exact Finset.le_sup (f := T) (Finset.mem_univ _)
  obtain ⟨m, hm⟩ := mx_real (Nat.succ_pos k) h
  obtain ⟨l, hl, hL⟩ := ones_pos (Nat.succ_pos k) h
  have split : ∀ (f : Fin 4096 → EReal) (g : Blk), (∀ b ≤ k, ∀ i, f (key b i) = g b i) → (∀ b < 8, k < b → ∀ i, f (key b i) = 0) →
      ∑ x, f x = ∑ b ∈ Finset.range (k + 1), ∑ i, g b i := by
    intro f g h1 h2
    rw [sum_keys, ← Finset.sum_subset (s₁ := Finset.range (k + 1)) (s₂ := Finset.range 8)]
    · exact Finset.sum_congr rfl fun b hb => Finset.sum_congr rfl fun i _ => h1 b (by have := Finset.mem_range.mp hb; omega) i
    · intro b hb; have := Finset.mem_range.mp hb; exact Finset.mem_range.mpr (by omega)
    · intro b hb hn
      have h3 := Finset.mem_range.mp hb
      have h4 : ¬b < k + 1 := fun e => hn (Finset.mem_range.mpr e)
      exact Finset.sum_eq_zero fun i _ => h2 b h3 (by omega) i
  have z : Ideal.exp ((⊥ : EReal) - (m : EReal)) = 0 := by rw [EReal.bot_sub, Ideal.exp_bot]
  rw [hM]
  have e1 : ∑ y, Ideal.exp (T y - mx S (k + 1)) = (l : EReal) := by
    rw [← hL, ac_eq _ _ _ h, hm]
    refine split _ (fun b i => 1 * Ideal.exp (S b i - (m : EReal))) (fun b hb i => ?_) (fun b hb hb' i => ?_)
    · rw [hT b hb, one_mul]
    · rw [hT' b hb hb', z]
  rw [e1, hL, div_pos_real _ hl, ac_eq _ _ _ h, mul_sum _ _ ⟨l⁻¹, (inv_pos.mpr hl).le, rfl⟩, hm]
  refine Eq.symm ((split _ (fun b i => ((l⁻¹ : ℝ) : EReal) * (V b i * Ideal.exp (S b i - (m : EReal)))) (fun b hb i => ?_) (fun b hb hb' i => ?_)).trans
    (Finset.sum_congr rfl fun b _ => (mul_sum _ _ ⟨l⁻¹, (inv_pos.mpr hl).le, rfl⟩).symm))
  · rw [hT b hb, hW b hb, div_pos_real _ hl, mul_left_comm]
  · rw [hT' b hb hb', z, div_pos_real _ hl, mul_zero, mul_zero]

end Cert.Proof.Softmax

end
-- ==== Proof.Column.lean ====
module
public import proofs.«01_k».proof.Proof.StateIdeal
public import proofs.«01_k».proof.Proof.Softmax
public import Idealize.ShloMosaic.Lib.Pipeline.CanonAppend
@[expose] public section
set_option maxRecDepth 16384
set_option maxHeartbeats 4000000
noncomputable section

/-!
# The attention kernel: one query column of its block

At the ideal reading the recurrence of one head is, in each column, the online softmax of `Softmax.lean`: row 64 of the
accumulator has the values one, the rows below it the head's values.
-/

namespace Cert.Proof.KernelIdeal
open Cert.KernelIdeal Cert.KernelIdeal.Gen
open Idealize.ShloMosaic Idealize.ShloMosaic.TcCoe Idealize.ShloMosaic.Tactic
open Cert.Proof.Softmax

/-- The word of −∞ is the least extended real. -/
theorem ofBits_neg_inf : Ideal.ofBits .f32 0xFF800000#32 = ⊥ := by
  simp [Ideal.ofBits, Ideal.ieee]

/-- The named mask constant is −∞. -/
theorem mask_bot : (Named.named κ "mask" 0xF149F2CA#32 : Ideal .f32) = ⊥ := rfl

/-- A score: key row times query row. -/
theorem score_apply (q k : Vec Ideal S512x128 .bf16) (i j : Fin 512) : k0_pay8 q k (ix2 i j) = ∑ d : Fin 128, k (ix2 i d) * q (ix2 j d) := by
  pointwise [k0_pay8]

/-- The maximum after a step. -/
theorem step_max (m : FVec Ideal S1x512 .f32) (s : FVec Ideal S512x512 .f32) (j : Fin 512) :
    k0_pay15 s m (ix2 0 j) = max (m (ix2 0 j)) ((Finset.univ : Finset (Fin 512)).fold max ⊥ fun i => s (ix2 i j)) := by
  pointwise [k0_pay15]
  rw [ofBits_neg_inf]

/-- A value row of the accumulator after a step. -/
theorem step_row (m : FVec Ideal S1x512 .f32) (a : FVec Ideal S80x512 .f32) (s : FVec Ideal S512x512 .f32) (v : Vec Ideal S1x64x512 .bf16) (r : Fin 64) (j : Fin 512) :
    k0_pay16 k0_pay2 s m a v (ix2 ⟨r.val, by omega⟩ j)
      = Ideal.exp (m (ix2 0 j) - k0_pay15 s m (ix2 0 j)) * a (ix2 ⟨r.val, by omega⟩ j)
        + ∑ i : Fin 512, v (ix3 0 r i) * Ideal.exp (s (ix2 i j) - k0_pay15 s m (ix2 0 j)) := by
  pointwise [k0_pay16, k0_pay2]

/-- The bit one as a number. -/
theorem one_word : (FloatOps.sitofp .f32 (BitVec.setWidth 32 1#1) : Ideal .f32) = (1 : EReal) := by
  show ((((BitVec.setWidth 32 1#1).toInt : ℤ) : ℝ) : EReal) = 1
  rw [show (BitVec.setWidth 32 1#1).toInt = 1 by decide]
  norm_num

/-- The row of the sums of weights after a step. -/
theorem step_ones (m : FVec Ideal S1x512 .f32) (a : FVec Ideal S80x512 .f32) (s : FVec Ideal S512x512 .f32) (v : Vec Ideal S1x64x512 .bf16) (j : Fin 512) :
    k0_pay16 k0_pay2 s m a v (ix2 64 j)
      = Ideal.exp (m (ix2 0 j) - k0_pay15 s m (ix2 0 j)) * a (ix2 64 j)
        + ∑ i : Fin 512, 1 * Ideal.exp (s (ix2 i j) - k0_pay15 s m (ix2 0 j)) := by
  pointwise [k0_pay16, k0_pay2]
  refine congrArg (_ + ·) (Finset.sum_congr rfl fun i _ => ?_)
  rw [one_word, one_mul]

/-- The quotient a trip stores, transposed, the two heads side by side. -/
theorem quot_apply (a b : FVec Ideal S80x512 .f32) (j : Fin 512) (l : Fin 128) :
    k0_pay7 a b (ix2 j l) = if h : l.val < 64 then Ideal.div (a (ix2 ⟨l.val, by omega⟩ j)) (a (ix2 64 j))
      else Ideal.div (b (ix2 ⟨l.val - 64, by omega⟩ j)) (b (ix2 64 j)) := by
  pointwise [k0_pay7]

/-- A position's chunk of 64, as the program divides. -/
theorem fdiv_at : ∀ i : Fin 512, (Scalar.select
        (IntOp.andi
          (IntOp.cmpi CmpIPredicate.ne
            (IntOp.subi (BitVec.setWidth 32 (IntOp.cmpi CmpIPredicate.sgt (BitVec.ofNat 32 i.val) 0#32))
              (BitVec.setWidth 32 (IntOp.cmpi CmpIPredicate.slt (BitVec.ofNat 32 i.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 i.val) 64#32) 0#32))
        (IntOp.subi (IntOp.divsi ArithUnit.vector (BitVec.ofNat 32 i.val) 64#32) 1#32)
        (IntOp.divsi ArithUnit.vector (BitVec.ofNat 32 i.val) 64#32)) = BitVec.ofNat 32 (i.val / 64) := by decide +kernel

theorem sle_chunk : ∀ a b : Fin 8, IntOp.cmpi CmpIPredicate.sle (BitVec.ofNat 32 a.val) (BitVec.ofNat 32 b.val) = if a.val ≤ b.val then 1#1 else 0#1 := by
  decide +kernel

/-- The diagonal block's mask: the key's chunk is not after the query's. -/
theorem dmask_apply (i j : Fin 512) : dmask (ix2 i j) = if i.val / 64 ≤ j.val / 64 then 1#1 else 0#1 := by
  pointwise [dmask, k0_pay1, k0_pay57, k0_pay58, k0_pay59, k0_pay60, k0_pay61]
  rw [fdiv_at i, fdiv_at j]
  exact sle_chunk ⟨i.val / 64, by omega⟩ ⟨j.val / 64, by omega⟩

/-- The masked scores of the diagonal block. -/
theorem mskd_apply (s : FVec Ideal S512x512 .f32) (i j : Fin 512) :
    mskd s (ix2 i j) = if i.val / 64 ≤ j.val / 64 then s (ix2 i j) else ⊥ := by
  pointwise [mskd, k0_pay44]
  rw [dmask_apply, mask_bot]
  split <;> rfl

/-- The scores of one query column, block by block, masked in block `k`. -/
def colS (q : Vec Ideal S512x128 .bf16) (K : ℕ → Vec Ideal S512x128 .bf16) (k : ℕ) (j : Fin 512) : Blk := fun b i =>
  if b = k then mskd (k0_pay8 q (K b)) (ix2 i j) else k0_pay8 q (K b) (ix2 i j)

/-- One row of the values, block by block. -/
def rowV (V : ℕ → Vec Ideal S1x64x512 .bf16) (r : Fin 64) : Blk := fun b i => V b (ix3 0 r i)

theorem init_max (j : Fin 512) : k0_pay3 (F := Ideal) (ix2 0 j) = ⊥ := by
  pointwise [k0_pay3]
  rfl

theorem init_acc (r : Fin 80) (j : Fin 512) : k0_pay4 (F := Ideal) (ix2 r j) = 0 := by
  pointwise [k0_pay4]

/-- One step of a column, read off a step of the blocks. -/
theorem stp_col (a : HState Ideal) (s : FVec Ideal S512x512 .f32) (v : Vec Ideal S1x64x512 .bf16) (j : Fin 512) (S : Blk) (n : ℕ)
    (hs : ∀ i, s (ix2 i j) = S n i) (ha : a.1 (ix2 0 j) = mx S n) :
    (stp a s v).1 (ix2 0 j) = mx S (n + 1)
      ∧ (∀ (r : Fin 64) (V : Blk), (∀ i, v (ix3 0 r i) = V n i) → a.2 (ix2 ⟨r.val, by omega⟩ j) = ac S V n →
          (stp a s v).2 (ix2 ⟨r.val, by omega⟩ j) = ac S V (n + 1))
      ∧ (a.2 (ix2 64 j) = ac S (fun _ _ => 1) n → (stp a s v).2 (ix2 64 j) = ac S (fun _ _ => 1) (n + 1)) := by
  have e : k0_pay15 s a.1 (ix2 0 j) = mx S (n + 1) := by
    rw [step_max, ha, mx]
    exact congrArg (fun f => max (mx S n) ((Finset.univ : Finset (Fin 512)).fold max ⊥ f)) (funext hs)
  refine ⟨e, fun r V hv hr => ?_, fun hr => ?_⟩
  · refine (step_row a.1 a.2 s v r j).trans ?_
    rw [e, ha, hr, ac]
    exact congrArg (_ + ·) (Finset.sum_congr rfl fun i _ => by rw [hv, hs])
  · refine (step_ones a.1 a.2 s v j).trans ?_
    rw [e, ha, hr, ac]
    exact congrArg (_ + ·) (Finset.sum_congr rfl fun i _ => by rw [hs])

/-- A column of a head's state after `n` unmasked blocks. -/
theorem hst_col (q : Vec Ideal S512x128 .bf16) (K : ℕ → Vec Ideal S512x128 .bf16) (V : ℕ → Vec Ideal S1x64x512 .bf16) (k : ℕ) (j : Fin 512) :
    ∀ n ≤ k, (hst q K V n).1 (ix2 0 j) = mx (colS q K k j) n
      ∧ (∀ r : Fin 64, (hst q K V n).2 (ix2 ⟨r.val, by omega⟩ j) = ac (colS q K k j) (rowV V r) n)
      ∧ (hst q K V n).2 (ix2 64 j) = ac (colS q K k j) (fun _ _ => 1) n
  | 0, _ => ⟨init_max j, fun r => init_acc ⟨r.val, by omega⟩ j, init_acc 64 j⟩
  | n + 1, hn => by
    obtain ⟨h1, h2, h3⟩ := hst_col q K V k j n (by omega)
    obtain ⟨g1, g2, g3⟩ := stp_col (hst q K V n) (k0_pay8 q (K n)) (V n) j (colS q K k j) n
      (fun i => by rw [colS, if_neg (by omega)]) h1
    exact ⟨g1, fun r => g2 r (rowV V r) (fun i => rfl) (h2 r), g3 h3⟩

/-- A column of a head's accumulator after the diagonal block. -/
theorem hfin_col (q : Vec Ideal S512x128 .bf16) (K : ℕ → Vec Ideal S512x128 .bf16) (V : ℕ → Vec Ideal S1x64x512 .bf16) (k : ℕ) (j : Fin 512) :
    (∀ r : Fin 64, hfin q K V k (ix2 ⟨r.val, by omega⟩ j) = ac (colS q K k j) (rowV V r) (k + 1))
      ∧ hfin q K V k (ix2 64 j) = ac (colS q K k j) (fun _ _ => 1) (k + 1) := by
  obtain ⟨h1, h2, h3⟩ := hst_col q K V k j k le_rfl
  obtain ⟨g1, g2, g3⟩ := stp_col (hst q K V k) (mskd (k0_pay8 q (K k))) (V k) j (colS q K k j) k
    (fun i => by rw [colS, if_pos rfl]) h1
  exact ⟨fun r => g2 r (rowV V r) (fun i => rfl) (h2 r), g3 h3⟩

/-- What a trip stores, read at a query and a lane: the online quotient of the lane's head. -/
theorem tripPay_apply (x2 x3 : Vec Ideal S4096x256 .bf16) (x4 : Vec Ideal S8x128x512 .bf16) (k : ℕ) (j : Fin 512) (l : Fin 128) :
    tripPay x2 x3 x4 k (ix2 j l)
      = Ideal.div (ac (colS (kblk x2 (l.val / 64) k) (kblk x3 (l.val / 64)) k j) (rowV (vblk x4 (l.val / 64)) ⟨l.val % 64, Nat.mod_lt _ (by decide)⟩) (k + 1))
          (ac (colS (kblk x2 (l.val / 64) k) (kblk x3 (l.val / 64)) k j) (fun _ _ => 1) (k + 1)) := by
  unfold tripPay
  rw [quot_apply]
  have hl := l.isLt
  by_cases h : l.val < 64
  · rw [dif_pos h, show l.val / 64 = 0 by omega]
    obtain ⟨g1, g2⟩ := hfin_col (kblk x2 0 k) (kblk x3 0) (vblk x4 0) k j
    rw [g2, ← g1]
    exact congrArg (fun r : Fin 80 => Ideal.div (hfin (kblk x2 0 k) (kblk x3 0) (vblk x4 0) k (ix2 r j)) _) (Fin.ext (by show l.val = l.val % 64; omega))
  · rw [dif_neg h, show l.val / 64 = 1 by omega]
    obtain ⟨g1, g2⟩ := hfin_col (kblk x2 1 k) (kblk x3 1) (vblk x4 1) k j
    rw [g2, ← g1]
    exact congrArg (fun r : Fin 80 => Ideal.div (hfin (kblk x2 1 k) (kblk x3 1) (vblk x4 1) k (ix2 r j)) _) (Fin.ext (by show l.val - 64 = l.val % 64; omega))

end Cert.Proof.KernelIdeal

end
-- ==== Proof.OutBlock.lean ====
module
public import proofs.«01_k».proof.Proof.Column
public import proofs.«01_k».proof.Proof.RunIdeal
public import Idealize.ShloMosaic.Lib.Pipeline.CanonAppend
@[expose] public section
set_option maxRecDepth 16384
set_option maxHeartbeats 1000000
noncomputable section

/-!
# The attention kernel: what a grid point leaves in its output block

Row `r` of the block is stored by the trip over query block `r / 512`, at row `r % 512` of what that trip stores.
-/

namespace Cert.Proof.KernelIdeal
open Cert.KernelIdeal Cert.KernelIdeal.Gen
open Idealize.ShloMosaic Idealize.ShloMosaic.TcCoe
variable (m : (ℓ : Loc nD τ sig) → Buf (Elt Ideal) ℓ)

/-- The output block of three input blocks, by query blocks. -/
def outBlk (x2 x3 : Vec Ideal S4096x256 .bf16) (x4 : Vec Ideal S8x128x512 .bf16) : Vec Ideal S4096x128 .bf16 := fun y =>
  tripPay x2 x3 x4 ((y 0).val / 512) (ix2 ⟨(y 0).val % 512, Nat.mod_lt _ (by decide)⟩ (y 1))

/-- Every piece stored is the block `outBlk` at the piece's rows. -/
theorem pcs_agree (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S8x128x512 .bf16) (harg4 : arg4.IsWhole) (arg5 : Memref sig .tc .vmem S4096x128 .bf16) (harg5 : arg5.IsWhole)
    (x2 : Vec Ideal S4096x256 .bf16) (x3 : Vec Ideal S4096x256 .bf16) (x4 : Vec Ideal S8x128x512 .bf16) (k : ℕ) :
    ∀ p ∈ pcs (F := Ideal) c i arg2 harg2 arg3 harg3 arg4 harg4 arg5 harg5 k0_pay57 k0_pay58 k0_pay59 k0_pay60 k0_pay61 (harg2.unread x2) (harg3.unread x3) (harg4.unread x4) k,
      ∀ x, p.2 x = outBlk x2 x3 x4 (p.1.emb x) := by
  induction k with
  | zero => intro p hp; simp [pcs] at hp
  | succ k ih =>
    intro p hp
    rw [pcs.eq_2] at hp
    rcases List.mem_append.mp hp with hp | hp
    · by_cases h : k < k0_t1_loop.trips
      · rw [dif_pos h, tripL_pay] at hp
        obtain rfl := List.mem_singleton.mp hp
        intro x
        have h0 : ((Rect.unit (s := S4096x128) (k0_off31 ⟨k, h⟩) S512x128.size (k0_off31_inb ⟨k, h⟩)).emb x 0).val = 512 * k + (x 0).val := by
          exact (ValueKit.rect_emb_unit_val _ _ _ x 0).trans (congrArg (· + (x 0).val) (congrFun (off31_at ⟨k, h⟩) 0))
        have h1 : ((Rect.unit (s := S4096x128) (k0_off31 ⟨k, h⟩) S512x128.size (k0_off31_inb ⟨k, h⟩)).emb x 1).val = (x 1).val := by
          exact ((ValueKit.rect_emb_unit_val _ _ _ x 1).trans (congrArg (· + (x 1).val) (congrFun (off31_at ⟨k, h⟩) 1))).trans (Nat.zero_add _)
        have hx : (x 0).val < 512 := (x 0).isLt
        unfold outBlk
        show tripPay x2 x3 x4 k x = _
        have e0 : (512 * k + (x 0).val) / 512 = k := by omega
        have e1 : (512 * k + (x 0).val) % 512 = (x 0).val := by omega
        simp only [h0, e0, e1]
        refine congrArg (tripPay x2 x3 x4 k) (funext fun a => ?_)
        match a with
        | ⟨0, _⟩ => rfl
        | ⟨1, _⟩ => exact Fin.ext h1.symm
      · rw [dif_neg h] at hp; simp at hp
    · exact ih p hp

/-- What a grid point leaves in its output block. -/
theorem ptOut_eq (c : Dev nD) (t : Fin cfg0.N) : ptOut m c t = outBlk (iblk m c 0 t) (iblk m c 1 t) (iblk m c 2 t) := by
  funext y
  unfold ptOut ptL
  rw [← List.append_nil (bodyL _ _ _ _ _ _ _ _ _ _ _ _ _)]
  exact View.canon_append_of_pieces (outBlk (iblk m c 0 t) (iblk m c 1 t) (iblk m c 2 t)) [] _
    (pcs_agree c _ _ _ _ _ _ _ _ _ _ _ _ _) y (bodyL_cover (F := Ideal) c _ _ _ _ _ _ _ _ _ _ _ _ y)

end Cert.Proof.KernelIdeal

end
-- ==== Proof.RefValue.lean ====
module
public import proofs.«01_k».proof.Proof.Softmax
public import proofs.«01_k».proof.Proof.Gen.ReferenceIdeal.Run
public import Idealize.ShloMosaic.Lib.Pointwise
@[expose] public section
set_option maxRecDepth 16384
set_option maxHeartbeats 4000000
noncomputable section

/-!
# The reference's result, element by element

The reference's operations in stages, and its result read at a row and a column: the softmax average of one head's
values over all 4096 keys of the row's sequence, the keys of later chunks masked by −∞.
-/

namespace Cert.Proof.Ref
open Cert.ReferenceIdeal Cert.ReferenceIdeal.Gen
open Idealize.ShloMosaic Idealize.ShloMosaic.TcCoe
open Cert.Proof.Softmax

/-- The scores, at sequence, head, query and key. -/
def scores (A0 A1 : FVec Ideal S32768x1024 .bf16) : FVec Ideal S8x8x4096x4096 .f32 :=
  Host.dotGeneral dot_S8x4096x8x128_S8x4096x8x128_S8x8x4096x4096_3_3_1_1_02_02 none
    (shapeCast _ (extf .f32 A0 bitsLt_bf16_f32) shapeCasts_S32768x1024_S8x4096x8x128)
    (shapeCast _ (extf .f32 A1 bitsLt_bf16_f32) shapeCasts_S32768x1024_S8x4096x8x128)

/-- A position's chunk. -/
def chunk : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The mask, at query and key. -/
def rmask : IVec S4096x4096 1 :=
  cmpi .sle (broadcastInDim S4096x4096 ![0, 1] bcast_S1x4096_S4096x4096_0_1 (broadcastInDim S1x4096 ![1] bcast_S4096_S1x4096_1 chunk))
    (broadcastInDim S4096x4096 ![0, 1] bcast_S4096x1_S4096x4096_0_1 (broadcastInDim S4096x1 ![0] bcast_S4096_S4096x1_0 chunk))

/-- The masked scores. -/
def masked (A0 A1 : FVec Ideal S32768x1024 .bf16) : FVec Ideal S8x8x4096x4096 .f32 :=
  select (broadcastInDim S8x8x4096x4096 ![2, 3] bcast_S4096x4096_S8x8x4096x4096_2_3 rmask) (scores A0 A1)
    (broadcastInDim S8x8x4096x4096 ![] bcast_S_S8x8x4096x4096 (id (constant S_ .f32 0xFF800000#32)))

/-- Each row's maximum. -/
def rmax (x : FVec Ideal S8x8x4096x4096 .f32) : FVec Ideal S8x8x4096 .f32 :=
  Host.reduce FloatOps.maximumf x (constant S_ .f32 0xFF800000#32) reducesTo_S8x8x4096x4096_S8x8x4096_d3 h_S_

/-- The weights of a score array before the division, given its row maxima. -/
def expoOf (x : FVec Ideal S8x8x4096x4096 .f32) (r : FVec Ideal S8x8x4096 .f32) : FVec Ideal S8x8x4096x4096 .f32 :=
  Host.exp (subf x (broadcastInDim S8x8x4096x4096 ![0, 1, 2, 3] bcast_S8x8x4096x1_S8x8x4096x4096_0_1_2_3 (broadcastInDim S8x8x4096x1 ![0, 1, 2] bcast_S8x8x4096_S8x8x4096x1_0_1_2
    (maximumf (broadcastInDim S8x8x4096 ![] bcast_S_S8x8x4096 (constant S_ .f32 0xFF800000#32)) r))))

/-- The weights of a score array before the division. -/
def expo (x : FVec Ideal S8x8x4096x4096 .f32) : FVec Ideal S8x8x4096x4096 .f32 := expoOf x (rmax x)

/-- Each row of weights divided by its sum. -/
def normed (e : FVec Ideal S8x8x4096x4096 .f32) : FVec Ideal S8x8x4096x4096 .f32 :=
  Host.divf e (broadcastInDim S8x8x4096x4096 ![0, 1, 2, 3] bcast_S8x8x4096x1_S8x8x4096x4096_0_1_2_3 (broadcastInDim S8x8x4096x1 ![0, 1, 2] bcast_S8x8x4096_S8x8x4096x1_0_1_2
    (Host.reduceAdd e (constant S_ .f32 0x00000000#32) reducesTo_S8x8x4096x4096_S8x8x4096_d3 h_S_)))

/-- The result from the weights and the values. -/
def result (p : FVec Ideal S8x8x4096x4096 .f32) (A2 : FVec Ideal S64x512x512 .bf16) : FVec Ideal S32768x512 .bf16 :=
  truncf .bf16 (shapeCast _ (transpose S8x4096x8x64 [0, 3, 1, 2] (Host.dotGeneral dot_S8x4096x8x64_S8x8x4096x4096_S8x8x64x4096_1_3_3_2_02_01 none (shapeCast _ (transpose S8x8x512x8x64 [0, 1, 4, 2, 3] (shapeCast _ (extf .f32 A2 bitsLt_bf16_f32) shapeCasts_S64x512x512_S8x8x8x64x512) transposes_S8x8x8x64x512_S8x8x512x8x64_0_1_4_2_3) shapeCasts_S8x8x512x8x64_S8x4096x8x64) (extf .f32 (truncf .bf16 p bitsLt_bf16_f32) bitsLt_bf16_f32)) transposes_S8x8x64x4096_S8x4096x8x64_0_3_1_2) shapeCasts_S8x4096x8x64_S32768x512) bitsLt_bf16_f32

/-- The reference's result of its three arguments. -/
def REF (A0 A1 : FVec Ideal S32768x1024 .bf16) (A2 : FVec Ideal S64x512x512 .bf16) : FVec Ideal S32768x512 .bf16 :=
  result (normed (expo (masked A0 A1))) A2

theorem res_eq (m : (ℓ : Loc nD τ sig) → Buf (Elt Ideal) ℓ) (c : Dev nD) :
    Value.res_main_v33 (F := Ideal) m c = REF (m ((c.tc : Thread nD τ).loc main_arg0)) (m ((c.tc : Thread nD τ).loc main_arg1)) (m ((c.tc : Thread nD τ).loc main_arg2)) := rfl

/-- A score of sequence `b`, head `h`: query `q` times key `k`. -/
def sc (A0 A1 : FVec Ideal S32768x1024 .bf16) (b h : Fin 8) (q k : Fin 4096) : EReal :=
  ∑ d : Fin 128, A0 (ix2 ⟨b.val * 4096 + q.val, by omega⟩ ⟨h.val * 128 + d.val, by omega⟩) * A1 (ix2 ⟨b.val * 4096 + k.val, by omega⟩ ⟨h.val * 128 + d.val, by omega⟩)

/-- The masked score: −∞ where the key's chunk is after the query's. -/
def tsc (A0 A1 : FVec Ideal S32768x1024 .bf16) (b h : Fin 8) (q k : Fin 4096) : EReal :=
  if k.val / 64 ≤ q.val / 64 then sc A0 A1 b h q k else ⊥

theorem ofBits_ninf : Ideal.ofBits .f32 0xFF800000#32 = ⊥ := by
  simp [Ideal.ofBits, Ideal.ieee]

/-- A row maximum over the last of four axes, at any extents. -/
theorem hostMax {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c) = (Finset.univ : Finset (Fin n3)).fold max (init (Shape.Idx.first hu)) fun k => x (ix4 a b c k) := by
  rw [Host.reduce_eq_fold, Shape.ReducesTo.fold_fiber_r4_a3]
  rfl

theorem scores_apply (A0 A1 : FVec Ideal S32768x1024 .bf16) (b h : Fin 8) (q k : Fin 4096) :
    scores A0 A1 (ix4 b h q k) = sc A0 A1 b h q k := by
  pointwise [scores, sc]

/-- The chunk number of a position, as the floor division by 64 computes it. -/
def chunkW (x : BitVec 32) : BitVec 32 :=
  Scalar.select
    (IntOp.andi
      (IntOp.cmpi CmpIPredicate.ne
        (if x = 0 then (0 : BitVec 32) else if x.msb = true then (-1 : BitVec 32) else (1 : BitVec 32))
        (if (64#32 : BitVec 32) = 0 then (0 : BitVec 32) else if (64#32 : BitVec 32).msb = true then (-1 : BitVec 32) else (1 : BitVec 32)))
      (IntOp.cmpi CmpIPredicate.ne (IntOp.remsi ArithUnit.host x 64#32) 0#32))
    (IntOp.subi (IntOp.divsi ArithUnit.host x 64#32) 1#32)
    (IntOp.divsi ArithUnit.host x 64#32)

theorem chunk_at : ∀ q : Fin 4096, chunkW (BitVec.ofNat 32 q.val) = BitVec.ofNat 32 (q.val / 64) := by decide +kernel

theorem chunk_apply (q : Fin 4096) : chunk (ix1 q) = BitVec.ofNat 32 (q.val / 64) := by
  pointwise [chunk]
  exact chunk_at q

theorem sle_at : ∀ a b : Fin 64, IntOp.cmpi CmpIPredicate.sle (BitVec.ofNat 32 a.val) (BitVec.ofNat 32 b.val) = if a.val ≤ b.val then 1#1 else 0#1 := by
  decide +kernel

theorem rmask_apply (q k : Fin 4096) : rmask (ix2 q k) = if k.val / 64 ≤ q.val / 64 then 1#1 else 0#1 := by
  pointwise [rmask]
  rw [chunk_apply, chunk_apply]
  exact sle_at ⟨k.val / 64, by omega⟩ ⟨q.val / 64, by omega⟩

theorem masked_apply (A0 A1 : FVec Ideal S32768x1024 .bf16) (b h : Fin 8) (q k : Fin 4096) :
    masked A0 A1 (ix4 b h q k) = tsc A0 A1 b h q k := by
  pointwise [masked]
  rw [rmask_apply, scores_apply, tsc, show (id (constant (F := Ideal) S_ FTy.f32 4286578688#32) ix0 : EReal) = ⊥ from ofBits_ninf]
  split <;> rfl

theorem fill_first (h : 0 < S_.numel) : (constant (F := Ideal) S_ .f32 0xFF800000#32 : FVec Ideal S_ .f32) (Shape.Idx.first h) = (⊥ : EReal) :=
  ofBits_ninf

theorem rmax_apply (x : FVec Ideal S8x8x4096x4096 .f32) (b h : Fin 8) (q : Fin 4096) :
    rmax x (ix3 b h q) = (Finset.univ : Finset (Fin 4096)).fold max ⊥ fun k => x (ix4 b h q k) := by
  have e := hostMax x (constant (F := Ideal) S_ .f32 0xFF800000#32) reducesTo_S8x8x4096x4096_S8x8x4096_d3 h_S_ b h q
  rw [fill_first] at e
  exact e

theorem expoOf_apply (x : FVec Ideal S8x8x4096x4096 .f32) (r : FVec Ideal S8x8x4096 .f32) (b h : Fin 8) (q k : Fin 4096) :
    expoOf x r (ix4 b h q k) = Ideal.exp (x (ix4 b h q k) - max (Ideal.ofBits .f32 0xFF800000#32) (r (ix3 b h q))) := by
  pointwise [expoOf]

theorem expo_apply (x : FVec Ideal S8x8x4096x4096 .f32) (b h : Fin 8) (q k : Fin 4096) :
    expo x (ix4 b h q k) = Ideal.exp (x (ix4 b h q k) - (Finset.univ : Finset (Fin 4096)).fold max ⊥ fun k => x (ix4 b h q k)) := by
  have e := expoOf_apply x (rmax x) b h q k
  rw [rmax_apply, ofBits_ninf, max_eq_right bot_le] at e
  exact e

theorem normed_apply (x : FVec Ideal S8x8x4096x4096 .f32) (b h : Fin 8) (q k : Fin 4096) :
    normed x (ix4 b h q k) = Ideal.div (x (ix4 b h q k)) (∑ y, x (ix4 b h q y)) := by
  pointwise [normed]

theorem result_apply (x : FVec Ideal S8x8x4096x4096 .f32) (A2 : FVec Ideal S64x512x512 .bf16) (r : Fin 32768) (l : Fin 512) :
    result x A2 (ix2 r l) = ∑ y : Fin 4096, A2 (ix3 ⟨r.val / 4096 * 8 + y.val / 512, by omega⟩ l ⟨y.val % 512, by omega⟩) *
        x (ix4 ⟨r.val / 4096, by omega⟩ ⟨l.val / 64, by omega⟩ ⟨r.val % 4096, by omega⟩ y) := by
  pointwise [result]

/-- The reference's result at a row and a column. -/
theorem REF_apply (A0 A1 : FVec Ideal S32768x1024 .bf16) (A2 : FVec Ideal S64x512x512 .bf16) (r : Fin 32768) (l : Fin 512)
    (T : Fin 4096 → EReal) (hT : T = tsc A0 A1 ⟨r.val / 4096, by omega⟩ ⟨l.val / 64, by omega⟩ ⟨r.val % 4096, by omega⟩) :
    REF A0 A1 A2 (ix2 r l) = ∑ y : Fin 4096, A2 (ix3 ⟨r.val / 4096 * 8 + y.val / 512, by omega⟩ l ⟨y.val % 512, by omega⟩) *
      Ideal.div (Ideal.exp (T y - (Finset.univ : Finset (Fin 4096)).fold max ⊥ T)) (∑ z, Ideal.exp (T z - (Finset.univ : Finset (Fin 4096)).fold max ⊥ T)) := by
  unfold REF
  rw [result_apply]
  refine Finset.sum_congr rfl fun y _ => congrArg (_ * ·) ?_
  rw [normed_apply]
  have e : ∀ z, expo (masked A0 A1) (ix4 ⟨r.val / 4096, by omega⟩ ⟨l.val / 64, by omega⟩ ⟨r.val % 4096, by omega⟩ z)
      = Ideal.exp (T z - (Finset.univ : Finset (Fin 4096)).fold max ⊥ T) := by
    intro z
    rw [expo_apply, masked_apply, hT]
    exact congrArg (fun f => Ideal.exp (_ - (Finset.univ : Finset (Fin 4096)).fold max ⊥ f)) (funext fun k => masked_apply A0 A1 _ _ _ k)
  rw [e, funext e]

end Cert.Proof.Ref

end
-- ==== Proof.Point.lean ====
module
public import proofs.«01_k».proof.Proof.Column
public import proofs.«01_k».proof.Proof.Softmax
public import proofs.«01_k».proof.Proof.RefValue
@[expose] public section
set_option maxRecDepth 16384
set_option maxHeartbeats 1000000
noncomputable section

/-!
# One element of the attention: the kernel's quotient is the reference's weighted sum

The three input blocks of a grid point are rows of sequence `b` and two heads `2 p`, `2 p + 1`. At finite queries
and keys an element of the output block is the reference's element at the place where the block lies.
-/

namespace Cert.Proof.Point
open Cert.KernelIdeal Cert.KernelIdeal.Gen Cert.Proof.KernelIdeal Cert.Proof.Softmax
open Idealize.ShloMosaic Idealize.ShloMosaic.TcCoe
open scoped BigOperators

variable (A0 A1 : FVec Ideal S32768x1024 .bf16) (A2 : FVec Ideal S64x512x512 .bf16)

/-- Every element is a real number. -/
def Fin2 (A : FVec Ideal S32768x1024 .bf16) : Prop := ∀ i, ∃ r : ℝ, (A i : EReal) = (r : EReal)

/-- Scores of finite queries and keys are finite. -/
theorem sc_real (f0 : Fin2 A0) (f1 : Fin2 A1) (b h : Fin 8) (q k : Fin 4096) : ∃ r : ℝ, Ref.sc A0 A1 b h q k = (r : EReal) := by
  unfold Ref.sc
  refine Finset.sum_induction _ (fun x : EReal => ∃ r : ℝ, x = (r : EReal)) ?_ ⟨0, rfl⟩ fun d _ => ?_
  · rintro _ _ ⟨a, rfl⟩ ⟨c, rfl⟩; exact ⟨a + c, (EReal.coe_add a c).symm⟩
  · obtain ⟨a, ha⟩ := f0 (ix2 ⟨b.val * 4096 + q.val, by omega⟩ ⟨h.val * 128 + d.val, by omega⟩)
    obtain ⟨c, hc⟩ := f1 (ix2 ⟨b.val * 4096 + k.val, by omega⟩ ⟨h.val * 128 + d.val, by omega⟩)
    exact ⟨a * c, by rw [ha, hc, EReal.coe_mul]⟩

theorem tsc_ne_top (f0 : Fin2 A0) (f1 : Fin2 A1) (b h : Fin 8) (q k : Fin 4096) : Ref.tsc A0 A1 b h q k ≠ ⊤ := by
  unfold Ref.tsc
  split
  · obtain ⟨r, hr⟩ := sc_real A0 A1 f0 f1 b h q k
    rw [hr]; exact EReal.coe_ne_top r
  · exact bot_ne_top

theorem tsc_ne_bot (f0 : Fin2 A0) (f1 : Fin2 A1) (b h : Fin 8) (q k : Fin 4096) (hk : k.val / 64 ≤ q.val / 64) : Ref.tsc A0 A1 b h q k ≠ ⊥ := by
  unfold Ref.tsc
  rw [if_pos hk]
  obtain ⟨r, hr⟩ := sc_real A0 A1 f0 f1 b h q k
  rw [hr]; exact EReal.coe_ne_bot r

variable (x2 x3 : Vec Ideal S4096x256 .bf16) (x4 : Vec Ideal S8x128x512 .bf16) (b : Fin 8) (p : Fin 4)

/-- The block of queries (or keys) is sequence `b`'s rows, the lanes of the two heads. -/
def IsRows (x : Vec Ideal S4096x256 .bf16) (A : FVec Ideal S32768x1024 .bf16) : Prop :=
  ∀ (r : Fin 4096) (e : Fin 256), x (ix2 r e) = A (ix2 ⟨b.val * 4096 + r.val, by omega⟩ ⟨p.val * 256 + e.val, by omega⟩)

/-- The block of values is sequence `b`'s key blocks, the rows of the two heads. -/
def IsVals (x : Vec Ideal S8x128x512 .bf16) (A : FVec Ideal S64x512x512 .bf16) : Prop :=
  ∀ (n : Fin 8) (e : Fin 128) (i : Fin 512), x (ix3 n e i) = A (ix3 ⟨b.val * 8 + n.val, by omega⟩ ⟨p.val * 128 + e.val, by omega⟩ i)

/-- A score of the kernel is the reference's. -/
theorem score_eq (h2 : IsRows b p x2 A0) (h3 : IsRows b p x3 A1) (hh : ℕ) (hhh : hh < 2) (k n : ℕ) (hk : k < 8) (hn : n < 8) (i j : Fin 512) :
    k0_pay8 (kblk x2 hh k) (kblk x3 hh n) (ix2 i j) = Ref.sc A0 A1 b ⟨2 * p.val + hh, by omega⟩ ⟨512 * k + j.val, by omega⟩ (key n i) := by
  rw [score_apply]
  unfold Ref.sc
  refine Finset.sum_congr rfl fun d _ => ?_
  have hd := d.isLt
  have hi := i.isLt
  have hj := j.isLt
  have e2 : kblk x2 hh k (ix2 j d) = A0 (ix2 ⟨b.val * 4096 + (512 * k + j.val), by omega⟩ ⟨(2 * p.val + hh) * 128 + d.val, by omega⟩) := by
    refine (h2 ⟨(512 * k + j.val) % 4096, by omega⟩ ⟨(128 * hh + d.val) % 256, by omega⟩).trans ?_
    congr 2 <;> exact Fin.ext (by dsimp only; omega)
  have e3 : kblk x3 hh n (ix2 i d) = A1 (ix2 ⟨b.val * 4096 + (key n i).val, by omega⟩ ⟨(2 * p.val + hh) * 128 + d.val, by omega⟩) := by
    refine (h3 ⟨(512 * n + i.val) % 4096, by omega⟩ ⟨(128 * hh + d.val) % 256, by omega⟩).trans ?_
    congr 2 <;> exact Fin.ext (by dsimp only [key]; omega)
  rw [e2, e3]
  exact mul_comm (G := EReal) _ _

/-- The kernel's column of scores for query `512 k + j` is the reference's masked row, up to the diagonal block. -/
theorem col_eq (h2 : IsRows b p x2 A0) (h3 : IsRows b p x3 A1) (hh : ℕ) (hhh : hh < 2) (k n : ℕ) (hk : k < 8) (hn : n ≤ k) (i j : Fin 512) :
    Ref.tsc A0 A1 b ⟨2 * p.val + hh, by omega⟩ ⟨512 * k + j.val, by omega⟩ (key n i) = colS (kblk x2 hh k) (kblk x3 hh) k j n i := by
  have hi := i.isLt
  have hj := j.isLt
  have hv : (key n i).val = 512 * n + i.val := key_val (by omega) i
  unfold colS Ref.tsc
  rw [hv]
  by_cases e : n = k
  · subst e
    rw [if_pos rfl, mskd_apply, score_eq A0 A1 x2 x3 b p h2 h3 hh hhh n n hk hk i j]
    by_cases hc : i.val / 64 ≤ j.val / 64
    · rw [if_pos hc, if_pos (by dsimp only; omega)]
    · rw [if_neg hc, if_neg (by dsimp only; omega)]
  · rw [if_neg e, score_eq A0 A1 x2 x3 b p h2 h3 hh hhh k n hk (by omega) i j, if_pos (by dsimp only; omega)]

/-- An element of the output block is the reference's. -/
theorem point (f0 : Fin2 A0) (f1 : Fin2 A1) (h2 : IsRows b p x2 A0) (h3 : IsRows b p x3 A1) (h4 : IsVals b p x4 A2) (r : Fin 4096) (l : Fin 128) :
    tripPay x2 x3 x4 (r.val / 512) (ix2 ⟨r.val % 512, by omega⟩ l)
      = Ref.REF A0 A1 A2 (ix2 ⟨b.val * 4096 + r.val, by omega⟩ ⟨p.val * 128 + l.val, by omega⟩) := by
  have hl := l.isLt
  have hr := r.isLt
  obtain ⟨k, hk⟩ : ∃ k, k = r.val / 512 := ⟨_, rfl⟩
  obtain ⟨j, hj⟩ : ∃ j : Fin 512, j = ⟨r.val % 512, by omega⟩ := ⟨_, rfl⟩
  obtain ⟨hh, hhe⟩ : ∃ hh, hh = l.val / 64 := ⟨_, rfl⟩
  have hjv : j.val = r.val % 512 := congrArg Fin.val hj
  have hk8 : k < 8 := by omega
  have hh2 : hh < 2 := by omega
  rw [← hk, ← hj, tripPay_apply, ← hhe,
    Ref.REF_apply A0 A1 A2 _ _ (Ref.tsc A0 A1 b ⟨2 * p.val + hh, by omega⟩ ⟨512 * k + j.val, by omega⟩)
      (by congr 1 <;> exact Fin.ext (by dsimp only; omega))]
  have hT : ∀ n ≤ k, ∀ i, Ref.tsc A0 A1 b ⟨2 * p.val + hh, by omega⟩ ⟨512 * k + j.val, by omega⟩ (key n i) = colS (kblk x2 hh k) (kblk x3 hh) k j n i :=
    fun n hn i => col_eq A0 A1 x2 x3 b p h2 h3 hh hh2 k n hk8 hn i j
  refine quot _ _ k hk8 _ (fun y : Fin 4096 => A2 (ix3 ⟨(b.val * 4096 + r.val) / 4096 * 8 + y.val / 512, by omega⟩ ⟨p.val * 128 + l.val, by omega⟩ ⟨y.val % 512, by omega⟩)) ?_ hT ?_ ?_
  · intro n hn
    refine ⟨fun i => ?_, 0, ?_⟩
    · rw [← hT n (by omega) i]; exact tsc_ne_top A0 A1 f0 f1 _ _ _ _
    · rw [← hT n (by omega) 0]
      refine tsc_ne_bot A0 A1 f0 f1 _ _ _ _ ?_
      have := key_val (b := n) (by omega) 0
      rw [this]; dsimp only; change (512 * n + 0) / 64 ≤ _; omega
  · intro n hn hkn i
    unfold Ref.tsc
    rw [key_val hn i, if_neg]
    dsimp only; omega
  · intro n hn i
    have hi := i.isLt
    have hv : (key n i).val = 512 * n + i.val := key_val (by omega) i
    unfold rowV vblk
    refine Eq.trans ?_ (h4 ⟨n % 8, by omega⟩ ⟨(64 * hh + l.val % 64) % 128, by omega⟩ i).symm
    congr 2
    all_goals exact Fin.ext (by dsimp only; omega)

end Cert.Proof.Point

end
-- ==== Proof.Finite.lean ====
module
public import proofs.«01_k».proof.Defs
public import proofs.«01_k».proof.Proof.Gen.Pre_finite_qk
public import Idealize.ShloMosaic.Lib.Pointwise
@[expose] public section
set_option maxRecDepth 16384
noncomputable section

/-!
# The precondition, read

`|x| < ∞` at every element of the queries and of the keys says that every one of them is a real number.
-/

namespace Cert.Proof.Finite
open Idealize.ShloMosaic Idealize.ShloMosaic.TcCoe

attribute [local instance] Cert.Pre_finite_qk.Gen.facts

theorem ofBits_inf : Ideal.ofBits .f32 0x7F800000#32 = ⊤ := by
  simp [Ideal.ofBits, Ideal.ieee]

/-- A number whose absolute value is below `∞` is real. -/
theorem real_of_abs (x : EReal) (h : max x (-x) < ⊤) : ∃ r : ℝ, x = (r : EReal) := by
  induction x with
  | bot => simp at h
  | top => simp at h
  | coe r => exact ⟨r, rfl⟩

theorem real_of_cmp (x : EReal) (h : Ideal.cmp .olt (max x (-x)) (Ideal.ofBits .f32 0x7F800000#32) = 1#1) : ∃ r : ℝ, x = (r : EReal) := by
  refine real_of_abs x ?_
  rw [ofBits_inf] at h
  by_contra hc
  have : Ideal.cmp .olt (max x (-x)) ⊤ = 0#1 := by simp only [Ideal.cmp, decide_eq_false hc]; rfl
  rw [this] at h
  exact absurd h (by decide)

theorem fn_fst (A0 A1 : FVec Ideal Cert.Pre_finite_qk.S32768x1024 .bf16) (A2 : FVec Ideal Cert.Pre_finite_qk.S64x512x512 .bf16) (i : Cert.Pre_finite_qk.S32768x1024.Idx) :
    (Cert.Pre_finite_qk.fn (F := Ideal) A0 A1 A2).1 i = Ideal.cmp .olt (max (A0 i : EReal) (-(A0 i : EReal))) (Ideal.ofBits .f32 0x7F800000#32) := rfl

theorem fn_snd (A0 A1 : FVec Ideal Cert.Pre_finite_qk.S32768x1024 .bf16) (A2 : FVec Ideal Cert.Pre_finite_qk.S64x512x512 .bf16) (i : Cert.Pre_finite_qk.S32768x1024.Idx) :
    (Cert.Pre_finite_qk.fn (F := Ideal) A0 A1 A2).2 i = Ideal.cmp .olt (max (A1 i : EReal) (-(A1 i : EReal))) (Ideal.ofBits .f32 0x7F800000#32) := rfl

/-- The precondition makes every query and every key real. -/
theorem pre_real (m : (ℓ : Loc Cert.KernelIdeal.nD Cert.KernelIdeal.τ Cert.KernelIdeal.sig) → Buf (Elt Ideal) ℓ) (h : Cert.Pre_KernelIdeal_finite_qk m) (c : Dev Cert.KernelIdeal.nD) :
    (∀ i : Cert.Pre_finite_qk.S32768x1024.Idx, ∃ r : ℝ, ((m ((c.tc : Thread Cert.KernelIdeal.nD Cert.KernelIdeal.τ).loc Cert.KernelIdeal.main_arg0) : FVec Ideal Cert.Pre_finite_qk.S32768x1024 .bf16) i : EReal) = (r : EReal))
    ∧ (∀ i : Cert.Pre_finite_qk.S32768x1024.Idx, ∃ r : ℝ, ((m ((c.tc : Thread Cert.KernelIdeal.nD Cert.KernelIdeal.τ).loc Cert.KernelIdeal.main_arg1) : FVec Ideal Cert.Pre_finite_qk.S32768x1024 .bf16) i : EReal) = (r : EReal)) :=
  ⟨fun i => real_of_cmp _ ((fn_fst _ _ _ i).symm.trans (congrFun (h c).1 i)),
   fun i => real_of_cmp _ ((fn_snd _ _ _ i).symm.trans (congrFun (h c).2 i))⟩

end Cert.Proof.Finite

end
-- ==== Proof.Value.lean ====
module
public import proofs.«01_k».proof.Proof.OutBlock
public import proofs.«01_k».proof.Proof.Point
public import proofs.«01_k».proof.Proof.Finite
public import Idealize.ShloMosaic.Lib.Pipeline.ValueKit
@[expose] public section
set_option maxRecDepth 16384
set_option maxHeartbeats 1000000
noncomputable section

/-!
# The attention kernel: its result array

Grid point `(b, p)` reads the rows of sequence `b` and the lanes of heads `2 p` and `2 p + 1`, and writes the
corresponding block of the result. The blocks tile the result, so the result is the reference's, element by element.
-/

namespace Cert.Proof.KernelIdeal
open Cert.KernelIdeal Cert.KernelIdeal.Gen
open Idealize.ShloMosaic Idealize.ShloMosaic.TcCoe Idealize.SL.Sem
open Idealize.ShloMosaic.Pipeline (Dat)
variable (m : (ℓ : Loc nD τ sig) → Buf (Elt Ideal) ℓ)

/-- The windows' block indices at a grid point. -/
theorem idx : ∀ t : Fin cfg0.N, win0_0.index t = ![t.val / 4, t.val % 4] ∧ win0_1.index t = ![t.val / 4, t.val % 4]
    ∧ win0_2.index t = ![t.val / 4, t.val % 4, 0] ∧ win0_3.index t = ![t.val / 4, t.val % 4] ∧ t.val < 32 :=
  (by decide +kernel : ∀ t : Fin grid0.N, _)

abbrev argQ (c : Dev nD) : FVec Ideal S32768x1024 .bf16 := m ((c : Thread nD τ).loc main_arg0)
abbrev argK (c : Dev nD) : FVec Ideal S32768x1024 .bf16 := m ((c : Thread nD τ).loc main_arg1)
abbrev argV (c : Dev nD) : FVec Ideal S64x512x512 .bf16 := m ((c : Thread nD τ).loc main_arg2)

theorem rows0 (c : Dev nD) (t : Fin cfg0.N) (b : Fin 8) (p : Fin 4) (hb : b.val = t.val / 4) (hp : p.val = t.val % 4) :
    Point.IsRows b p (iblk m c 0 t) (argQ m c) := by
  intro r e
  blk_ext [iblk, V, idx t]

theorem rows1 (c : Dev nD) (t : Fin cfg0.N) (b : Fin 8) (p : Fin 4) (hb : b.val = t.val / 4) (hp : p.val = t.val % 4) :
    Point.IsRows b p (iblk m c 1 t) (argK m c) := by
  intro r e
  blk_ext [iblk, V, idx t]

theorem vals2 (c : Dev nD) (t : Fin cfg0.N) (b : Fin 8) (p : Fin 4) (hb : b.val = t.val / 4) (hp : p.val = t.val % 4) :
    Point.IsVals b p (iblk m c 2 t) (argV m c) := by
  intro n e i
  blk_ext [iblk, V, idx t]

/-- At finite queries and keys, the kernel's result array is the reference's. -/
theorem final (c : Dev nD) (f0 : Point.Fin2 (argQ m c)) (f1 : Point.Fin2 (argK m c)) :
    (dats m 0 c).arrAt 3 cfg0.N = Ref.REF (argQ m c) (argK m c) (argV m c) := by
  refine (dats m 0 c).arrAt_eq_of_covers 3 _ (by decide +kernel) fun t _ y => ?_
  blk_simp
  rw [dats_after3, ptOut_eq]
  have h32 := (idx t).2.2.2.2
  obtain ⟨b, hb⟩ : ∃ b : Fin 8, b.val = t.val / 4 := ⟨⟨t.val / 4, by omega⟩, rfl⟩
  obtain ⟨p, hp⟩ : ∃ p : Fin 4, p.val = t.val % 4 := ⟨⟨t.val % 4, by omega⟩, rfl⟩
  refine (Point.point (argQ m c) (argK m c) (argV m c) (iblk m c 0 t) (iblk m c 1 t) (iblk m c 2 t) b p f0 f1
    (rows0 m c t b p hb hp) (rows1 m c t b p hb hp) (vals2 m c t b p hb hp) (y 0) (y 1)).trans ?_
  blk_ext [idx t]

end Cert.Proof.KernelIdeal

end
-- ==== Proof.Rows.lean ====
module
public import Idealize.ShloMosaic.Lib.Pointwise
@[expose] public section
noncomputable section

/-!
# The projections of one row

Both programs compute a row of every result from the same row of the input: one product with the joint weight, from
whose columns come the two latents, the keys, queries and values of the other two attentions, and the columns that the
rotary tables combine. Here are those formulas for one row.
-/

namespace Cert.Proof.Rows
open Idealize.ShloMosaic

/-- Column `j` of a row times a matrix. -/
def lin {n k : ℕ} (x : Fin n → EReal) (w : Fin n → Fin k → EReal) (j : Fin k) : EReal := ∑ d : Fin n, x d * w d j

/-- Entry `k` of a normalised row: the row over the root of its mean square, times the gain. `N` is the length. -/
def rms {n : ℕ} (N : EReal) (y g : Fin n → EReal) (k : Fin n) : EReal :=
  y k * Ideal.rsqrt (Ideal.div (∑ j : Fin n, y j * y j) N + Ideal.ofBits .f32 0x358637BD#32) * g k

/-- The query latent of a row of the joint product. -/
def latQ (h : Fin 2560 → EReal) (g : Fin 384 → EReal) : Fin 384 → EReal :=
  rms (Ideal.ofBits .f32 0x43C00000#32) (fun k => h ⟨k.val, by omega⟩) g

/-- The key-value latent of a row of the joint product. -/
def latKV (h : Fin 2560 → EReal) (g : Fin 256 → EReal) : Fin 256 → EReal :=
  rms (Ideal.ofBits .f32 0x43800000#32) (fun k => h ⟨384 + k.val, by omega⟩) g

/-- Two columns combined with a cosine and a sine. -/
def rot (u v c s : EReal) : EReal := u * c + v * s

/-- The attention's query: head `e`, lane `l`, from the products `q` of the query latent. -/
def qa (q : Fin 2048 → EReal) (c s : Fin 128 → EReal) (e : Fin 8) (l : Fin 128) : EReal :=
  rot (q ⟨e.val * 128 + l.val, by omega⟩) (q ⟨1024 + (e.val * 128 + l.val), by omega⟩) (c l) (s l)

/-- The attention's key: head `e`, lane `l`, from the joint product `h` and the products `k` of the key-value latent. -/
def ka (h : Fin 2560 → EReal) (k : Fin 1024 → EReal) (c s : Fin 128 → EReal) (e : Fin 8) (l : Fin 128) : EReal :=
  k ⟨e.val * 128 + l.val, by omega⟩ + rot (h ⟨640 + l.val, by omega⟩) (h ⟨768 + l.val, by omega⟩) (c l) (s l)

/-- The window attention's query: head `e`, lane `l`. -/
def qc (h : Fin 2560 → EReal) (c s : Fin 128 → EReal) (e : Fin 2) (l : Fin 128) : EReal :=
  rot (h ⟨1664 + (e.val * 128 + l.val), by omega⟩) (h ⟨1920 + (e.val * 128 + l.val), by omega⟩) (c l) (s l)

/-- The window attention's key at lane `l`. -/
def kc (h : Fin 2560 → EReal) (c s : Fin 128 → EReal) (l : Fin 128) : EReal :=
  rot (h ⟨2176 + l.val, by omega⟩) (h ⟨2304 + l.val, by omega⟩) (c l) (s l)

end Cert.Proof.Rows

end
-- ==== Proof.Pieces2.lean ====
module
public import proofs.«01_k».proof.Proof.Rows
public import proofs.«01_k».proof.Proof.Gen.Kernel2Ideal.Frame
public import Idealize.ShloMosaic.Lib.Pipeline.ValueKit
@[expose] public section
set_option maxRecDepth 16384
set_option maxHeartbeats 4000000
noncomputable section

/-!
# The projections' kernel: a grid point's output blocks, element by element

The body's computed values and the pieces it stores, read at a row and a lane: the formulas of `Rows`.
-/

namespace Cert.Proof.Kernel2Ideal
open Cert.Kernel2Ideal Cert.Kernel2Ideal.Gen
open Idealize.ShloMosaic Idealize.ShloMosaic.TcCoe

variable (x0 : Vec Ideal S512x1024 .f32) (x1 : Vec Ideal S1024x2560 .bf16) (x2 : Vec Ideal S1x384 .f32) (x3 : Vec Ideal S384x2048 .bf16) (x4 : Vec Ideal S1x256 .f32) (x5 : Vec Ideal S256x1024 .bf16) (x6 : Vec Ideal S512x256 .bf16) (x7 : Vec Ideal S6x512x128 .f32)

/-- The joint product of row `r`. -/
def rowH (r : Fin 512) : Fin 2560 → EReal := Rows.lin (fun d => x0 (ix2 r d)) (fun d j => x1 (ix2 d j))

/-- The products of the query latent of row `r`. -/
def rowQ (r : Fin 512) : Fin 2048 → EReal :=
  Rows.lin (Rows.latQ (rowH x0 x1 r) (fun k => x2 (ix2 0 k))) (fun d j => x3 (ix2 d j))

/-- The key-value latent of row `r`. -/
def rowU (r : Fin 512) : Fin 256 → EReal := Rows.latKV (rowH x0 x1 r) (fun k => x4 (ix2 0 k))

/-- The products of the key-value latent of row `r`. -/
def rowK (r : Fin 512) : Fin 1024 → EReal := Rows.lin (rowU x0 x1 x4 r) (fun d j => x5 (ix2 d j))

theorem pay39_apply (r : Fin 512) (j : Fin 2560) : k0_pay39 (F := Ideal) x0 x1 x2 x3 x4 x5 x6 x7 (ix2 r j) = rowH x0 x1 r j := by
  pointwise [k0_pay39, k0_pay1, rowH, Rows.lin]

theorem pay8_apply (v0 : Vec Ideal S512x1024 .f32) (v2 : Vec Ideal S1024x2560 .bf16) (g : Vec Ideal S1x384 .f32) (r : Fin 512) (k : Fin 384) :
    k0_pay8 (F := Ideal) v0 v2 g (ix2 r k) = Rows.latQ (fun j => k0_pay1 (F := Ideal) v0 v2 (ix2 r j)) (fun k => g (ix2 0 k)) k := by
  pointwise [k0_pay8, Rows.latQ, Rows.rms]

theorem pay9_apply (u : FVec Ideal S512x384 .bf16) (w : Vec Ideal S384x2048 .bf16) (r : Fin 512) (j : Fin 2048) :
    k0_pay9 (F := Ideal) u w (ix2 r j) = Rows.lin (fun d => u (ix2 r d)) (fun d j => w (ix2 d j)) j := by
  pointwise [k0_pay9, Rows.lin]

theorem pay19_apply (h : FVec Ideal S512x2560 .f32) (g : Vec Ideal S1x256 .f32) (r : Fin 512) (k : Fin 256) :
    k0_pay19 (F := Ideal) h g (ix2 r k) = Rows.latKV (fun j => h (ix2 r j)) (fun k => g (ix2 0 k)) k := by
  pointwise [k0_pay19, Rows.latKV, Rows.rms]

theorem pay21_apply (h : FVec Ideal S512x2560 .f32) (g : Vec Ideal S1x256 .f32) (w : Vec Ideal S256x1024 .bf16) (r : Fin 512) (j : Fin 1024) :
    k0_pay21 (F := Ideal) h g w (ix2 r j) = Rows.lin (fun d => k0_pay19 (F := Ideal) h g (ix2 r d)) (fun d j => w (ix2 d j)) j := by
  pointwise [k0_pay21, Rows.lin]

theorem pay40_apply (r : Fin 512) (l : Fin 128) : k0_pay40 (F := Ideal) x0 x1 x2 x3 x4 x5 x6 x7 (ix2 r l) = x7 (ix3 0 r l) := by
  pointwise [k0_pay40, k0_pay2]

theorem pay41_apply (r : Fin 512) (l : Fin 128) : k0_pay41 (F := Ideal) x0 x1 x2 x3 x4 x5 x6 x7 (ix2 r l) = x7 (ix3 1 r l) := by
  pointwise [k0_pay41, k0_pay3]

theorem pay42_apply (r : Fin 512) (l : Fin 128) : k0_pay42 (F := Ideal) x0 x1 x2 x3 x4 x5 x6 x7 (ix2 r l) = x7 (ix3 2 r l) := by
  pointwise [k0_pay42, k0_pay4]

theorem pay43_apply (r : Fin 512) (l : Fin 128) : k0_pay43 (F := Ideal) x0 x1 x2 x3 x4 x5 x6 x7 (ix2 r l) = x7 (ix3 3 r l) := by
  pointwise [k0_pay43, k0_pay5]

theorem pay44_apply (r : Fin 512) (l : Fin 128) : k0_pay44 (F := Ideal) x0 x1 x2 x3 x4 x5 x6 x7 (ix2 r l) = x7 (ix3 4 r l) := by
  pointwise [k0_pay44, k0_pay6]

theorem pay45_apply (r : Fin 512) (l : Fin 128) : k0_pay45 (F := Ideal) x0 x1 x2 x3 x4 x5 x6 x7 (ix2 r l) = x7 (ix3 5 r l) := by
  pointwise [k0_pay45, k0_pay7]
theorem ld0 : View.ld x0 r0_0 = x0 := by funext i; show x0 (r0_0.emb i) = x0 i; blk_ext
theorem ld1 : View.ld x1 r0_1 = x1 := by funext i; show x1 (r0_1.emb i) = x1 i; blk_ext
theorem ld2 : View.ld x2 r0_8 = x2 := by funext i; show x2 (r0_8.emb i) = x2 i; blk_ext
theorem ld3 : View.ld x3 r0_9 = x3 := by funext i; show x3 (r0_9.emb i) = x3 i; blk_ext
theorem ld4 : View.ld x4 r0_18 = x4 := by funext i; show x4 (r0_18.emb i) = x4 i; blk_ext
theorem ld5 : View.ld x5 r0_19 = x5 := by funext i; show x5 (r0_19.emb i) = x5 i; blk_ext
theorem ld6 : View.ld x6 r0_20 = x6 := by funext i; show x6 (r0_20.emb i) = x6 i; blk_ext

theorem pay46_apply (r : Fin 512) (k : Fin 384) :
    k0_pay46 (F := Ideal) x0 x1 x2 x3 x4 x5 x6 x7 (ix2 r k) = Rows.latQ (rowH x0 x1 r) (fun k => x2 (ix2 0 k)) k := by
  have e : (fun j => k0_pay1 (F := Ideal) (View.ld x0 r0_0) (View.ld x1 r0_1) (ix2 r j)) = rowH x0 x1 r :=
    funext fun j => pay39_apply x0 x1 x2 x3 x4 x5 x6 x7 r j
  unfold k0_pay46
  rw [pay8_apply, e, ld2]

theorem prodQ_apply (r : Fin 512) (j : Fin 2048) :
    k0_pay9 (F := Ideal) (k0_pay46 x0 x1 x2 x3 x4 x5 x6 x7) (View.ld x3 r0_9) (ix2 r j) = rowQ x0 x1 x2 x3 r j := by
  rw [pay9_apply, ld3]
  simp only [pay46_apply]
  rfl

theorem latU_apply (r : Fin 512) (k : Fin 256) :
    k0_pay19 (F := Ideal) (k0_pay39 x0 x1 x2 x3 x4 x5 x6 x7) (View.ld x4 r0_18) (ix2 r k) = rowU x0 x1 x4 r k := by
  rw [pay19_apply, ld4]
  simp only [pay39_apply]
  rfl

theorem prodK_apply (r : Fin 512) (j : Fin 1024) :
    k0_pay21 (F := Ideal) (k0_pay39 x0 x1 x2 x3 x4 x5 x6 x7) (View.ld x4 r0_18) (View.ld x5 r0_19) (ix2 r j) = rowK x0 x1 x4 x5 r j := by
  rw [pay21_apply, ld5]
  simp only [latU_apply]
  rfl

theorem pay10_apply (c s : FVec Ideal S512x128 .f32) (u : FVec Ideal S512x384 .bf16) (w : Vec Ideal S384x2048 .bf16) (r : Fin 512) (l : Fin 128) :
    k0_pay10 (F := Ideal) c s u w (ix2 r l) = Rows.qa (fun j => k0_pay9 (F := Ideal) u w (ix2 r j)) (fun l => c (ix2 r l)) (fun l => s (ix2 r l)) 0 l := by
  pointwise [k0_pay10, Rows.qa, Rows.rot]

theorem pay11_apply (c s : FVec Ideal S512x128 .f32) (u : FVec Ideal S512x384 .bf16) (w : Vec Ideal S384x2048 .bf16) (r : Fin 512) (l : Fin 128) :
    k0_pay11 (F := Ideal) c s u w (ix2 r l) = Rows.qa (fun j => k0_pay9 (F := Ideal) u w (ix2 r j)) (fun l => c (ix2 r l)) (fun l => s (ix2 r l)) 1 l := by
  pointwise [k0_pay11, Rows.qa, Rows.rot]
  simp only [← Nat.add_assoc, Nat.reduceAdd]

theorem pay12_apply (c s : FVec Ideal S512x128 .f32) (u : FVec Ideal S512x384 .bf16) (w : Vec Ideal S384x2048 .bf16) (r : Fin 512) (l : Fin 128) :
    k0_pay12 (F := Ideal) c s u w (ix2 r l) = Rows.qa (fun j => k0_pay9 (F := Ideal) u w (ix2 r j)) (fun l => c (ix2 r l)) (fun l => s (ix2 r l)) 2 l := by
  pointwise [k0_pay12, Rows.qa, Rows.rot]
  simp only [← Nat.add_assoc, Nat.reduceAdd]

theorem pay13_apply (c s : FVec Ideal S512x128 .f32) (u : FVec Ideal S512x384 .bf16) (w : Vec Ideal S384x2048 .bf16) (r : Fin 512) (l : Fin 128) :
    k0_pay13 (F := Ideal) c s u w (ix2 r l) = Rows.qa (fun j => k0_pay9 (F := Ideal) u w (ix2 r j)) (fun l => c (ix2 r l)) (fun l => s (ix2 r l)) 3 l := by
  pointwise [k0_pay13, Rows.qa, Rows.rot]
  simp only [← Nat.add_assoc, Nat.reduceAdd]

theorem pay14_apply (c s : FVec Ideal S512x128 .f32) (u : FVec Ideal S512x384 .bf16) (w : Vec Ideal S384x2048 .bf16) (r : Fin 512) (l : Fin 128) :
    k0_pay14 (F := Ideal) c s u w (ix2 r l) = Rows.qa (fun j => k0_pay9 (F := Ideal) u w (ix2 r j)) (fun l => c (ix2 r l)) (fun l => s (ix2 r l)) 4 l := by
  pointwise [k0_pay14, Rows.qa, Rows.rot]
  simp only [← Nat.add_assoc, Nat.reduceAdd]

theorem pay16_apply (c s : FVec Ideal S512x128 .f32) (u : FVec Ideal S512x384 .bf16) (w : Vec Ideal S384x2048 .bf16) (r : Fin 512) (l : Fin 128) :
    k0_pay16 (F := Ideal) (k0_pay15 (F := Ideal) c s u w) (ix2 r l) = Rows.qa (fun j => k0_pay9 (F := Ideal) u w (ix2 r j)) (fun l => c (ix2 r l)) (fun l => s (ix2 r l)) 5 l := by
  pointwise [k0_pay16, k0_pay15, Rows.qa, Rows.rot]
  simp only [← Nat.add_assoc, Nat.reduceAdd]

theorem pay17_apply (c s : FVec Ideal S512x128 .f32) (q : FVec Ideal S512x2048 .f32) (r : Fin 512) (l : Fin 128) :
    k0_pay17 (F := Ideal) c s q (ix2 r l) = Rows.qa (fun j => q (ix2 r j)) (fun l => c (ix2 r l)) (fun l => s (ix2 r l)) 6 l := by
  pointwise [k0_pay17, Rows.qa, Rows.rot]
  simp only [← Nat.add_assoc, Nat.reduceAdd]

theorem pay18_apply (c s : FVec Ideal S512x128 .f32) (q : FVec Ideal S512x2048 .f32) (r : Fin 512) (l : Fin 128) :
    k0_pay18 (F := Ideal) c s q (ix2 r l) = Rows.qa (fun j => q (ix2 r j)) (fun l => c (ix2 r l)) (fun l => s (ix2 r l)) 7 l := by
  pointwise [k0_pay18, Rows.qa, Rows.rot]
  simp only [← Nat.add_assoc, Nat.reduceAdd]

theorem pay22_apply (h : FVec Ideal S512x2560 .f32) (c s : FVec Ideal S512x128 .f32) (g : Vec Ideal S1x256 .f32) (w : Vec Ideal S256x1024 .bf16) (r : Fin 512) (l : Fin 128) :
    k0_pay22 (F := Ideal) h c s g w (ix2 r l) = Rows.ka (fun j => h (ix2 r j)) (fun j => k0_pay21 (F := Ideal) h g w (ix2 r j)) (fun l => c (ix2 r l)) (fun l => s (ix2 r l)) 0 l := by
  pointwise [k0_pay22, k0_pay20, Rows.ka, Rows.rot]

theorem pay23_apply (h : FVec Ideal S512x2560 .f32) (c s : FVec Ideal S512x128 .f32) (k : FVec Ideal S512x1024 .f32) (r : Fin 512) (l : Fin 128) :
    k0_pay23 (F := Ideal) (k0_pay20 (F := Ideal) h c s) k (ix2 r l) = Rows.ka (fun j => h (ix2 r j)) (fun j => k (ix2 r j)) (fun l => c (ix2 r l)) (fun l => s (ix2 r l)) 1 l := by
  pointwise [k0_pay23, k0_pay20, Rows.ka, Rows.rot]

theorem pay24_apply (h : FVec Ideal S512x2560 .f32) (c s : FVec Ideal S512x128 .f32) (k : FVec Ideal S512x1024 .f32) (r : Fin 512) (l : Fin 128) :
    k0_pay24 (F := Ideal) (k0_pay20 (F := Ideal) h c s) k (ix2 r l) = Rows.ka (fun j => h (ix2 r j)) (fun j => k (ix2 r j)) (fun l => c (ix2 r l)) (fun l => s (ix2 r l)) 2 l := by
  pointwise [k0_pay24, k0_pay20, Rows.ka, Rows.rot]

theorem pay25_apply (h : FVec Ideal S512x2560 .f32) (c s : FVec Ideal S512x128 .f32) (k : FVec Ideal S512x1024 .f32) (r : Fin 512) (l : Fin 128) :
    k0_pay25 (F := Ideal) (k0_pay20 (F := Ideal) h c s) k (ix2 r l) = Rows.ka (fun j => h (ix2 r j)) (fun j => k (ix2 r j)) (fun l => c (ix2 r l)) (fun l => s (ix2 r l)) 3 l := by
  pointwise [k0_pay25, k0_pay20, Rows.ka, Rows.rot]

theorem pay26_apply (h : FVec Ideal S512x2560 .f32) (c s : FVec Ideal S512x128 .f32) (k : FVec Ideal S512x1024 .f32) (r : Fin 512) (l : Fin 128) :
    k0_pay26 (F := Ideal) (k0_pay20 (F := Ideal) h c s) k (ix2 r l) = Rows.ka (fun j => h (ix2 r j)) (fun j => k (ix2 r j)) (fun l => c (ix2 r l)) (fun l => s (ix2 r l)) 4 l := by
  pointwise [k0_pay26, k0_pay20, Rows.ka, Rows.rot]

theorem pay27_apply (h : FVec Ideal S512x2560 .f32) (c s : FVec Ideal S512x128 .f32) (k : FVec Ideal S512x1024 .f32) (r : Fin 512) (l : Fin 128) :
    k0_pay27 (F := Ideal) (k0_pay20 (F := Ideal) h c s) k (ix2 r l) = Rows.ka (fun j => h (ix2 r j)) (fun j => k (ix2 r j)) (fun l => c (ix2 r l)) (fun l => s (ix2 r l)) 5 l := by
  pointwise [k0_pay27, k0_pay20, Rows.ka, Rows.rot]

theorem pay28_apply (h : FVec Ideal S512x2560 .f32) (c s : FVec Ideal S512x128 .f32) (k : FVec Ideal S512x1024 .f32) (r : Fin 512) (l : Fin 128) :
    k0_pay28 (F := Ideal) (k0_pay20 (F := Ideal) h c s) k (ix2 r l) = Rows.ka (fun j => h (ix2 r j)) (fun j => k (ix2 r j)) (fun l => c (ix2 r l)) (fun l => s (ix2 r l)) 6 l := by
  pointwise [k0_pay28, k0_pay20, Rows.ka, Rows.rot]

theorem pay29_apply (h : FVec Ideal S512x2560 .f32) (c s : FVec Ideal S512x128 .f32) (k : FVec Ideal S512x1024 .f32) (r : Fin 512) (l : Fin 128) :
    k0_pay29 (F := Ideal) (k0_pay20 (F := Ideal) h c s) k (ix2 r l) = Rows.ka (fun j => h (ix2 r j)) (fun j => k (ix2 r j)) (fun l => c (ix2 r l)) (fun l => s (ix2 r l)) 7 l := by
  pointwise [k0_pay29, k0_pay20, Rows.ka, Rows.rot]

theorem pay35_apply (h : FVec Ideal S512x2560 .f32) (c s : FVec Ideal S512x128 .f32) (r : Fin 512) (l : Fin 128) :
    k0_pay35 (F := Ideal) h c s (ix2 r l) = Rows.qc (fun j => h (ix2 r j)) (fun l => c (ix2 r l)) (fun l => s (ix2 r l)) 0 l := by
  pointwise [k0_pay35, Rows.qc, Rows.rot]

theorem pay36_apply (h : FVec Ideal S512x2560 .f32) (c s : FVec Ideal S512x128 .f32) (r : Fin 512) (l : Fin 128) :
    k0_pay36 (F := Ideal) h c s (ix2 r l) = Rows.qc (fun j => h (ix2 r j)) (fun l => c (ix2 r l)) (fun l => s (ix2 r l)) 1 l := by
  pointwise [k0_pay36, Rows.qc, Rows.rot]
  simp only [← Nat.add_assoc, Nat.reduceAdd]

theorem pay37_apply (h : FVec Ideal S512x2560 .f32) (c s : FVec Ideal S512x128 .f32) (r : Fin 512) (l : Fin 128) :
    k0_pay37 (F := Ideal) h c s (ix2 r l) = Rows.kc (fun j => h (ix2 r j)) (fun l => c (ix2 r l)) (fun l => s (ix2 r l)) l := by
  pointwise [k0_pay37, Rows.kc, Rows.rot]

theorem pay31_apply (u : FVec Ideal S512x256 .bf16) (w : Vec Ideal S512x256 .bf16) (f r : Fin 512) :
    k0_pay31 (F := Ideal) (k0_pay30 (F := Ideal) u w) (ix3 0 f r) = ∑ d : Fin 256, w (ix2 f d) * u (ix2 r d) := by
  pointwise [k0_pay31, k0_pay30]

theorem pay32_apply (h : FVec Ideal S512x2560 .f32) (r : Fin 512) (l : Fin 256) :
    k0_pay32 (F := Ideal) h (ix2 r l) = h (ix2 r ⟨896 + l.val, by omega⟩) := by
  pointwise [k0_pay32]

theorem pay33_apply (h : FVec Ideal S512x2560 .f32) (r : Fin 512) (l : Fin 256) :
    k0_pay33 (F := Ideal) h (ix2 r l) = h (ix2 r ⟨1152 + l.val, by omega⟩) := by
  pointwise [k0_pay33]

theorem pay34_apply (h : FVec Ideal S512x2560 .f32) (r : Fin 512) (l : Fin 256) :
    k0_pay34 (F := Ideal) h (ix2 r l) = h (ix2 r ⟨1408 + l.val, by omega⟩) := by
  pointwise [k0_pay34]

theorem pay38_apply (h : FVec Ideal S512x2560 .f32) (r : Fin 512) (l : Fin 128) :
    k0_pay38 (F := Ideal) h (ix2 r l) = h (ix2 r ⟨2432 + l.val, by omega⟩) := by
  pointwise [k0_pay38]

/-- An index of a piece from its coordinates. -/
theorem idx_eq (x : S512x128.Idx) (r : Fin 512) (l : Fin 128) (h0 : (x 0 : ℕ) = r) (h1 : (x 1 : ℕ) = l) : x = ix2 r l := by
  funext a
  match a with
  | ⟨0, _⟩ => exact Fin.ext h0
  | ⟨1, _⟩ => exact Fin.ext h1

theorem out8_apply (y : S512x1024.Idx) (r : Fin 512) (e : Fin 8) (l : Fin 128) (h0 : (y 0 : ℕ) = r) (h1 : (y 1 : ℕ) = e * 128 + l) :
    out0_8 (F := Ideal) x0 x1 x2 x3 x4 x5 x6 x7 y = Rows.qa (rowQ x0 x1 x2 x3 r) (fun l => x7 (ix3 0 r l)) (fun l => x7 (ix3 1 r l)) e l := by
  unfold out0_8 k0_pay47
  rename' h0 => a0, h1 => a1
  canon_tiles x h
  case piece0 =>
    obtain rfl := idx_eq x r l (by omega) (by omega)
    obtain rfl : e = 7 := Fin.ext (show e.val = 7 by omega)
    rw [pay18_apply]
    simp only [prodQ_apply, pay40_apply, pay41_apply]
  case piece1 =>
    obtain rfl := idx_eq x r l (by omega) (by omega)
    obtain rfl : e = 6 := Fin.ext (show e.val = 6 by omega)
    rw [pay17_apply]
    simp only [prodQ_apply, pay40_apply, pay41_apply]
  case piece2 =>
    obtain rfl := idx_eq x r l (by omega) (by omega)
    obtain rfl : e = 5 := Fin.ext (show e.val = 5 by omega)
    rw [pay16_apply]
    simp only [prodQ_apply, pay40_apply, pay41_apply]
  case piece3 =>
    obtain rfl := idx_eq x r l (by omega) (by omega)
    obtain rfl : e = 4 := Fin.ext (show e.val = 4 by omega)
    rw [pay14_apply]
    simp only [prodQ_apply, pay40_apply, pay41_apply]
  case piece4 =>
    obtain rfl := idx_eq x r l (by omega) (by omega)
    obtain rfl : e = 3 := Fin.ext (show e.val = 3 by omega)
    rw [pay13_apply]
    simp only [prodQ_apply, pay40_apply, pay41_apply]
  case piece5 =>
    obtain rfl := idx_eq x r l (by omega) (by omega)
    obtain rfl : e = 2 := Fin.ext (show e.val = 2 by omega)
    rw [pay12_apply]
    simp only [prodQ_apply, pay40_apply, pay41_apply]
  case piece6 =>
    obtain rfl := idx_eq x r l (by omega) (by omega)
    obtain rfl : e = 1 := Fin.ext (show e.val = 1 by omega)
    rw [pay11_apply]
    simp only [prodQ_apply, pay40_apply, pay41_apply]
  case piece7 =>
    obtain rfl := idx_eq x r l (by omega) (by omega)
    obtain rfl : e = 0 := Fin.ext (show e.val = 0 by omega)
    rw [pay10_apply]
    simp only [prodQ_apply, pay40_apply, pay41_apply]

theorem out9_apply (y : S512x1024.Idx) (r : Fin 512) (e : Fin 8) (l : Fin 128) (h0 : (y 0 : ℕ) = r) (h1 : (y 1 : ℕ) = e * 128 + l) :
    out0_9 (F := Ideal) x0 x1 x2 x3 x4 x5 x6 x7 y = Rows.ka (rowH x0 x1 r) (rowK x0 x1 x4 x5 r) (fun l => x7 (ix3 2 r l)) (fun l => x7 (ix3 3 r l)) e l := by
  unfold out0_9 k0_pay48 k0_pay49
  rename' h0 => a0, h1 => a1
  canon_tiles x h
  case piece0 =>
    obtain rfl := idx_eq x r l (by omega) (by omega)
    obtain rfl : e = 7 := Fin.ext (show e.val = 7 by omega)
    rw [pay29_apply]
    simp only [prodK_apply, pay39_apply, pay42_apply, pay43_apply]
  case piece1 =>
    obtain rfl := idx_eq x r l (by omega) (by omega)
    obtain rfl : e = 6 := Fin.ext (show e.val = 6 by omega)
    rw [pay28_apply]
    simp only [prodK_apply, pay39_apply, pay42_apply, pay43_apply]
  case piece2 =>
    obtain rfl := idx_eq x r l (by omega) (by omega)
    obtain rfl : e = 5 := Fin.ext (show e.val = 5 by omega)
    rw [pay27_apply]
    simp only [prodK_apply, pay39_apply, pay42_apply, pay43_apply]
  case piece3 =>
    obtain rfl := idx_eq x r l (by omega) (by omega)
    obtain rfl : e = 4 := Fin.ext (show e.val = 4 by omega)
    rw [pay26_apply]
    simp only [prodK_apply, pay39_apply, pay42_apply, pay43_apply]
  case piece4 =>
    obtain rfl := idx_eq x r l (by omega) (by omega)
    obtain rfl : e = 3 := Fin.ext (show e.val = 3 by omega)
    rw [pay25_apply]
    simp only [prodK_apply, pay39_apply, pay42_apply, pay43_apply]
  case piece5 =>
    obtain rfl := idx_eq x r l (by omega) (by omega)
    obtain rfl : e = 2 := Fin.ext (show e.val = 2 by omega)
    rw [pay24_apply]
    simp only [prodK_apply, pay39_apply, pay42_apply, pay43_apply]
  case piece6 =>
    obtain rfl := idx_eq x r l (by omega) (by omega)
    obtain rfl : e = 1 := Fin.ext (show e.val = 1 by omega)
    rw [pay23_apply]
    simp only [prodK_apply, pay39_apply, pay42_apply, pay43_apply]
  case piece7 =>
    obtain rfl := idx_eq x r l (by omega) (by omega)
    obtain rfl : e = 0 := Fin.ext (show e.val = 0 by omega)
    rw [pay22_apply]
    simp only [prodK_apply, pay39_apply, pay42_apply, pay43_apply]

theorem out10_apply (f r : Fin 512) :
    out0_10 (F := Ideal) x0 x1 x2 x3 x4 x5 x6 x7 (ix3 0 f r) = Rows.lin (rowU x0 x1 x4 r) (fun d f => x6 (ix2 f d)) f := by
  have e := latU_apply x0 x1 x2 x3 x4 x5 x6 x7 r
  rw [ld4] at e
  unfold out0_10
  frame_out
  rw [pay31_apply]
  simp only [e]
  exact Finset.sum_congr rfl fun d _ => mul_comm _ _

theorem out11_apply (r : Fin 512) (l : Fin 256) : out0_11 (F := Ideal) x0 x1 x2 x3 x4 x5 x6 x7 (ix2 r l) = rowH x0 x1 r ⟨896 + l.val, by omega⟩ := by
  unfold out0_11
  frame_out
  rw [pay32_apply, pay39_apply]

theorem out12_apply (r : Fin 512) (l : Fin 256) : out0_12 (F := Ideal) x0 x1 x2 x3 x4 x5 x6 x7 (ix2 r l) = rowH x0 x1 r ⟨1152 + l.val, by omega⟩ := by
  unfold out0_12
  frame_out
  rw [pay33_apply, pay39_apply]

theorem out13_apply (r : Fin 512) (l : Fin 256) : out0_13 (F := Ideal) x0 x1 x2 x3 x4 x5 x6 x7 (ix2 r l) = rowH x0 x1 r ⟨1408 + l.val, by omega⟩ := by
  unfold out0_13
  frame_out
  rw [pay34_apply, pay39_apply]

theorem out14_apply (y : S512x256.Idx) (r : Fin 512) (e : Fin 2) (l : Fin 128) (h0 : (y 0 : ℕ) = r) (h1 : (y 1 : ℕ) = e * 128 + l) :
    out0_14 (F := Ideal) x0 x1 x2 x3 x4 x5 x6 x7 y = Rows.qc (rowH x0 x1 r) (fun l => x7 (ix3 4 r l)) (fun l => x7 (ix3 5 r l)) e l := by
  unfold out0_14
  rename' h0 => a0, h1 => a1
  canon_tiles x h
  case piece0 =>
    obtain rfl := idx_eq x r l (by omega) (by omega)
    obtain rfl : e = 1 := Fin.ext (show e.val = 1 by omega)
    rw [pay36_apply]
    simp only [pay39_apply, pay44_apply, pay45_apply]
  case piece1 =>
    obtain rfl := idx_eq x r l (by omega) (by omega)
    obtain rfl : e = 0 := Fin.ext (show e.val = 0 by omega)
    rw [pay35_apply]
    simp only [pay39_apply, pay44_apply, pay45_apply]

theorem out15_apply (r : Fin 512) (l : Fin 128) :
    out0_15 (F := Ideal) x0 x1 x2 x3 x4 x5 x6 x7 (ix2 r l) = Rows.kc (rowH x0 x1 r) (fun l => x7 (ix3 4 r l)) (fun l => x7 (ix3 5 r l)) l := by
  unfold out0_15
  frame_out
  rw [pay37_apply]
  simp only [pay39_apply, pay44_apply, pay45_apply]

theorem out16_apply (r : Fin 512) (l : Fin 128) : out0_16 (F := Ideal) x0 x1 x2 x3 x4 x5 x6 x7 (ix2 r l) = rowH x0 x1 r ⟨2432 + l.val, by omega⟩ := by
  unfold out0_16
  frame_out
  rw [pay38_apply, pay39_apply]

end Cert.Proof.Kernel2Ideal

end
-- ==== Proof.RefValue2.lean ====
module
public import proofs.«01_k».proof.Proof.Rows
public import proofs.«01_k».proof.Proof.Gen.Reference2Ideal.Run
public import Idealize.ShloMosaic.Lib.Pointwise
@[expose] public section
set_option maxRecDepth 16384
set_option maxHeartbeats 4000000
noncomputable section

/-!
# The projections' reference, element by element

The reference's operations in stages, and its nine results read at a row: the formulas of `Rows`.
-/

namespace Cert.Proof.Ref2
open Cert.Reference2Ideal Cert.Reference2Ideal.Gen
open Idealize.ShloMosaic Idealize.ShloMosaic.TcCoe

/-- The joint product. -/
def joint (A0 : FVec Ideal S32768x1024 .f32) (A1 : FVec Ideal S1024x2560 .bf16) : FVec Ideal S32768x2560 .f32 :=
  Host.dotGeneral dot_S32768x1024_S1024x2560_S32768x2560_1_0_0_1_n_n none A0 (extf .f32 A1 bitsLt_bf16_f32)

/-- The query latents. -/
def latQ (h : FVec Ideal S32768x2560 .f32) (g : FVec Ideal S1x384 .f32) : FVec Ideal S32768x384 .f32 :=
  (mulf (mulf (extractStridedSlice S32768x384 ![0, 0] h slices_S32768x2560_S32768x384_0_0) (broadcastInDim S32768x384 ![0, 1] bcast_S32768x1_S32768x384_0_1 (Host.rsqrt
    (addf (Host.divf (broadcastInDim S32768x1 ![0] bcast_S32768_S32768x1_0 (Host.reduceAdd (mulf (extractStridedSlice S32768x384 ![0, 0] h
    slices_S32768x2560_S32768x384_0_0) (extractStridedSlice S32768x384 ![0, 0] h slices_S32768x2560_S32768x384_0_0)) (constant S_ .f32 0x00000000#32)
    reducesTo_S32768x384_S32768_d1 h_S_)) (broadcastInDim S32768x1 ![] bcast_S_S32768x1 (constant S_ .f32 0x43C00000#32))) (broadcastInDim S32768x1 ![] bcast_S_S32768x1
    (constant S_ .f32 0x358637BD#32)))))) (broadcastInDim S32768x384 ![0, 1] bcast_S1x384_S32768x384_0_1 g))

/-- The key-value latents. -/
def latKV (h : FVec Ideal S32768x2560 .f32) (g : FVec Ideal S1x256 .f32) : FVec Ideal S32768x256 .f32 :=
  (mulf (mulf (extractStridedSlice S32768x256 ![0, 384] h slices_S32768x2560_S32768x256_0_384) (broadcastInDim S32768x256 ![0, 1] bcast_S32768x1_S32768x256_0_1 (Host.rsqrt
    (addf (Host.divf (broadcastInDim S32768x1 ![0] bcast_S32768_S32768x1_0 (Host.reduceAdd (mulf (extractStridedSlice S32768x256 ![0, 384] h
    slices_S32768x2560_S32768x256_0_384) (extractStridedSlice S32768x256 ![0, 384] h slices_S32768x2560_S32768x256_0_384)) (constant S_ .f32 0x00000000#32)
    reducesTo_S32768x256_S32768_d1 h_S_)) (broadcastInDim S32768x1 ![] bcast_S_S32768x1 (constant S_ .f32 0x43800000#32))) (broadcastInDim S32768x1 ![] bcast_S_S32768x1
    (constant S_ .f32 0x358637BD#32)))))) (broadcastInDim S32768x256 ![0, 1] bcast_S1x256_S32768x256_0_1 g))

/-- The products of the query latents. -/
def prodQ (u : FVec Ideal S32768x384 .f32) (A3 : FVec Ideal S384x2048 .bf16) : FVec Ideal S32768x2048 .f32 :=
  Host.dotGeneral dot_S32768x384_S384x2048_S32768x2048_1_0_0_1_n_n none u (extf .f32 A3 bitsLt_bf16_f32)

/-- The products of the key-value latents with the key weight. -/
def prodK (u : FVec Ideal S32768x256 .f32) (A5 : FVec Ideal S256x1024 .bf16) : FVec Ideal S32768x1024 .f32 :=
  Host.dotGeneral dot_S32768x256_S256x1024_S32768x1024_1_0_0_1_n_n none u (extf .f32 A5 bitsLt_bf16_f32)

/-- Rotary table 0. -/
def tab0 (A7 : FVec Ideal S6x4096x128 .f32) : FVec Ideal S4096x128 .f32 :=
  shapeCast _ (extractStridedSlice S1x4096x128 ![0, 0, 0] A7 slices_S6x4096x128_S1x4096x128_0_0_0) shapeCasts_S1x4096x128_S4096x128

/-- Rotary table 1. -/
def tab1 (A7 : FVec Ideal S6x4096x128 .f32) : FVec Ideal S4096x128 .f32 :=
  shapeCast _ (extractStridedSlice S1x4096x128 ![1, 0, 0] A7 slices_S6x4096x128_S1x4096x128_1_0_0) shapeCasts_S1x4096x128_S4096x128

/-- Rotary table 2. -/
def tab2 (A7 : FVec Ideal S6x4096x128 .f32) : FVec Ideal S4096x128 .f32 :=
  shapeCast _ (extractStridedSlice S1x4096x128 ![2, 0, 0] A7 slices_S6x4096x128_S1x4096x128_2_0_0) shapeCasts_S1x4096x128_S4096x128

/-- Rotary table 3. -/
def tab3 (A7 : FVec Ideal S6x4096x128 .f32) : FVec Ideal S4096x128 .f32 :=
  shapeCast _ (extractStridedSlice S1x4096x128 ![3, 0, 0] A7 slices_S6x4096x128_S1x4096x128_3_0_0) shapeCasts_S1x4096x128_S4096x128

/-- Rotary table 4. -/
def tab4 (A7 : FVec Ideal S6x4096x128 .f32) : FVec Ideal S4096x128 .f32 :=
  shapeCast _ (extractStridedSlice S1x4096x128 ![4, 0, 0] A7 slices_S6x4096x128_S1x4096x128_4_0_0) shapeCasts_S1x4096x128_S4096x128

/-- Rotary table 5. -/
def tab5 (A7 : FVec Ideal S6x4096x128 .f32) : FVec Ideal S4096x128 .f32 :=
  shapeCast _ (extractStridedSlice S1x4096x128 ![5, 0, 0] A7 slices_S6x4096x128_S1x4096x128_5_0_0) shapeCasts_S1x4096x128_S4096x128

/-- The queries of the attention. -/
def outQa (q : FVec Ideal S32768x2048 .f32) (c s : FVec Ideal S4096x128 .f32) : FVec Ideal S32768x1024 .bf16 :=
  truncf .bf16 (shapeCast _ (addf (mulf (shapeCast _ (extractStridedSlice S32768x1024 ![0, 0] q slices_S32768x2048_S32768x1024_0_0) shapeCasts_S32768x1024_S8x4096x8x128)
    (broadcastInDim S8x4096x8x128 ![0, 1, 2, 3] bcast_S1x4096x1x128_S8x4096x8x128_0_1_2_3 (broadcastInDim S1x4096x1x128 ![1, 3] bcast_S4096x128_S1x4096x1x128_1_3 c)))
    (mulf (shapeCast _ (extractStridedSlice S32768x1024 ![0, 1024] q slices_S32768x2048_S32768x1024_0_1024) shapeCasts_S32768x1024_S8x4096x8x128) (broadcastInDim
    S8x4096x8x128 ![0, 1, 2, 3] bcast_S1x4096x1x128_S8x4096x8x128_0_1_2_3 (broadcastInDim S1x4096x1x128 ![1, 3] bcast_S4096x128_S1x4096x1x128_1_3 s))))
    shapeCasts_S8x4096x8x128_S32768x1024) bitsLt_bf16_f32

/-- The keys of the attention. -/
def outKa (h : FVec Ideal S32768x2560 .f32) (k : FVec Ideal S32768x1024 .f32) (c s : FVec Ideal S4096x128 .f32) : FVec Ideal S32768x1024 .bf16 :=
  truncf .bf16 (shapeCast _ (addf (shapeCast _ k shapeCasts_S32768x1024_S8x4096x8x128) (broadcastInDim S8x4096x8x128 ![0, 1, 2, 3]
    bcast_S8x4096x1x128_S8x4096x8x128_0_1_2_3 (addf (mulf (shapeCast _ (extractStridedSlice S32768x128 ![0, 640] h slices_S32768x2560_S32768x128_0_640)
    shapeCasts_S32768x128_S8x4096x1x128) (broadcastInDim S8x4096x1x128 ![0, 1, 2, 3] bcast_S1x4096x1x128_S8x4096x1x128_0_1_2_3 (broadcastInDim S1x4096x1x128 ![1, 3]
    bcast_S4096x128_S1x4096x1x128_1_3 c))) (mulf (shapeCast _ (extractStridedSlice S32768x128 ![0, 768] h slices_S32768x2560_S32768x128_0_768)
    shapeCasts_S32768x128_S8x4096x1x128) (broadcastInDim S8x4096x1x128 ![0, 1, 2, 3] bcast_S1x4096x1x128_S8x4096x1x128_0_1_2_3 (broadcastInDim S1x4096x1x128 ![1, 3]
    bcast_S4096x128_S1x4096x1x128_1_3 s)))))) shapeCasts_S8x4096x8x128_S32768x1024) bitsLt_bf16_f32

/-- The values of the attention, transposed by chunk. -/
def outVa (u : FVec Ideal S32768x256 .f32) (A6 : FVec Ideal S512x256 .bf16) : FVec Ideal S64x512x512 .bf16 :=
  truncf .bf16 (transpose S64x512x512 [0, 2, 1] (Host.dotGeneral dot_S64x512x256_S512x256_S64x512x512_2_1_01_0_n_n none (shapeCast _ u shapeCasts_S32768x256_S64x512x256)
    (extf .f32 A6 bitsLt_bf16_f32)) transposes_S64x512x512_S64x512x512_0_2_1) bitsLt_bf16_f32

/-- The queries of the attention with position bias. -/
def outQb (h : FVec Ideal S32768x2560 .f32) : FVec Ideal S32768x256 .bf16 :=
  truncf .bf16 (extractStridedSlice S32768x256 ![0, 896] h slices_S32768x2560_S32768x256_0_896) bitsLt_bf16_f32

/-- Its keys. -/
def outKb (h : FVec Ideal S32768x2560 .f32) : FVec Ideal S32768x256 .bf16 :=
  truncf .bf16 (extractStridedSlice S32768x256 ![0, 1152] h slices_S32768x2560_S32768x256_0_1152) bitsLt_bf16_f32

/-- Its values. -/
def outVb (h : FVec Ideal S32768x2560 .f32) : FVec Ideal S32768x256 .bf16 :=
  truncf .bf16 (extractStridedSlice S32768x256 ![0, 1408] h slices_S32768x2560_S32768x256_0_1408) bitsLt_bf16_f32

/-- The queries of the window attention. -/
def outQc (h : FVec Ideal S32768x2560 .f32) (c s : FVec Ideal S4096x128 .f32) : FVec Ideal S32768x256 .bf16 :=
  truncf .bf16 (shapeCast _ (addf (mulf (shapeCast _ (extractStridedSlice S32768x256 ![0, 1664] h slices_S32768x2560_S32768x256_0_1664)
    shapeCasts_S32768x256_S8x4096x2x128) (broadcastInDim S8x4096x2x128 ![0, 1, 2, 3] bcast_S1x4096x1x128_S8x4096x2x128_0_1_2_3 (broadcastInDim S1x4096x1x128 ![1, 3]
    bcast_S4096x128_S1x4096x1x128_1_3 c))) (mulf (shapeCast _ (extractStridedSlice S32768x256 ![0, 1920] h slices_S32768x2560_S32768x256_0_1920)
    shapeCasts_S32768x256_S8x4096x2x128) (broadcastInDim S8x4096x2x128 ![0, 1, 2, 3] bcast_S1x4096x1x128_S8x4096x2x128_0_1_2_3 (broadcastInDim S1x4096x1x128 ![1, 3]
    bcast_S4096x128_S1x4096x1x128_1_3 s)))) shapeCasts_S8x4096x2x128_S32768x256) bitsLt_bf16_f32

/-- Its keys. -/
def outKc (h : FVec Ideal S32768x2560 .f32) (c s : FVec Ideal S4096x128 .f32) : FVec Ideal S32768x128 .bf16 :=
  truncf .bf16 (shapeCast _ (addf (mulf (shapeCast _ (extractStridedSlice S32768x128 ![0, 2176] h slices_S32768x2560_S32768x128_0_2176)
    shapeCasts_S32768x128_S8x4096x1x128) (broadcastInDim S8x4096x1x128 ![0, 1, 2, 3] bcast_S1x4096x1x128_S8x4096x1x128_0_1_2_3 (broadcastInDim S1x4096x1x128 ![1, 3]
    bcast_S4096x128_S1x4096x1x128_1_3 c))) (mulf (shapeCast _ (extractStridedSlice S32768x128 ![0, 2304] h slices_S32768x2560_S32768x128_0_2304)
    shapeCasts_S32768x128_S8x4096x1x128) (broadcastInDim S8x4096x1x128 ![0, 1, 2, 3] bcast_S1x4096x1x128_S8x4096x1x128_0_1_2_3 (broadcastInDim S1x4096x1x128 ![1, 3]
    bcast_S4096x128_S1x4096x1x128_1_3 s)))) shapeCasts_S8x4096x1x128_S32768x128) bitsLt_bf16_f32

/-- Its values. -/
def outVc (h : FVec Ideal S32768x2560 .f32) : FVec Ideal S32768x128 .bf16 :=
  truncf .bf16 (extractStridedSlice S32768x128 ![0, 2432] h slices_S32768x2560_S32768x128_0_2432) bitsLt_bf16_f32

theorem joint_apply (A0 : FVec Ideal S32768x1024 .f32) (A1 : FVec Ideal S1024x2560 .bf16) (r : Fin 32768) (j : Fin 2560) :
    joint A0 A1 (ix2 r j) = Rows.lin (fun d => A0 (ix2 r d)) (fun d j => A1 (ix2 d j)) j := by
  pointwise [joint, Rows.lin]

theorem latQ_apply (h : FVec Ideal S32768x2560 .f32) (g : FVec Ideal S1x384 .f32) (r : Fin 32768) (k : Fin 384) :
    latQ h g (ix2 r k) = Rows.latQ (fun j => h (ix2 r j)) (fun k => g (ix2 0 k)) k := by
  pointwise [latQ, Rows.latQ, Rows.rms]

theorem latKV_apply (h : FVec Ideal S32768x2560 .f32) (g : FVec Ideal S1x256 .f32) (r : Fin 32768) (k : Fin 256) :
    latKV h g (ix2 r k) = Rows.latKV (fun j => h (ix2 r j)) (fun k => g (ix2 0 k)) k := by
  pointwise [latKV, Rows.latKV, Rows.rms]

theorem prodQ_apply (u : FVec Ideal S32768x384 .f32) (A3 : FVec Ideal S384x2048 .bf16) (r : Fin 32768) (j : Fin 2048) :
    prodQ u A3 (ix2 r j) = Rows.lin (fun d => u (ix2 r d)) (fun d j => A3 (ix2 d j)) j := by
  pointwise [prodQ, Rows.lin]

theorem prodK_apply (u : FVec Ideal S32768x256 .f32) (A5 : FVec Ideal S256x1024 .bf16) (r : Fin 32768) (j : Fin 1024) :
    prodK u A5 (ix2 r j) = Rows.lin (fun d => u (ix2 r d)) (fun d j => A5 (ix2 d j)) j := by
  pointwise [prodK, Rows.lin]

theorem tab0_apply (A7 : FVec Ideal S6x4096x128 .f32) (p : Fin 4096) (l : Fin 128) : tab0 A7 (ix2 p l) = A7 (ix3 0 p l) := by
  pointwise [tab0]

theorem tab1_apply (A7 : FVec Ideal S6x4096x128 .f32) (p : Fin 4096) (l : Fin 128) : tab1 A7 (ix2 p l) = A7 (ix3 1 p l) := by
  pointwise [tab1]

theorem tab2_apply (A7 : FVec Ideal S6x4096x128 .f32) (p : Fin 4096) (l : Fin 128) : tab2 A7 (ix2 p l) = A7 (ix3 2 p l) := by
  pointwise [tab2]

theorem tab3_apply (A7 : FVec Ideal S6x4096x128 .f32) (p : Fin 4096) (l : Fin 128) : tab3 A7 (ix2 p l) = A7 (ix3 3 p l) := by
  pointwise [tab3]

theorem tab4_apply (A7 : FVec Ideal S6x4096x128 .f32) (p : Fin 4096) (l : Fin 128) : tab4 A7 (ix2 p l) = A7 (ix3 4 p l) := by
  pointwise [tab4]

theorem tab5_apply (A7 : FVec Ideal S6x4096x128 .f32) (p : Fin 4096) (l : Fin 128) : tab5 A7 (ix2 p l) = A7 (ix3 5 p l) := by
  pointwise [tab5]

theorem outQa_apply (q : FVec Ideal S32768x2048 .f32) (c s : FVec Ideal S4096x128 .f32) (b : Fin 8) (p : Fin 4096) (e : Fin 8) (l : Fin 128) :
    outQa q c s (ix2 ⟨b.val * 4096 + p.val, by omega⟩ ⟨e.val * 128 + l.val, by omega⟩) = Rows.qa (fun j => q (ix2 ⟨b.val * 4096 + p.val, by omega⟩ j)) (fun l => c (ix2 p l)) (fun l => s (ix2 p l)) e l := by
  pointwise [outQa, Rows.qa, Rows.rot]

theorem outKa_apply (h : FVec Ideal S32768x2560 .f32) (k : FVec Ideal S32768x1024 .f32) (c s : FVec Ideal S4096x128 .f32) (b : Fin 8) (p : Fin 4096) (e : Fin 8) (l : Fin 128) :
    outKa h k c s (ix2 ⟨b.val * 4096 + p.val, by omega⟩ ⟨e.val * 128 + l.val, by omega⟩) = Rows.ka (fun j => h (ix2 ⟨b.val * 4096 + p.val, by omega⟩ j)) (fun j => k (ix2 ⟨b.val * 4096 + p.val, by omega⟩ j)) (fun l => c (ix2 p l)) (fun l => s (ix2 p l)) e l := by
  pointwise [outKa, Rows.ka, Rows.rot]

theorem outVa_apply (u : FVec Ideal S32768x256 .f32) (A6 : FVec Ideal S512x256 .bf16) (t : Fin 64) (f r : Fin 512) :
    outVa u A6 (ix3 t f r) = Rows.lin (fun d => u (ix2 ⟨t.val * 512 + r.val, by omega⟩ d)) (fun d f => A6 (ix2 f d)) f := by
  pointwise [outVa, Rows.lin]

theorem outQc_apply (h : FVec Ideal S32768x2560 .f32) (c s : FVec Ideal S4096x128 .f32) (b : Fin 8) (p : Fin 4096) (e : Fin 2) (l : Fin 128) :
    outQc h c s (ix2 ⟨b.val * 4096 + p.val, by omega⟩ ⟨e.val * 128 + l.val, by omega⟩) = Rows.qc (fun j => h (ix2 ⟨b.val * 4096 + p.val, by omega⟩ j)) (fun l => c (ix2 p l)) (fun l => s (ix2 p l)) e l := by
  pointwise [outQc, Rows.qc, Rows.rot]

theorem outKc_apply (h : FVec Ideal S32768x2560 .f32) (c s : FVec Ideal S4096x128 .f32) (b : Fin 8) (p : Fin 4096) (l : Fin 128) :
    outKc h c s (ix2 ⟨b.val * 4096 + p.val, by omega⟩ l) = Rows.kc (fun j => h (ix2 ⟨b.val * 4096 + p.val, by omega⟩ j)) (fun l => c (ix2 p l)) (fun l => s (ix2 p l)) l := by
  pointwise [outKc, Rows.kc, Rows.rot]

theorem outQb_apply (h : FVec Ideal S32768x2560 .f32) (r : Fin 32768) (l : Fin 256) : outQb h (ix2 r l) = h (ix2 r ⟨896 + l.val, by omega⟩) := by
  pointwise [outQb]

theorem outKb_apply (h : FVec Ideal S32768x2560 .f32) (r : Fin 32768) (l : Fin 256) : outKb h (ix2 r l) = h (ix2 r ⟨1152 + l.val, by omega⟩) := by
  pointwise [outKb]

theorem outVb_apply (h : FVec Ideal S32768x2560 .f32) (r : Fin 32768) (l : Fin 256) : outVb h (ix2 r l) = h (ix2 r ⟨1408 + l.val, by omega⟩) := by
  pointwise [outVb]

theorem outVc_apply (h : FVec Ideal S32768x2560 .f32) (r : Fin 32768) (l : Fin 128) : outVc h (ix2 r l) = h (ix2 r ⟨2432 + l.val, by omega⟩) := by
  pointwise [outVc]

end Cert.Proof.Ref2

end
-- ==== Proof.Value2.lean ====
module
public import proofs.«01_k».proof.Proof.Pieces2
public import proofs.«01_k».proof.Proof.RefValue2
public import Idealize.ShloMosaic.Lib.Pipeline.ValueKit
@[expose] public section
set_option maxRecDepth 16384
set_option maxHeartbeats 1000000
noncomputable section

/-!
# The projections' kernel: its nine result arrays

Grid point `t` reads rows `512 t …` of the input, all of the weights, and the rotary tables at the positions of those
rows, and writes the same rows of every result. The blocks tile the results, so these are the reference's, element by
element.
-/

namespace Cert.Proof.Kernel2Ideal
open Cert.Kernel2Ideal Cert.Kernel2Ideal.Gen
open Idealize.ShloMosaic Idealize.ShloMosaic.TcCoe Idealize.SL.Sem
open Idealize.ShloMosaic.Pipeline (Dat)
variable (m : (ℓ : Loc nD τ sig) → Buf (Elt Ideal) ℓ)

/-- The windows' block indices at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, t.val % 8, 0] ∧ win0_8.index t = ![t.val, 0] ∧ win0_9.index t = ![t.val, 0]
    ∧ win0_10.index t = ![t.val, 0, 0] ∧ win0_11.index t = ![t.val, 0] ∧ win0_12.index t = ![t.val, 0]
    ∧ win0_13.index t = ![t.val, 0] ∧ win0_14.index t = ![t.val, 0] ∧ win0_15.index t = ![t.val, 0]
    ∧ win0_16.index t = ![t.val, 0] ∧ t.val < 64 :=
  (by decide +kernel : ∀ t : Fin grid0.N, _)

theorem lt64 (t : Fin cfg0.N) : t.val < 64 := (idx t).2.2.2.2.2.2.2.2.2.2.2.2.2.2.2.2.2

abbrev a0 (c : Dev nD) : FVec Ideal S32768x1024 .f32 := m ((c : Thread nD τ).loc main_arg0)
abbrev a1 (c : Dev nD) : FVec Ideal S1024x2560 .bf16 := m ((c : Thread nD τ).loc main_arg1)
abbrev a2 (c : Dev nD) : FVec Ideal S1x384 .f32 := m ((c : Thread nD τ).loc main_arg2)
abbrev a3 (c : Dev nD) : FVec Ideal S384x2048 .bf16 := m ((c : Thread nD τ).loc main_arg3)
abbrev a4 (c : Dev nD) : FVec Ideal S1x256 .f32 := m ((c : Thread nD τ).loc main_arg4)
abbrev a5 (c : Dev nD) : FVec Ideal S256x1024 .bf16 := m ((c : Thread nD τ).loc main_arg5)
abbrev a6 (c : Dev nD) : FVec Ideal S512x256 .bf16 := m ((c : Thread nD τ).loc main_arg6)
abbrev a7 (c : Dev nD) : FVec Ideal S6x4096x128 .f32 := m ((c : Thread nD τ).loc main_arg7)

/-! ## The input blocks -/

theorem blk0 (c : Dev nD) (t : Fin cfg0.N) (b : Fin 8) (p : Fin 4096) (r : Fin 512) (h : b.val * 4096 + p.val = t.val * 512 + r.val) (d : Fin 1024) :
    iblk m c 0 t (ix2 r d) = a0 m c (ix2 ⟨b.val * 4096 + p.val, by omega⟩ d) := by
  blk_ext [iblk, V, idx t]

theorem blk1 (c : Dev nD) (t : Fin cfg0.N) (d : Fin 1024) (j : Fin 2560) : iblk m c 1 t (ix2 d j) = a1 m c (ix2 d j) := by
  blk_ext [iblk, V, idx t]

theorem blk2 (c : Dev nD) (t : Fin cfg0.N) (d : Fin 1) (j : Fin 384) : iblk m c 2 t (ix2 d j) = a2 m c (ix2 d j) := by
  blk_ext [iblk, V, idx t]

theorem blk3 (c : Dev nD) (t : Fin cfg0.N) (d : Fin 384) (j : Fin 2048) : iblk m c 3 t (ix2 d j) = a3 m c (ix2 d j) := by
  blk_ext [iblk, V, idx t]

theorem blk4 (c : Dev nD) (t : Fin cfg0.N) (d : Fin 1) (j : Fin 256) : iblk m c 4 t (ix2 d j) = a4 m c (ix2 d j) := by
  blk_ext [iblk, V, idx t]

theorem blk5 (c : Dev nD) (t : Fin cfg0.N) (d : Fin 256) (j : Fin 1024) : iblk m c 5 t (ix2 d j) = a5 m c (ix2 d j) := by
  blk_ext [iblk, V, idx t]

theorem blk6 (c : Dev nD) (t : Fin cfg0.N) (d : Fin 512) (j : Fin 256) : iblk m c 6 t (ix2 d j) = a6 m c (ix2 d j) := by
  blk_ext [iblk, V, idx t]

theorem blk7 (c : Dev nD) (t : Fin cfg0.N) (p : Fin 4096) (r : Fin 512) (h : p.val = t.val % 8 * 512 + r.val) (k : Fin 6) (l : Fin 128) :
    iblk m c 7 t (ix3 k r l) = a7 m c (ix3 k p l) := by
  blk_ext [iblk, V, idx t]

/-! ## The rows -/

abbrev H (c : Dev nD) : FVec Ideal Cert.Reference2Ideal.S32768x2560 .f32 := Ref2.joint (a0 m c) (a1 m c)
abbrev U (c : Dev nD) : FVec Ideal Cert.Reference2Ideal.S32768x256 .f32 := Ref2.latKV (H m c) (a4 m c)
abbrev PQ (c : Dev nD) : FVec Ideal Cert.Reference2Ideal.S32768x2048 .f32 := Ref2.prodQ (Ref2.latQ (H m c) (a2 m c)) (a3 m c)
abbrev PK (c : Dev nD) : FVec Ideal S32768x1024 .f32 := Ref2.prodK (U m c) (a5 m c)

section
variable (c : Dev nD) (t : Fin cfg0.N) (b : Fin 8) (p : Fin 4096) (r : Fin 512) (h : b.val * 4096 + p.val = t.val * 512 + r.val)
include h

theorem rowH_eq : rowH (iblk m c 0 t) (iblk m c 1 t) r = fun j => H m c (ix2 ⟨b.val * 4096 + p.val, by omega⟩ j) := by
  funext j
  unfold H
  rw [Ref2.joint_apply]
  exact congrFun (congrArg₂ Rows.lin (funext fun d => blk0 m c t b p r h d) (funext fun d => funext fun j => blk1 m c t d j)) j

theorem rowQ_eq : rowQ (iblk m c 0 t) (iblk m c 1 t) (iblk m c 2 t) (iblk m c 3 t) r
    = fun j => PQ m c (ix2 ⟨b.val * 4096 + p.val, by omega⟩ j) := by
  funext j
  unfold PQ
  rw [Ref2.prodQ_apply]
  simp only [Ref2.latQ_apply]
  unfold rowQ
  rw [rowH_eq m c t b p r h]
  exact congrFun (congrArg₂ Rows.lin (congrArg (Rows.latQ _) (funext fun d => blk2 m c t 0 d)) (funext fun d => funext fun j => blk3 m c t d j)) j

theorem rowU_eq : rowU (iblk m c 0 t) (iblk m c 1 t) (iblk m c 4 t) r
    = fun j => U m c (ix2 ⟨b.val * 4096 + p.val, by omega⟩ j) := by
  funext j
  unfold U
  rw [Ref2.latKV_apply]
  unfold rowU
  rw [rowH_eq m c t b p r h]
  exact congrFun (congrArg (Rows.latKV _) (funext fun d => blk4 m c t 0 d)) j

theorem rowK_eq : rowK (iblk m c 0 t) (iblk m c 1 t) (iblk m c 4 t) (iblk m c 5 t) r
    = fun j => PK m c (ix2 ⟨b.val * 4096 + p.val, by omega⟩ j) := by
  funext j
  unfold PK
  rw [Ref2.prodK_apply]
  unfold rowK
  rw [rowU_eq m c t b p r h]
  exact congrFun (congrArg (Rows.lin _) (funext fun d => funext fun j => blk5 m c t d j)) j

end

/-! ## The results -/

/-- A grid point's row as sequence and position. -/
theorem split_row (t : Fin cfg0.N) (r : Fin 512) : ∃ (b : Fin 8) (p : Fin 4096), b.val * 4096 + p.val = t.val * 512 + r.val ∧ p.val = t.val % 8 * 512 + r.val := by
  have h := lt64 t
  exact ⟨⟨t.val / 8, by omega⟩, ⟨t.val % 8 * 512 + r.val, by omega⟩, by simp only []; omega, rfl⟩

/-- A lane as head and lane of the head. -/
theorem split_lane {n : ℕ} (x : Fin (n * 128)) : ∃ (e : Fin n) (l : Fin 128), x.val = e.val * 128 + l.val :=
  ⟨⟨x.val / 128, by omega⟩, ⟨x.val % 128, by omega⟩, by simp only []; omega⟩

theorem final8 (c : Dev nD) : (dats m 0 c).arrAt 8 cfg0.N = Ref2.outQa (PQ m c) (Ref2.tab0 (a7 m c)) (Ref2.tab1 (a7 m c)) := by
  refine (dats m 0 c).arrAt_eq_of_covers 8 _ (by decide +kernel) fun t _ y => ?_
  blk_simp
  rw [after0_8]
  obtain ⟨b, p, hb, hp⟩ := split_row t (y 0)
  obtain ⟨e, l, hl⟩ := split_lane (n := 8) (y 1)
  refine (out8_apply (iblk m c 0 t) (iblk m c 1 t) (iblk m c 2 t) (iblk m c 3 t) (iblk m c 4 t) (iblk m c 5 t) (iblk m c 6 t) (iblk m c 7 t) y (y 0) e l rfl hl).trans ?_
  refine Eq.trans ?_ ((Ref2.outQa_apply (PQ m c) (Ref2.tab0 (a7 m c)) (Ref2.tab1 (a7 m c)) b p e l).symm.trans ?_)
  · rw [← rowQ_eq m c t b p (y 0) hb]
    simp only [Ref2.tab0_apply, Ref2.tab1_apply, blk7 m c t p (y 0) hp]
  · blk_ext [idx t]

theorem final9 (c : Dev nD) : (dats m 0 c).arrAt 9 cfg0.N = Ref2.outKa (H m c) (PK m c) (Ref2.tab2 (a7 m c)) (Ref2.tab3 (a7 m c)) := by
  refine (dats m 0 c).arrAt_eq_of_covers 9 _ (by decide +kernel) fun t _ y => ?_
  blk_simp
  rw [after0_9]
  obtain ⟨b, p, hb, hp⟩ := split_row t (y 0)
  obtain ⟨e, l, hl⟩ := split_lane (n := 8) (y 1)
  refine (out9_apply (iblk m c 0 t) (iblk m c 1 t) (iblk m c 2 t) (iblk m c 3 t) (iblk m c 4 t) (iblk m c 5 t) (iblk m c 6 t) (iblk m c 7 t) y (y 0) e l rfl hl).trans ?_
  refine Eq.trans ?_ ((Ref2.outKa_apply (H m c) (PK m c) (Ref2.tab2 (a7 m c)) (Ref2.tab3 (a7 m c)) b p e l).symm.trans ?_)
  · rw [← rowH_eq m c t b p (y 0) hb, ← rowK_eq m c t b p (y 0) hb]
    simp only [Ref2.tab2_apply, Ref2.tab3_apply, blk7 m c t p (y 0) hp]
  · blk_ext [idx t]

theorem final10 (c : Dev nD) : (dats m 0 c).arrAt 10 cfg0.N = Ref2.outVa (U m c) (a6 m c) := by
  refine (dats m 0 c).arrAt_eq_of_covers 10 _ (by decide +kernel) fun t _ y => ?_
  blk_simp
  rw [after0_10]
  have h64 := lt64 t
  obtain ⟨b, p, hb, hp⟩ := split_row t (y 2)
  have e : (⟨b.val * 4096 + p.val, by omega⟩ : Fin 32768) = ⟨t.val * 512 + (y 2).val, by have := (y 2).isLt; omega⟩ := Fin.ext hb
  refine Eq.trans ?_ ((Ref2.outVa_apply (U m c) (a6 m c) ⟨t.val, h64⟩ (y 1) (y 2)).symm.trans ?_)
  · have hu := rowU_eq m c t b p (y 2) hb
    rw [e] at hu
    refine Eq.trans ?_ ((out10_apply (iblk m c 0 t) (iblk m c 1 t) (iblk m c 2 t) (iblk m c 3 t) (iblk m c 4 t) (iblk m c 5 t) (iblk m c 6 t) (iblk m c 7 t) (y 1) (y 2)).trans ?_)
    · blk_ext
    · rw [hu]
      exact congrFun (congrArg (Rows.lin _) (funext fun d => funext fun f => blk6 m c t f d)) _
  · blk_ext [idx t]

theorem final11 (c : Dev nD) : (dats m 0 c).arrAt 11 cfg0.N = Ref2.outQb (H m c) := by
  refine (dats m 0 c).arrAt_eq_of_covers 11 _ (by decide +kernel) fun t _ y => ?_
  blk_simp
  rw [after0_11]
  obtain ⟨b, p, hb, hp⟩ := split_row t (y 0)
  refine Eq.trans ?_ ((Ref2.outQb_apply (H m c) ⟨b.val * 4096 + p.val, by omega⟩ (y 1)).symm.trans ?_)
  · refine Eq.trans ?_ ((out11_apply (iblk m c 0 t) (iblk m c 1 t) (iblk m c 2 t) (iblk m c 3 t) (iblk m c 4 t) (iblk m c 5 t) (iblk m c 6 t) (iblk m c 7 t) (y 0) (y 1)).trans (congrFun (rowH_eq m c t b p (y 0) hb) _))
    blk_ext
  · blk_ext [idx t]

theorem final12 (c : Dev nD) : (dats m 0 c).arrAt 12 cfg0.N = Ref2.outKb (H m c) := by
  refine (dats m 0 c).arrAt_eq_of_covers 12 _ (by decide +kernel) fun t _ y => ?_
  blk_simp
  rw [after0_12]
  obtain ⟨b, p, hb, hp⟩ := split_row t (y 0)
  refine Eq.trans ?_ ((Ref2.outKb_apply (H m c) ⟨b.val * 4096 + p.val, by omega⟩ (y 1)).symm.trans ?_)
  · refine Eq.trans ?_ ((out12_apply (iblk m c 0 t) (iblk m c 1 t) (iblk m c 2 t) (iblk m c 3 t) (iblk m c 4 t) (iblk m c 5 t) (iblk m c 6 t) (iblk m c 7 t) (y 0) (y 1)).trans (congrFun (rowH_eq m c t b p (y 0) hb) _))
    blk_ext
  · blk_ext [idx t]

theorem final13 (c : Dev nD) : (dats m 0 c).arrAt 13 cfg0.N = Ref2.outVb (H m c) := by
  refine (dats m 0 c).arrAt_eq_of_covers 13 _ (by decide +kernel) fun t _ y => ?_
  blk_simp
  rw [after0_13]
  obtain ⟨b, p, hb, hp⟩ := split_row t (y 0)
  refine Eq.trans ?_ ((Ref2.outVb_apply (H m c) ⟨b.val * 4096 + p.val, by omega⟩ (y 1)).symm.trans ?_)
  · refine Eq.trans ?_ ((out13_apply (iblk m c 0 t) (iblk m c 1 t) (iblk m c 2 t) (iblk m c 3 t) (iblk m c 4 t) (iblk m c 5 t) (iblk m c 6 t) (iblk m c 7 t) (y 0) (y 1)).trans (congrFun (rowH_eq m c t b p (y 0) hb) _))
    blk_ext
  · blk_ext [idx t]

theorem final14 (c : Dev nD) : (dats m 0 c).arrAt 14 cfg0.N = Ref2.outQc (H m c) (Ref2.tab4 (a7 m c)) (Ref2.tab5 (a7 m c)) := by
  refine (dats m 0 c).arrAt_eq_of_covers 14 _ (by decide +kernel) fun t _ y => ?_
  blk_simp
  rw [after0_14]
  obtain ⟨b, p, hb, hp⟩ := split_row t (y 0)
  obtain ⟨e, l, hl⟩ := split_lane (n := 2) (y 1)
  refine (out14_apply (iblk m c 0 t) (iblk m c 1 t) (iblk m c 2 t) (iblk m c 3 t) (iblk m c 4 t) (iblk m c 5 t) (iblk m c 6 t) (iblk m c 7 t) y (y 0) e l rfl hl).trans ?_
  refine Eq.trans ?_ ((Ref2.outQc_apply (H m c) (Ref2.tab4 (a7 m c)) (Ref2.tab5 (a7 m c)) b p e l).symm.trans ?_)
  · rw [← rowH_eq m c t b p (y 0) hb]
    simp only [Ref2.tab4_apply, Ref2.tab5_apply, blk7 m c t p (y 0) hp]
  · blk_ext [idx t]

theorem final15 (c : Dev nD) : (dats m 0 c).arrAt 15 cfg0.N = Ref2.outKc (H m c) (Ref2.tab4 (a7 m c)) (Ref2.tab5 (a7 m c)) := by
  refine (dats m 0 c).arrAt_eq_of_covers 15 _ (by decide +kernel) fun t _ y => ?_
  blk_simp
  rw [after0_15]
  obtain ⟨b, p, hb, hp⟩ := split_row t (y 0)
  refine Eq.trans ?_ ((Ref2.outKc_apply (H m c) (Ref2.tab4 (a7 m c)) (Ref2.tab5 (a7 m c)) b p (y 1)).symm.trans ?_)
  · rw [← rowH_eq m c t b p (y 0) hb]
    simp only [Ref2.tab4_apply, Ref2.tab5_apply, ← blk7 m c t p (y 0) hp]
    refine Eq.trans ?_ (out15_apply (iblk m c 0 t) (iblk m c 1 t) (iblk m c 2 t) (iblk m c 3 t) (iblk m c 4 t) (iblk m c 5 t) (iblk m c 6 t) (iblk m c 7 t) (y 0) (y 1))
    blk_ext
  · blk_ext [idx t]

theorem final16 (c : Dev nD) : (dats m 0 c).arrAt 16 cfg0.N = Ref2.outVc (H m c) := by
  refine (dats m 0 c).arrAt_eq_of_covers 16 _ (by decide +kernel) fun t _ y => ?_
  blk_simp
  rw [after0_16]
  obtain ⟨b, p, hb, hp⟩ := split_row t (y 0)
  refine Eq.trans ?_ ((Ref2.outVc_apply (H m c) ⟨b.val * 4096 + p.val, by omega⟩ (y 1)).symm.trans ?_)
  · refine Eq.trans ?_ ((out16_apply (iblk m c 0 t) (iblk m c 1 t) (iblk m c 2 t) (iblk m c 3 t) (iblk m c 4 t) (iblk m c 5 t) (iblk m c 6 t) (iblk m c 7 t) (y 0) (y 1)).trans (congrFun (rowH_eq m c t b p (y 0) hb) _))
    blk_ext
  · blk_ext [idx t]

end Cert.Proof.Kernel2Ideal

end
-- ==== Proof.Algebraic2.lean ====
module
public import proofs.«01_k».proof.Defs
public import proofs.«01_k».proof.Proof.Value2
@[expose] public section
set_option maxRecDepth 16384
set_option maxHeartbeats 1000000
noncomputable section

/-!
# The projections: kernel and reference agree

The nine results as functions of the eight arguments, and the claim that both programs compute them.
-/

namespace Cert.Proof.Ref2
open Cert.Reference2Ideal Cert.Reference2Ideal.Gen
open Idealize.ShloMosaic Idealize.ShloMosaic.TcCoe

/-- The queries of the attention. -/
def resQa (A0 : FVec Ideal S32768x1024 .f32) (A1 : FVec Ideal S1024x2560 .bf16) (A2 : FVec Ideal S1x384 .f32) (A3 : FVec Ideal S384x2048 .bf16)
    (A4 : FVec Ideal S1x256 .f32) (A5 : FVec Ideal S256x1024 .bf16) (A6 : FVec Ideal S512x256 .bf16) (A7 : FVec Ideal S6x4096x128 .f32) : FVec Ideal S32768x1024 .bf16 :=
  outQa (prodQ (latQ (joint A0 A1) A2) A3) (tab0 A7) (tab1 A7)

/-- The keys of the attention. -/
def resKa (A0 : FVec Ideal S32768x1024 .f32) (A1 : FVec Ideal S1024x2560 .bf16) (A2 : FVec Ideal S1x384 .f32) (A3 : FVec Ideal S384x2048 .bf16)
    (A4 : FVec Ideal S1x256 .f32) (A5 : FVec Ideal S256x1024 .bf16) (A6 : FVec Ideal S512x256 .bf16) (A7 : FVec Ideal S6x4096x128 .f32) : FVec Ideal S32768x1024 .bf16 :=
  outKa (joint A0 A1) (prodK (latKV (joint A0 A1) A4) A5) (tab2 A7) (tab3 A7)

/-- The values of the attention. -/
def resVa (A0 : FVec Ideal S32768x1024 .f32) (A1 : FVec Ideal S1024x2560 .bf16) (A2 : FVec Ideal S1x384 .f32) (A3 : FVec Ideal S384x2048 .bf16)
    (A4 : FVec Ideal S1x256 .f32) (A5 : FVec Ideal S256x1024 .bf16) (A6 : FVec Ideal S512x256 .bf16) (A7 : FVec Ideal S6x4096x128 .f32) : FVec Ideal S64x512x512 .bf16 :=
  outVa (latKV (joint A0 A1) A4) A6

/-- The queries of the attention with position bias. -/
def resQb (A0 : FVec Ideal S32768x1024 .f32) (A1 : FVec Ideal S1024x2560 .bf16) (A2 : FVec Ideal S1x384 .f32) (A3 : FVec Ideal S384x2048 .bf16)
    (A4 : FVec Ideal S1x256 .f32) (A5 : FVec Ideal S256x1024 .bf16) (A6 : FVec Ideal S512x256 .bf16) (A7 : FVec Ideal S6x4096x128 .f32) : FVec Ideal S32768x256 .bf16 :=
  outQb (joint A0 A1)

/-- Its keys. -/
def resKb (A0 : FVec Ideal S32768x1024 .f32) (A1 : FVec Ideal S1024x2560 .bf16) (A2 : FVec Ideal S1x384 .f32) (A3 : FVec Ideal S384x2048 .bf16)
    (A4 : FVec Ideal S1x256 .f32) (A5 : FVec Ideal S256x1024 .bf16) (A6 : FVec Ideal S512x256 .bf16) (A7 : FVec Ideal S6x4096x128 .f32) : FVec Ideal S32768x256 .bf16 :=
  outKb (joint A0 A1)

/-- Its values. -/
def resVb (A0 : FVec Ideal S32768x1024 .f32) (A1 : FVec Ideal S1024x2560 .bf16) (A2 : FVec Ideal S1x384 .f32) (A3 : FVec Ideal S384x2048 .bf16)
    (A4 : FVec Ideal S1x256 .f32) (A5 : FVec Ideal S256x1024 .bf16) (A6 : FVec Ideal S512x256 .bf16) (A7 : FVec Ideal S6x4096x128 .f32) : FVec Ideal S32768x256 .bf16 :=
  outVb (joint A0 A1)

/-- The queries of the window attention. -/
def resQc (A0 : FVec Ideal S32768x1024 .f32) (A1 : FVec Ideal S1024x2560 .bf16) (A2 : FVec Ideal S1x384 .f32) (A3 : FVec Ideal S384x2048 .bf16)
    (A4 : FVec Ideal S1x256 .f32) (A5 : FVec Ideal S256x1024 .bf16) (A6 : FVec Ideal S512x256 .bf16) (A7 : FVec Ideal S6x4096x128 .f32) : FVec Ideal S32768x256 .bf16 :=
  outQc (joint A0 A1) (tab4 A7) (tab5 A7)

/-- Its keys. -/
def resKc (A0 : FVec Ideal S32768x1024 .f32) (A1 : FVec Ideal S1024x2560 .bf16) (A2 : FVec Ideal S1x384 .f32) (A3 : FVec Ideal S384x2048 .bf16)
    (A4 : FVec Ideal S1x256 .f32) (A5 : FVec Ideal S256x1024 .bf16) (A6 : FVec Ideal S512x256 .bf16) (A7 : FVec Ideal S6x4096x128 .f32) : FVec Ideal S32768x128 .bf16 :=
  outKc (joint A0 A1) (tab4 A7) (tab5 A7)

/-- Its values. -/
def resVc (A0 : FVec Ideal S32768x1024 .f32) (A1 : FVec Ideal S1024x2560 .bf16) (A2 : FVec Ideal S1x384 .f32) (A3 : FVec Ideal S384x2048 .bf16)
    (A4 : FVec Ideal S1x256 .f32) (A5 : FVec Ideal S256x1024 .bf16) (A6 : FVec Ideal S512x256 .bf16) (A7 : FVec Ideal S6x4096x128 .f32) : FVec Ideal S32768x128 .bf16 :=
  outVc (joint A0 A1)

/-- Equal arguments, equal result. -/
theorem congr8 {α0 α1 α2 α3 α4 α5 α6 α7 β : Type} (f : α0 → α1 → α2 → α3 → α4 → α5 → α6 → α7 → β) {a0 b0 : α0} {a1 b1 : α1} {a2 b2 : α2}
    {a3 b3 : α3} {a4 b4 : α4} {a5 b5 : α5} {a6 b6 : α6} {a7 b7 : α7} (h0 : a0 = b0) (h1 : a1 = b1) (h2 : a2 = b2) (h3 : a3 = b3)
    (h4 : a4 = b4) (h5 : a5 = b5) (h6 : a6 = b6) (h7 : a7 = b7) : f a0 a1 a2 a3 a4 a5 a6 a7 = f b0 b1 b2 b3 b4 b5 b6 b7 := by
  rw [h0, h1, h2, h3, h4, h5, h6, h7]

end Cert.Proof.Ref2

namespace Cert.Proof
open Idealize.ShloMosaic Idealize.SL.Sem

/-- The projections' reference ends in every run, its arguments unchanged; it has no semaphore. -/
theorem reference2_frame : Cert.quiescent_Reference2Ideal := fun m ρ _ =>
  (θ_run Cert.Reference2Ideal.defs _ _).mono (fun r h => ⟨fun c => (h c).2.2.2.2.2.2.2.2.2,
      Idealize.ShloMosaic.sem_eq_zero_of_no_sems (by decide) r.2⟩)
    (Cert.Reference2Ideal.Value.run (F := Ideal) m ρ)

open Kernel2Ideal in
/-- The projections' kernel and reference give equal results, over the extended reals. -/
theorem algebraic2 : Cert.algebraic_Kernel2Ideal_Reference2Ideal := by
  intro m g m' g' _ hargs
  refine ⟨fun c => Ref2.resQa (a0 m c) (a1 m c) (a2 m c) (a3 m c) (a4 m c) (a5 m c) (a6 m c) (a7 m c),
    fun c => Ref2.resKa (a0 m c) (a1 m c) (a2 m c) (a3 m c) (a4 m c) (a5 m c) (a6 m c) (a7 m c),
    fun c => Ref2.resVa (a0 m c) (a1 m c) (a2 m c) (a3 m c) (a4 m c) (a5 m c) (a6 m c) (a7 m c),
    fun c => Ref2.resQb (a0 m c) (a1 m c) (a2 m c) (a3 m c) (a4 m c) (a5 m c) (a6 m c) (a7 m c),
    fun c => Ref2.resKb (a0 m c) (a1 m c) (a2 m c) (a3 m c) (a4 m c) (a5 m c) (a6 m c) (a7 m c),
    fun c => Ref2.resVb (a0 m c) (a1 m c) (a2 m c) (a3 m c) (a4 m c) (a5 m c) (a6 m c) (a7 m c),
    fun c => Ref2.resQc (a0 m c) (a1 m c) (a2 m c) (a3 m c) (a4 m c) (a5 m c) (a6 m c) (a7 m c),
    fun c => Ref2.resKc (a0 m c) (a1 m c) (a2 m c) (a3 m c) (a4 m c) (a5 m c) (a6 m c) (a7 m c),
    fun c => Ref2.resVc (a0 m c) (a1 m c) (a2 m c) (a3 m c) (a4 m c) (a5 m c) (a6 m c) (a7 m c), ?_, ?_⟩
  · exact (θ_run Cert.Kernel2Ideal.defs _ _).mono (fun r h c => ⟨((h c).1 8).trans (final8 m c),
      ((h c).1 9).trans (final9 m c),
      ((h c).1 10).trans (final10 m c),
      ((h c).1 11).trans (final11 m c),
      ((h c).1 12).trans (final12 m c),
      ((h c).1 13).trans (final13 m c),
      ((h c).1 14).trans (final14 m c),
      ((h c).1 15).trans (final15 m c),
      ((h c).1 16).trans (final16 m c),
      ((h c).1 0).trans ((Cert.Kernel2Ideal.Gen.dats m 0 c).arrAt_in 0 rfl _),
      ((h c).1 1).trans ((Cert.Kernel2Ideal.Gen.dats m 0 c).arrAt_in 1 rfl _),
      ((h c).1 2).trans ((Cert.Kernel2Ideal.Gen.dats m 0 c).arrAt_in 2 rfl _),
      ((h c).1 3).trans ((Cert.Kernel2Ideal.Gen.dats m 0 c).arrAt_in 3 rfl _),
      ((h c).1 4).trans ((Cert.Kernel2Ideal.Gen.dats m 0 c).arrAt_in 4 rfl _),
      ((h c).1 5).trans ((Cert.Kernel2Ideal.Gen.dats m 0 c).arrAt_in 5 rfl _),
      ((h c).1 6).trans ((Cert.Kernel2Ideal.Gen.dats m 0 c).arrAt_in 6 rfl _),
      ((h c).1 7).trans ((Cert.Kernel2Ideal.Gen.dats m 0 c).arrAt_in 7 rfl _)⟩) (Cert.Kernel2Ideal.Gen.run_main (F := Ideal) m g)
  · refine (θ_run Cert.Reference2Ideal.defs _ _).mono (fun r h c => ?_) (Cert.Reference2Ideal.Value.run (F := Ideal) m' g')
    obtain ⟨e0, e1, e2, e3, e4, e5, e6, e7⟩ := hargs c
    obtain ⟨h0, h1, h2, h3, h4, h5, h6, h7, h8, hr⟩ := h c
    exact ⟨h0.trans (Ref2.congr8 Ref2.resQa e0 e1 e2 e3 e4 e5 e6 e7),
      h1.trans (Ref2.congr8 Ref2.resKa e0 e1 e2 e3 e4 e5 e6 e7),
      h2.trans (Ref2.congr8 Ref2.resVa e0 e1 e2 e3 e4 e5 e6 e7),
      h3.trans (Ref2.congr8 Ref2.resQb e0 e1 e2 e3 e4 e5 e6 e7),
      h4.trans (Ref2.congr8 Ref2.resKb e0 e1 e2 e3 e4 e5 e6 e7),
      h5.trans (Ref2.congr8 Ref2.resVb e0 e1 e2 e3 e4 e5 e6 e7),
      h6.trans (Ref2.congr8 Ref2.resQc e0 e1 e2 e3 e4 e5 e6 e7),
      h7.trans (Ref2.congr8 Ref2.resKc e0 e1 e2 e3 e4 e5 e6 e7),
      h8.trans (Ref2.congr8 Ref2.resVc e0 e1 e2 e3 e4 e5 e6 e7), hr⟩

end Cert.Proof

end
-- ==== Proof.Average.lean ====
module
public import proofs.«01_k».proof.Proof.Softmax
@[expose] public section
noncomputable section

/-!
# A softmax average over finitely many keys

The average of values with the weights `exp (s − max s)`, divided by their sum before or after it is taken: the two are
equal when no score is `⊤` and some score is not `⊥`, and a key of score `⊥` may have any value.
-/

namespace Cert.Proof.Average
open Idealize.ShloMosaic
open Cert.Proof.Softmax

/-- The weight of key `j` before the division. -/
def wt {n : ℕ} (S : Fin n → EReal) (j : Fin n) : EReal := Ideal.exp (S j - (Finset.univ : Finset (Fin n)).fold max ⊥ S)

/-- The average, divided at the end. -/
def avg {n : ℕ} (S V : Fin n → EReal) : EReal := Ideal.div (∑ j, wt S j * V j) (∑ j, wt S j)

/-- The score of a query, in block `i` of its sequence, with key `j` of a window of three blocks ending with the query's
    own: their product and a bias, or `⊥` where the key would be before the sequence's start. -/
def msc (i : ℕ) (q : Fin 64 → EReal) (k : Fin 768 → Fin 64 → EReal) (b : Fin 768 → EReal) (j : Fin 768) : EReal :=
  if 512 ≤ i * 256 + j.val then (∑ d, q d * k j d) + b j else ⊥

/-- Dividing the weights first gives the same average, and masked keys do not count. -/
theorem avg_eq {n : ℕ} (S V W : Fin n → EReal) (ht : ∀ j, S j ≠ ⊤) (hb : ∃ j, S j ≠ ⊥) (hV : ∀ j, S j ≠ ⊥ → V j = W j) :
    avg S V = ∑ j, W j * Ideal.div (wt S j) (∑ k, wt S k) := by
  obtain ⟨m, hm⟩ : ∃ m : ℝ, (Finset.univ : Finset (Fin n)).fold max ⊥ S = (m : EReal) := by
    rw [fold_sup]
    have h1 := sup_ne_top Finset.univ S fun j _ => ht j
    have h2 : Finset.univ.sup S ≠ ⊥ := by
      obtain ⟨j, hj⟩ := hb
      exact fun e => hj (le_bot_iff.mp (e ▸ Finset.le_sup (f := S) (Finset.mem_univ j)))
    exact ⟨_, (EReal.coe_toReal h1 h2).symm⟩
  have hw : ∀ j, wt S j = Ideal.exp (S j - (m : EReal)) := fun j => by rw [wt, hm]
  have hn : ∀ j, NN (wt S j) := fun j => by rw [hw]; exact exp_sub_nn (ht j) m
  have hz : ∀ j, S j = ⊥ → wt S j = 0 := fun j h => by rw [hw, h, EReal.bot_sub, Ideal.exp_bot]
  obtain ⟨l, hl, hL⟩ : ∃ l : ℝ, 0 < l ∧ ∑ k, wt S k = (l : EReal) := by
    obtain ⟨l, hl, e⟩ : NN (∑ k, wt S k) := Finset.sum_induction _ NN (fun _ _ => NN.add) NN.zero fun k _ => hn k
    refine ⟨l, lt_of_le_of_ne hl fun e0 => ?_, e⟩
    obtain ⟨j, hj⟩ := hb
    have p : wt S j ≤ ∑ k, wt S k := Finset.single_le_sum (f := wt S) (fun k _ => (hn k).nonneg) (Finset.mem_univ j)
    rw [e, ← e0, hw, ← EReal.coe_toReal (ht j) hj, ← EReal.coe_sub, Ideal.exp_coe] at p
    exact absurd (EReal.coe_le_coe_iff.mp p) (not_le.mpr (Real.exp_pos _))
  rw [avg, hL, div_pos_real _ hl, mul_sum _ _ ⟨l⁻¹, (inv_pos.mpr hl).le, rfl⟩]
  refine Finset.sum_congr rfl fun j _ => ?_
  rw [div_pos_real _ hl]
  by_cases h : S j = ⊥
  · rw [hz j h, zero_mul, mul_zero, mul_zero]
  · rw [hV j h, mul_comm (wt S j), mul_left_comm]

end Cert.Proof.Average

end
-- ==== Proof.Pieces3.lean ====
module
public import proofs.«01_k».proof.Proof.Average
public import proofs.«01_k».proof.Proof.Gen.Kernel3Ideal.Frame
public import Idealize.ShloMosaic.Lib.Pipeline.ValueKit
@[expose] public section
set_option maxRecDepth 16384
set_option maxHeartbeats 4000000
noncomputable section

/-!
# The chunked attention's kernel: a grid point's output block, element by element

The body's computed values and the two pieces it stores, read at a row and a lane.
-/

namespace Cert.Proof.Kernel3Ideal
open Cert.Kernel3Ideal Cert.Kernel3Ideal.Gen
open Idealize.ShloMosaic Idealize.ShloMosaic.TcCoe
open Cert.Proof.Average

/-- The weights of a block of scores before the division, given the row maxima. -/
def expo (s : FVec Ideal S256x768 .f32) (m : FVec Ideal S256 .f32) : FVec Ideal S256x768 .f32 :=
  exp (subf s (broadcastTo S256x768 (shapeCast S256x1 m shapeCasts_S256_S256x1) broadcasts_S256x1_S256x768))

/-- The averages of a window of values by the weights. -/
def quo (w : FVec Ideal S768x128 .bf16) (e : FVec Ideal S256x768 .f32) : FVec Ideal S256x128 .f32 :=
  divf (matmul dot_S256x768_S768x128_S256x128_1_0_0_1_n_n none (truncf .bf16 e bitsLt_bf16_f32) w (constant S256x128 .f32 0x00000000#32))
    (broadcastTo S256x128 (shapeCast S256x1 (multiReduction .add [1] S256 e 0x00000000#32 reduces_S256x768_S256 (.inl rfl) rfl) shapeCasts_S256_S256x1) broadcasts_S256x1_S256x128)

/-- The first two heads' lanes of a window. -/
def lo (v : FVec Ideal S768x256 .bf16) : FVec Ideal S768x128 .bf16 := extractStridedSlice S768x128 ![0, 0] v slices_S768x256_o0_0_S768x128

/-- The last two heads' lanes of a window. -/
def hi (v : FVec Ideal S768x256 .bf16) : FVec Ideal S768x128 .bf16 := extractStridedSlice S768x128 ![0, 128] v slices_S768x256_o0_128_S768x128

theorem pay11_eq (v : FVec Ideal S768x256 .bf16) (a : IVec S1x768 1) (s : FVec Ideal S256x768 .f32) (b : Vec Ideal S1x256x768 .f32) :
    k0_pay11 (F := Ideal) v a s b = quo (lo v) (expo (k0_pay12 a s b) (k0_pay13 a s b)) := rfl

theorem pay14_eq (v : FVec Ideal S768x256 .bf16) (s : FVec Ideal S256x768 .f32) (m : FVec Ideal S256 .f32) :
    k0_pay14 (F := Ideal) v s m = quo (lo v) (expo s m) := rfl

theorem pay15_eq (v : FVec Ideal S768x256 .bf16) (a : IVec S1x768 1) (s : FVec Ideal S256x768 .f32) (b : Vec Ideal S1x256x768 .f32) :
    k0_pay15 (F := Ideal) v a s b = quo (hi v) (expo (k0_pay12 a s b) (k0_pay13 a s b)) := rfl

theorem pay2_eq (v : FVec Ideal S768x256 .bf16) (a : IVec S1x768 1) (f : IVec S1x128 1) (o : FVec Ideal S256x128 .f32) (s : FVec Ideal S256x768 .f32) (b : Vec Ideal S1x256x768 .f32) :
    k0_pay2 (F := Ideal) v f o (k0_pay17 a s b) (k0_pay18 a s b) = k0_pay1 f o (quo (hi v) (expo (k0_pay12 a s b) (k0_pay13 a s b))) := rfl

theorem ofBits_ninf : Ideal.ofBits .f32 0xFF800000#32 = ⊥ := by
  simp [Ideal.ofBits, Ideal.ieee]

theorem pay1_apply (f : IVec S1x128 1) (x y : FVec Ideal S256x128 .f32) (r : Fin 256) (l : Fin 128) :
    k0_pay1 (F := Ideal) f x y (ix2 r l) = if f (ix2 0 l) = 1#1 then x (ix2 r l) else y (ix2 r l) := by
  pointwise [k0_pay1]
  rfl

theorem expo_apply (s : FVec Ideal S256x768 .f32) (m : FVec Ideal S256 .f32) (r : Fin 256) (j : Fin 768) :
    expo s m (ix2 r j) = Ideal.exp (s (ix2 r j) - m (ix1 r)) := by
  pointwise [expo]

theorem quo_apply (w : FVec Ideal S768x128 .bf16) (e : FVec Ideal S256x768 .f32) (r : Fin 256) (l : Fin 128) :
    quo w e (ix2 r l) = Ideal.div (∑ j, e (ix2 r j) * w (ix2 j l)) (∑ j, e (ix2 r j)) := by
  pointwise [quo]

theorem lo_apply (v : FVec Ideal S768x256 .bf16) (j : Fin 768) (l : Fin 128) : lo v (ix2 j l) = v (ix2 j ⟨l.val, by omega⟩) := by
  pointwise [lo]

theorem hi_apply (v : FVec Ideal S768x256 .bf16) (j : Fin 768) (l : Fin 128) : hi v (ix2 j l) = v (ix2 j ⟨128 + l.val, by omega⟩) := by
  pointwise [hi]

theorem pay12_apply (a : IVec S1x768 1) (s : FVec Ideal S256x768 .f32) (b : Vec Ideal S1x256x768 .f32) (r : Fin 256) (j : Fin 768) :
    k0_pay12 (F := Ideal) a s b (ix2 r j) = if a (ix2 0 j) = 1#1 then s (ix2 r j) + b (ix3 0 r j) else ⊥ := by
  pointwise [k0_pay12]
  rfl

theorem pay13_apply (a : IVec S1x768 1) (s : FVec Ideal S256x768 .f32) (b : Vec Ideal S1x256x768 .f32) (r : Fin 256) :
    k0_pay13 (F := Ideal) a s b (ix1 r) = (Finset.univ : Finset (Fin 768)).fold max ⊥ fun j => k0_pay12 (F := Ideal) a s b (ix2 r j) := by
  pointwise [k0_pay13]
  rw [ofBits_ninf]

theorem valid_at : ∀ (i : Fin 16) (j : Fin 768), IntOp.cmpi .sge (BitVec.ofNat 32 j.val) (Scalar.muli (Scalar.subi 2#32 (BitVec.ofNat 32 i.val)) 256#32)
    = if 512 ≤ i.val * 256 + j.val then 1#1 else 0#1 := by decide +kernel

theorem pay5_apply (i : grid0.Coords) (j : Fin 768) :
    k0_pay5 i (ix2 0 j) = if 512 ≤ (i 1).val * 256 + j.val then 1#1 else 0#1 := by
  pointwise [k0_pay5]
  exact valid_at (i 1) j

theorem left_at : ∀ l : Fin 128, IntOp.cmpi .slt (BitVec.ofNat 32 l.val) 64#32 = if l.val < 64 then 1#1 else 0#1 := by decide +kernel

theorem pay6_apply (l : Fin 128) : k0_pay6 (ix2 0 l) = if l.val < 64 then 1#1 else 0#1 := by
  pointwise [k0_pay6]
  exact left_at l

/-- A window of three blocks of rows. -/
def win (x y z : Vec Ideal S256x256 .bf16) (j : Fin 768) (l : Fin 256) : EReal :=
  if h : j.val < 256 then x (ix2 ⟨j.val, h⟩ l) else if h2 : j.val < 512 then y (ix2 ⟨j.val - 256, by omega⟩ l) else z (ix2 ⟨j.val - 512, by omega⟩ l)

theorem win_eq (x y z : Vec Ideal S256x256 .bf16) (j : Fin 768) (l : Fin 256) :
    (if h : j.val < 256 then x (ix2 ⟨j.val, h⟩ l) else if h2 : j.val - 256 < 256 then y (ix2 ⟨j.val - 256, h2⟩ l) else z (ix2 ⟨j.val - 256 - 256, by omega⟩ l))
      = win x y z j l := by
  unfold win
  by_cases h : j.val < 256
  · rw [dif_pos h, dif_pos h]
  · rw [dif_neg h, dif_neg h]
    by_cases h2 : j.val < 512
    · rw [dif_pos h2, dif_pos (show j.val - 256 < 256 by omega)]
    · rw [dif_neg h2, dif_neg (show ¬j.val - 256 < 256 by omega)]
      exact congrArg z (congrArg (fun a => ix2 a l) (Fin.ext (by show j.val - 256 - 256 = j.val - 512; omega)))

theorem pay3_apply (x y z : Vec Ideal S256x256 .bf16) (j : Fin 768) (l : Fin 256) : k0_pay3 (F := Ideal) x y z (ix2 j l) = win x y z j l := by
  pointwise [k0_pay3]
  exact win_eq x y z j l

theorem pay4_apply (x y z : Vec Ideal S256x256 .bf16) (j : Fin 768) (l : Fin 256) : k0_pay4 (F := Ideal) x y z (ix2 j l) = win x y z j l := by
  pointwise [k0_pay4]
  exact win_eq x y z j l

theorem pay7_apply (x y z : Vec Ideal S256x256 .bf16) (q : Vec Ideal S256x128 .bf16) (r : Fin 256) (j : Fin 768) :
    k0_pay7 (F := Ideal) x y z q (ix2 r j) = ∑ l : Fin 128, Scalar.select (k0_pay6 (ix2 0 l)) (q (ix2 r l) * k0_pay3 (F := Ideal) x y z (ix2 j ⟨l.val, by omega⟩)) 0 := by
  pointwise [k0_pay7]

theorem pay9_apply (v : FVec Ideal S768x256 .bf16) (f : IVec S1x128 1) (q : Vec Ideal S256x128 .bf16) (r : Fin 256) (j : Fin 768) :
    k0_pay9 (F := Ideal) v f q (ix2 r j) = ∑ l : Fin 128, Scalar.select (f (ix2 0 l)) (q (ix2 r l) * v (ix2 j ⟨128 + l.val, by omega⟩)) 0 := by
  pointwise [k0_pay9]

theorem pay8_apply (x y z : Vec Ideal S256x256 .bf16) (q : Vec Ideal S256x128 .bf16) (r : Fin 256) (j : Fin 768) :
    k0_pay8 (F := Ideal) x y z q (ix2 r j) = ∑ l : Fin 128, Scalar.select (IntOp.xori (k0_pay6 (ix2 0 l)) 1#1) (q (ix2 r l) * k0_pay3 (F := Ideal) x y z (ix2 j ⟨l.val, by omega⟩)) 0 := by
  pointwise [k0_pay8]

theorem pay10_apply (v : FVec Ideal S768x256 .bf16) (f : IVec S1x128 1) (q : Vec Ideal S256x128 .bf16) (r : Fin 256) (j : Fin 768) :
    k0_pay10 (F := Ideal) v f q (ix2 r j) = ∑ l : Fin 128, Scalar.select (IntOp.xori (f (ix2 0 l)) 1#1) (q (ix2 r l) * v (ix2 j ⟨128 + l.val, by omega⟩)) 0 := by
  pointwise [k0_pay10]

/-- A sum over the left half of the lanes. -/
theorem left_sum (f : Fin 128 → EReal) : ∑ l : Fin 128, Scalar.select (k0_pay6 (ix2 0 l)) (f l) 0 = ∑ d : Fin 64, f ⟨d.val, by omega⟩ := by
  have e : ∀ l : Fin 128, Scalar.select (k0_pay6 (ix2 0 l)) (f l) 0 = if l.val < 64 then f l else 0 := fun l => by
    rw [pay6_apply]; split <;> rfl
  rw [Finset.sum_congr rfl fun l _ => e l]
  refine (Fin.sum_univ_add (a := 64) (b := 64) fun l => if l.val < 64 then f l else 0).trans ?_
  rw [Finset.sum_eq_zero (s := Finset.univ) (f := fun d : Fin 64 => if (Fin.natAdd 64 d).val < 64 then f (Fin.natAdd 64 d) else 0) fun d _ => if_neg (by simp), add_zero]
  exact Finset.sum_congr rfl fun d _ => if_pos d.isLt

/-- A sum over the right half of the lanes. -/
theorem right_sum (f : Fin 128 → EReal) : ∑ l : Fin 128, Scalar.select (IntOp.xori (k0_pay6 (ix2 0 l)) 1#1) (f l) 0 = ∑ d : Fin 64, f ⟨64 + d.val, by omega⟩ := by
  have e : ∀ l : Fin 128, Scalar.select (IntOp.xori (k0_pay6 (ix2 0 l)) 1#1) (f l) 0 = if l.val < 64 then 0 else f l := fun l => by
    rw [pay6_apply]; split <;> rfl
  rw [Finset.sum_congr rfl fun l _ => e l]
  refine (Fin.sum_univ_add (a := 64) (b := 64) fun l => if l.val < 64 then 0 else f l).trans ?_
  rw [Finset.sum_eq_zero (s := Finset.univ) (f := fun d : Fin 64 => if (Fin.castAdd 64 d).val < 64 then 0 else f (Fin.castAdd 64 d)) fun d _ => if_pos d.isLt, zero_add]
  exact Finset.sum_congr rfl fun d _ => if_neg (by simp)

/-- One head's average at a row and a lane. -/
theorem head (i : grid0.Coords) (w : FVec Ideal S768x128 .bf16) (s : FVec Ideal S256x768 .f32) (b : Vec Ideal S1x256x768 .f32) (r : Fin 256) (l : Fin 128)
    (q : Fin 64 → EReal) (k : Fin 768 → Fin 64 → EReal) (b' V : Fin 768 → EReal)
    (hs : ∀ j, s (ix2 r j) = ∑ d, q d * k j d) (hb : ∀ j, b (ix3 0 r j) = b' j) (hV : ∀ j, w (ix2 j l) = V j) :
    quo w (expo (k0_pay12 (k0_pay5 i) s b) (k0_pay13 (k0_pay5 i) s b)) (ix2 r l) = avg (msc (i 1).val q k b') V := by
  have e : (fun j => k0_pay12 (F := Ideal) (k0_pay5 i) s b (ix2 r j)) = msc (i 1).val q k b' := by
    funext j
    rw [pay12_apply, pay5_apply, hs, hb, msc]
    by_cases h : 512 ≤ (i 1).val * 256 + j.val
    · rw [if_pos h, if_pos h, if_pos rfl]
    · rw [if_neg h, if_neg h]; exact if_neg (by decide)
  have e' : ∀ j, expo (k0_pay12 (F := Ideal) (k0_pay5 i) s b) (k0_pay13 (k0_pay5 i) s b) (ix2 r j) = wt (msc (i 1).val q k b') j := fun j => by
    rw [expo_apply, pay13_apply, e, congrFun e j, wt]
  rw [quo_apply, avg]
  simp only [e', hV]

variable (i : grid0.Coords) (x0 x1 x2 x3 x4 x5 x6 : Vec Ideal S256x256 .bf16) (x7 : Vec Ideal S4x256x768 .f32)

theorem ld0 (x : Vec Ideal S256x256 .bf16) : View.ld x r0_0 = x := by funext i; show x (r0_0.emb i) = x i; blk_ext

theorem ld1 (r : Fin 256) (l : Fin 128) : View.ld x0 r0_1 (ix2 r l) = x0 (ix2 r ⟨l.val, by omega⟩) := by
  show x0 (r0_1.emb (ix2 r l)) = _; blk_ext

theorem ld2 (r : Fin 256) (l : Fin 128) : View.ld x0 r0_2 (ix2 r l) = x0 (ix2 r ⟨128 + l.val, by omega⟩) := by
  show x0 (r0_2.emb (ix2 r l)) = _; blk_ext

theorem ldb0 (r : Fin 256) (j : Fin 768) : View.ld x7 r0_3 (ix3 0 r j) = x7 (ix3 0 r j) := by
  show x7 (r0_3.emb (ix3 0 r j)) = _; blk_ext

theorem ldb1 (r : Fin 256) (j : Fin 768) : View.ld x7 r0_4 (ix3 0 r j) = x7 (ix3 1 r j) := by
  show x7 (r0_4.emb (ix3 0 r j)) = _; blk_ext

theorem ldb2 (r : Fin 256) (j : Fin 768) : View.ld x7 r0_5 (ix3 0 r j) = x7 (ix3 2 r j) := by
  show x7 (r0_5.emb (ix3 0 r j)) = _; blk_ext

theorem ldb3 (r : Fin 256) (j : Fin 768) : View.ld x7 r0_6 (ix3 0 r j) = x7 (ix3 3 r j) := by
  show x7 (r0_6.emb (ix3 0 r j)) = _; blk_ext

theorem idx_eq (x : S256x128.Idx) (r : Fin 256) (l : Fin 128) (h0 : (x 0 : ℕ) = r) (h1 : (x 1 : ℕ) = l) : x = ix2 r l := by
  funext a
  match a with
  | ⟨0, _⟩ => exact Fin.ext h0
  | ⟨1, _⟩ => exact Fin.ext h1

theorem lt_left (d : Fin 64) : d.val < 128 := by omega

theorem lt_right (d : Fin 64) : 64 + d.val < 128 := by omega

theorem lane_congr {α : Type} (f : Fin 256 → α) {a b : ℕ} (h : a = b) (ha : a < 256) (hb : b < 256) : f ⟨a, ha⟩ = f ⟨b, hb⟩ := by
  subst h; rfl

/-- The output block at row `r`, head `h`, lane `d`. -/
theorem out8_apply (y : S256x256.Idx) (r : Fin 256) (h : Fin 4) (d : Fin 64) (h0 : (y 0 : ℕ) = r) (h1 : (y 1 : ℕ) = h * 64 + d) :
    out0_8 (F := Ideal) i x0 x1 x2 x3 x4 x5 x6 x7 y
      = avg (msc (i 1).val (fun d => x0 (ix2 r ⟨h.val * 64 + d.val, by omega⟩)) (fun j d => win x1 x2 x3 j ⟨h.val * 64 + d.val, by omega⟩) (fun j => x7 (ix3 h r j)))
          (fun j => win x4 x5 x6 j ⟨h.val * 64 + d.val, by omega⟩) := by
  unfold_out out0_8
  simp only [ld0]
  rename' h0 => a0, h1 => a1, h => e
  canon_tiles x h
  case piece0 =>
    have hc : e.val = 2 ∨ e.val = 3 := by
      have : 128 ≤ e.val * 64 + d.val := by omega
      have := e.isLt
      omega
    rcases hc with he | he
    · obtain rfl := idx_eq x r ⟨d.val, lt_left d⟩ (by omega) (show (x 1 : ℕ) = d.val by omega)
      obtain rfl : e = 2 := Fin.ext he
      rw [pay2_eq, pay1_apply, pay6_apply, if_pos d.isLt, if_pos rfl, pay15_eq]
      refine head i _ _ _ r _ _ _ _ _ (fun j => ?_) (fun j => ldb2 x7 r j) (fun j => ?_)
      · rw [pay9_apply, left_sum]
        refine Finset.sum_congr rfl fun d _ => ?_
        rw [ld2, pay3_apply]
        rfl
      · rw [hi_apply, pay4_apply]
        rfl
    · obtain rfl := idx_eq x r ⟨64 + d.val, lt_right d⟩ (by omega) (show (x 1 : ℕ) = 64 + d.val by omega)
      obtain rfl : e = 3 := Fin.ext he
      rw [pay2_eq, pay1_apply, pay6_apply, if_neg (show ¬64 + d.val < 64 by omega), if_neg (by decide)]
      refine head i _ _ _ r _ _ _ _ _ (fun j => ?_) (fun j => ldb3 x7 r j) (fun j => ?_)
      · rw [pay10_apply, right_sum]
        refine Finset.sum_congr rfl fun d _ => ?_
        rw [ld2, pay3_apply]
        exact congrArg₂ (· * ·) (lane_congr (fun a => x0 (ix2 r a)) (by show 128 + (64 + d.val) = 3 * 64 + d.val; omega) _ _)
          (lane_congr (fun a => win x1 x2 x3 j a) (by show 128 + (64 + d.val) = 3 * 64 + d.val; omega) _ _)
      · rw [hi_apply, pay4_apply]
        exact lane_congr (fun a => win x4 x5 x6 j a) (by show 128 + (64 + d.val) = 3 * 64 + d.val; omega) _ _
  case piece1 =>
    have hc : e.val = 0 ∨ e.val = 1 := by
      have := (x 1).isLt
      have h128 : (x 1 : ℕ) < 128 := this
      omega
    rcases hc with he | he
    · obtain rfl := idx_eq x r ⟨d.val, lt_left d⟩ (by omega) (show (x 1 : ℕ) = d.val by omega)
      obtain rfl : e = 0 := Fin.ext he
      rw [pay1_apply, pay6_apply, if_pos d.isLt, if_pos rfl, pay11_eq]
      refine head i _ _ _ r _ _ _ _ _ (fun j => ?_) (fun j => ldb0 x7 r j) (fun j => ?_)
      · rw [pay7_apply, left_sum]
        refine Finset.sum_congr rfl fun d _ => ?_
        rw [ld1, pay3_apply]
        exact congrArg₂ (· * ·) (lane_congr (fun a => x0 (ix2 r a)) (by show d.val = 0 * 64 + d.val; omega) _ _)
          (lane_congr (fun a => win x1 x2 x3 j a) (by show d.val = 0 * 64 + d.val; omega) _ _)
      · rw [lo_apply, pay4_apply]
        exact lane_congr (fun a => win x4 x5 x6 j a) (by show d.val = 0 * 64 + d.val; omega) _ _
    · obtain rfl := idx_eq x r ⟨64 + d.val, lt_right d⟩ (by omega) (show (x 1 : ℕ) = 64 + d.val by omega)
      obtain rfl : e = 1 := Fin.ext he
      rw [pay1_apply, pay6_apply, if_neg (show ¬64 + d.val < 64 by omega), if_neg (by decide), pay14_eq]
      refine head i _ _ _ r _ _ _ _ _ (fun j => ?_) (fun j => ldb1 x7 r j) (fun j => ?_)
      · rw [pay8_apply, right_sum]
        refine Finset.sum_congr rfl fun d _ => ?_
        rw [ld1, pay3_apply]
        rfl
      · rw [lo_apply, pay4_apply]
        rfl

end Cert.Proof.Kernel3Ideal

end
-- ==== Proof.RefValue3.lean ====
module
public import proofs.«01_k».proof.Proof.Average
public import proofs.«01_k».proof.Proof.Gen.Reference3Ideal.Run
public import Idealize.ShloMosaic.Lib.Pointwise
@[expose] public section
set_option maxRecDepth 16384
set_option maxHeartbeats 4000000
noncomputable section

/-!
# The chunked attention's reference, element by element

The reference's operations in stages, and its result read at a row and a lane: the softmax average of one head's values
over the window of 768 keys of the row's block, the keys before the sequence's start masked by −∞.
-/

namespace Cert.Proof.Ref3
open Cert.Reference3Ideal Cert.Reference3Ideal.Gen
open Idealize.ShloMosaic Idealize.ShloMosaic.TcCoe
open Cert.Proof.Average

/-- Blocks of rows by head, two blocks of zeros before each sequence. -/
def padded (A : FVec Ideal S32768x256 .bf16) : FVec Ideal S8x18x256x4x64 .f32 :=
  pad S8x18x256x4x64 ![0, 2, 0, 0, 0] ![0, 0, 0, 0, 0] ![0, 0, 0, 0, 0] (shapeCast _ (extf .f32 A bitsLt_bf16_f32) shapeCasts_S32768x256_S8x16x256x4x64)
    (sitofp .f32 (constantI S_ 32 0#32)) pads_S8x16x256x4x64_S8x18x256x4x64_000_200_000_000_000 h_S_

/-- Each block's window: the two blocks before it and itself. -/
def windowOf (x : FVec Ideal S8x18x256x4x64 .f32) : FVec Ideal S8x16x768x4x64 .f32 :=
  concatenate S8x16x768x4x64 2 [⟨S8x16x256x4x64, (extractStridedSlice S8x16x256x4x64 ![0, 0, 0, 0, 0] x slices_S8x18x256x4x64_S8x16x256x4x64_0_0_0_0_0 : (⟨S8x16x256x4x64, .f32⟩ : BufTy).Contents (Elt Ideal))⟩,
    ⟨S8x16x256x4x64, (extractStridedSlice S8x16x256x4x64 ![0, 1, 0, 0, 0] x slices_S8x18x256x4x64_S8x16x256x4x64_0_1_0_0_0 : (⟨S8x16x256x4x64, .f32⟩ : BufTy).Contents (Elt Ideal))⟩,
    ⟨S8x16x256x4x64, (extractStridedSlice S8x16x256x4x64 ![0, 2, 0, 0, 0] x slices_S8x18x256x4x64_S8x16x256x4x64_0_2_0_0_0 : (⟨S8x16x256x4x64, .f32⟩ : BufTy).Contents (Elt Ideal))⟩]
    concatenates_S8x16x256x4x64_S8x16x256x4x64_S8x16x256x4x64_S8x16x768x4x64_d2

/-- The products of the queries with the keys of their windows. -/
def scoresOf (A0 : FVec Ideal S32768x256 .bf16) (k : FVec Ideal S8x16x768x4x64 .f32) : FVec Ideal S8x4x16x256x768 .f32 :=
  Host.dotGeneral dot_S8x16x256x4x64_S8x16x768x4x64_S8x4x16x256x768_4_4_2_2_031_031 none (shapeCast _ (extf .f32 A0 bitsLt_bf16_f32) shapeCasts_S32768x256_S8x16x256x4x64) k

/-- Whether a key of a block's window is in the sequence. -/
def valid : IVec S16x768 1 :=
  cmpi .sge (addi (broadcastInDim S16x768 ![0, 1] bcast_S16x1_S16x768_0_1 (broadcastInDim S16x1 ![0] bcast_S16_S16x1_0 (muli (iotaInDim S16 32 0) (broadcastInDim S16 ![] bcast_S_S16 (constantI S_ 32 256#32)))))
    (broadcastInDim S16x768 ![0, 1] bcast_S1x768_S16x768_0_1 (broadcastInDim S1x768 ![1] bcast_S768_S1x768_1 (iotaInDim S768 32 0)))) (broadcastInDim S16x768 ![] bcast_S_S16x768 (constantI S_ 32 512#32))

/-- The scores with the bias, masked. -/
def maskedOf (a : IVec S16x768 1) (s : FVec Ideal S8x4x16x256x768 .f32) (A3 : FVec Ideal S4x256x768 .f32) : FVec Ideal S8x4x16x256x768 .f32 :=
  select (broadcastInDim S8x4x16x256x768 ![0, 1, 2, 3, 4] bcast_S1x1x16x1x768_S8x4x16x256x768_0_1_2_3_4 (broadcastInDim S1x1x16x1x768 ![2, 4] bcast_S16x768_S1x1x16x1x768_2_4 a))
    (addf s (broadcastInDim S8x4x16x256x768 ![0, 1, 2, 3, 4] bcast_S1x4x1x256x768_S8x4x16x256x768_0_1_2_3_4 (broadcastInDim S1x4x1x256x768 ![1, 3, 4] bcast_S4x256x768_S1x4x1x256x768_1_3_4 A3)))
    (broadcastInDim S8x4x16x256x768 ![] bcast_S_S8x4x16x256x768 (id (constant S_ .f32 0xFF800000#32)))

/-- Each row's maximum. -/
def rmax (x : FVec Ideal S8x4x16x256x768 .f32) : FVec Ideal S8x4x16x256 .f32 :=
  Host.reduce FloatOps.maximumf x (constant S_ .f32 0xFF800000#32) reducesTo_S8x4x16x256x768_S8x4x16x256_d4 h_S_

/-- The weights of a score array before the division, given its row maxima. -/
def expoOf (x : FVec Ideal S8x4x16x256x768 .f32) (r : FVec Ideal S8x4x16x256 .f32) : FVec Ideal S8x4x16x256x768 .f32 :=
  Host.exp (subf x (broadcastInDim S8x4x16x256x768 ![0, 1, 2, 3, 4] bcast_S8x4x16x256x1_S8x4x16x256x768_0_1_2_3_4 (broadcastInDim S8x4x16x256x1 ![0, 1, 2, 3] bcast_S8x4x16x256_S8x4x16x256x1_0_1_2_3
    (maximumf (broadcastInDim S8x4x16x256 ![] bcast_S_S8x4x16x256 (constant S_ .f32 0xFF800000#32)) r))))

/-- Each row of weights divided by its sum. -/
def normed (e : FVec Ideal S8x4x16x256x768 .f32) : FVec Ideal S8x4x16x256x768 .f32 :=
  Host.divf e (broadcastInDim S8x4x16x256x768 ![0, 1, 2, 3, 4] bcast_S8x4x16x256x1_S8x4x16x256x768_0_1_2_3_4 (broadcastInDim S8x4x16x256x1 ![0, 1, 2, 3] bcast_S8x4x16x256_S8x4x16x256x1_0_1_2_3
    (Host.reduceAdd e (constant S_ .f32 0x00000000#32) reducesTo_S8x4x16x256x768_S8x4x16x256_d4 h_S_)))

/-- The result from the weights and the windows of values. -/
def result (p : FVec Ideal S8x4x16x256x768 .f32) (v : FVec Ideal S8x16x768x4x64 .f32) : FVec Ideal S32768x256 .bf16 :=
  truncf .bf16 (shapeCast _ (transpose S8x16x256x4x64 [0, 1, 4, 2, 3] (Host.dotGeneral dot_S8x16x768x4x64_S8x4x16x256x768_S8x16x4x64x256_2_4_4_3_013_021 none v
    (extf .f32 (truncf .bf16 p bitsLt_bf16_f32) bitsLt_bf16_f32)) transposes_S8x16x4x64x256_S8x16x256x4x64_0_1_4_2_3) shapeCasts_S8x16x256x4x64_S32768x256) bitsLt_bf16_f32

/-- The masked scores of queries and keys. -/
def masked (A0 A1 : FVec Ideal S32768x256 .bf16) (A3 : FVec Ideal S4x256x768 .f32) : FVec Ideal S8x4x16x256x768 .f32 :=
  maskedOf valid (scoresOf A0 (windowOf (padded A1))) A3

/-- The weights of a score array before the division. -/
def expo (x : FVec Ideal S8x4x16x256x768 .f32) : FVec Ideal S8x4x16x256x768 .f32 := expoOf x (rmax x)

/-- The reference's result of its four arguments. -/
def REF (A0 A1 A2 : FVec Ideal S32768x256 .bf16) (A3 : FVec Ideal S4x256x768 .f32) : FVec Ideal S32768x256 .bf16 :=
  result (normed (expo (masked A0 A1 A3))) (windowOf (padded A2))

theorem res_eq (m : (ℓ : Loc nD τ sig) → Buf (Elt Ideal) ℓ) (c : Dev nD) :
    Value.res_out0 (F := Ideal) m c = REF (m ((c.tc : Thread nD τ).loc main_arg0)) (m ((c.tc : Thread nD τ).loc main_arg1)) (m ((c.tc : Thread nD τ).loc main_arg2)) (m ((c.tc : Thread nD τ).loc main_arg3)) := rfl

theorem ofBits_ninf : Ideal.ofBits .f32 0xFF800000#32 = ⊥ := by
  simp [Ideal.ofBits, Ideal.ieee]

theorem sitofp_zero : (FloatOps.sitofp .f32 (0#32 : BitVec 32) : Ideal .f32) = (0 : EReal) := by
  show ((((0#32 : BitVec 32).toInt : ℤ) : ℝ) : EReal) = 0
  simp

theorem padded_apply (A : FVec Ideal S32768x256 .bf16) (b : Fin 8) (c : Fin 18) (q : Fin 256) (h : Fin 4) (d : Fin 64) :
    padded A (ix5 b c q h d) = if hc : 2 ≤ c.val then A (ix2 ⟨b.val * 4096 + (c.val - 2) * 256 + q.val, by omega⟩ ⟨h.val * 64 + d.val, by omega⟩) else 0 := by
  pointwise [padded]
  by_cases hc : 2 ≤ c.val
  · rw [dif_pos hc, dif_pos ⟨hc, by omega⟩]
  · rw [dif_neg hc, dif_neg fun h => hc h.1]
    exact sitofp_zero

theorem windowOf_apply (x : FVec Ideal S8x18x256x4x64 .f32) (b : Fin 8) (c : Fin 16) (j : Fin 768) (h : Fin 4) (d : Fin 64) :
    windowOf x (ix5 b c j h d) = x (ix5 b ⟨c.val + j.val / 256, by omega⟩ ⟨j.val % 256, by omega⟩ h d) := by
  pointwise [windowOf]
  have key : ∀ {a a' : Fin 18} {q q' : Fin 256}, a.val = a'.val → q.val = q'.val → x (ix5 b a q h d) = x (ix5 b a' q' h d) := by
    intro a a' q q' h1 h2
    obtain rfl := Fin.ext h1
    obtain rfl := Fin.ext h2
    rfl
  by_cases h1 : j.val < 256
  · rw [dif_pos h1]
    exact key (by show c.val = c.val + j.val / 256; omega) (by show j.val = j.val % 256; omega)
  · rw [dif_neg h1]
    by_cases h2 : j.val - 256 < 256
    · rw [dif_pos h2]
      exact key (by show 1 + c.val = c.val + j.val / 256; omega) (by show j.val - 256 = j.val % 256; omega)
    · rw [dif_neg h2]
      exact key (by show 2 + c.val = c.val + j.val / 256; omega) (by show j.val - 256 - 256 = j.val % 256; omega)

theorem scoresOf_apply (A0 : FVec Ideal S32768x256 .bf16) (k : FVec Ideal S8x16x768x4x64 .f32) (b : Fin 8) (h : Fin 4) (c : Fin 16) (q : Fin 256) (j : Fin 768) :
    scoresOf A0 k (ix5 b h c q j) = ∑ d : Fin 64, A0 (ix2 ⟨b.val * 4096 + c.val * 256 + q.val, by omega⟩ ⟨h.val * 64 + d.val, by omega⟩) * k (ix5 b c j h d) := by
  pointwise [scoresOf]

theorem valid_at : ∀ (c : Fin 16) (j : Fin 768), IntOp.cmpi .sge (IntOp.addi (IntOp.muli (BitVec.ofNat 32 c.val) 256#32) (BitVec.ofNat 32 j.val)) 512#32
    = if 512 ≤ c.val * 256 + j.val then 1#1 else 0#1 := by decide +kernel

theorem valid_apply (c : Fin 16) (j : Fin 768) : valid (ix2 c j) = if 512 ≤ c.val * 256 + j.val then 1#1 else 0#1 := by
  pointwise [valid]
  exact valid_at c j

theorem maskedOf_apply (a : IVec S16x768 1) (s : FVec Ideal S8x4x16x256x768 .f32) (A3 : FVec Ideal S4x256x768 .f32) (b : Fin 8) (h : Fin 4) (c : Fin 16) (q : Fin 256) (j : Fin 768) :
    maskedOf a s A3 (ix5 b h c q j) = if a (ix2 c j) = 1#1 then s (ix5 b h c q j) + A3 (ix3 h q j) else ⊥ := by
  pointwise [maskedOf]
  rw [show (id (constant (F := Ideal) S_ FTy.f32 4286578688#32) ix0 : EReal) = ⊥ from ofBits_ninf]
  rfl

/-- A row maximum over the last of five axes, at any extents. -/
theorem hostMax {n0 n1 n2 n3 n4 : ℕ} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce FloatOps.maximumf x init h hu (ix4 a b c d) = (Finset.univ : Finset (Fin n4)).fold max (init (Shape.Idx.first hu)) fun k => x (ix5 a b c d k) := by
  rw [Host.reduce_eq_fold, Shape.ReducesTo.fold_fiber_r5_a4]
  rfl

theorem fill_first (h : 0 < S_.numel) : (constant (F := Ideal) S_ .f32 0xFF800000#32 : FVec Ideal S_ .f32) (Shape.Idx.first h) = (⊥ : EReal) :=
  ofBits_ninf

theorem rmax_apply (x : FVec Ideal S8x4x16x256x768 .f32) (b : Fin 8) (h : Fin 4) (c : Fin 16) (q : Fin 256) :
    rmax x (ix4 b h c q) = (Finset.univ : Finset (Fin 768)).fold max ⊥ fun k => x (ix5 b h c q k) := by
  have e := hostMax x (constant (F := Ideal) S_ .f32 0xFF800000#32) reducesTo_S8x4x16x256x768_S8x4x16x256_d4 h_S_ b h c q
  rw [fill_first] at e
  exact e

theorem expoOf_apply (x : FVec Ideal S8x4x16x256x768 .f32) (r : FVec Ideal S8x4x16x256 .f32) (b : Fin 8) (h : Fin 4) (c : Fin 16) (q : Fin 256) (j : Fin 768) :
    expoOf x r (ix5 b h c q j) = Ideal.exp (x (ix5 b h c q j) - max (Ideal.ofBits .f32 0xFF800000#32) (r (ix4 b h c q))) := by
  pointwise [expoOf]

theorem expo_apply (x : FVec Ideal S8x4x16x256x768 .f32) (b : Fin 8) (h : Fin 4) (c : Fin 16) (q : Fin 256) (j : Fin 768) :
    expo x (ix5 b h c q j) = wt (fun j => x (ix5 b h c q j)) j := by
  have e := expoOf_apply x (rmax x) b h c q j
  rw [rmax_apply, ofBits_ninf, max_eq_right bot_le] at e
  exact e

theorem normed_apply (x : FVec Ideal S8x4x16x256x768 .f32) (b : Fin 8) (h : Fin 4) (c : Fin 16) (q : Fin 256) (j : Fin 768) :
    normed x (ix5 b h c q j) = Ideal.div (x (ix5 b h c q j)) (∑ y, x (ix5 b h c q y)) := by
  pointwise [normed]

theorem result_apply (p : FVec Ideal S8x4x16x256x768 .f32) (v : FVec Ideal S8x16x768x4x64 .f32) (b : Fin 8) (c : Fin 16) (q : Fin 256) (h : Fin 4) (d : Fin 64) :
    result p v (ix2 ⟨b.val * 4096 + c.val * 256 + q.val, by omega⟩ ⟨h.val * 64 + d.val, by omega⟩) = ∑ j : Fin 768, v (ix5 b c j h d) * p (ix5 b h c q j) := by
  pointwise [result]

/-- A window of an array at block `c` of sequence `b`: key `j` and lane `l`, zero before the sequence. -/
def wnd (A : FVec Ideal S32768x256 .bf16) (b : Fin 8) (c : Fin 16) (j : Fin 768) (l : Fin 256) : EReal :=
  if hj : 512 ≤ c.val * 256 + j.val then A (ix2 ⟨b.val * 4096 + (c.val * 256 + j.val - 512), by omega⟩ l) else 0

theorem wnd_apply (A : FVec Ideal S32768x256 .bf16) (b : Fin 8) (c : Fin 16) (j : Fin 768) (h : Fin 4) (d : Fin 64) :
    windowOf (padded A) (ix5 b c j h d) = wnd A b c j ⟨h.val * 64 + d.val, by omega⟩ := by
  rw [windowOf_apply, padded_apply, wnd]
  by_cases hj : 512 ≤ c.val * 256 + j.val
  · rw [dif_pos hj, dif_pos (show 2 ≤ c.val + j.val / 256 by omega)]
    exact congrArg A (congrArg (fun a => ix2 a _) (Fin.ext (by show b.val * 4096 + (c.val + j.val / 256 - 2) * 256 + j.val % 256 = b.val * 4096 + (c.val * 256 + j.val - 512); omega)))
  · rw [dif_neg hj, dif_neg (show ¬2 ≤ c.val + j.val / 256 by omega)]

/-- The masked scores of one query. -/
theorem masked_apply (A0 A1 : FVec Ideal S32768x256 .bf16) (A3 : FVec Ideal S4x256x768 .f32) (b : Fin 8) (h : Fin 4) (c : Fin 16) (q : Fin 256) :
    (fun j => masked A0 A1 A3 (ix5 b h c q j)) = msc c.val (fun d => A0 (ix2 ⟨b.val * 4096 + c.val * 256 + q.val, by omega⟩ ⟨h.val * 64 + d.val, by omega⟩))
      (fun j d => wnd A1 b c j ⟨h.val * 64 + d.val, by omega⟩) (fun j => A3 (ix3 h q j)) := by
  funext j
  unfold masked
  rw [maskedOf_apply, valid_apply, scoresOf_apply, msc]
  simp only [wnd_apply]
  by_cases hj : 512 ≤ c.val * 256 + j.val
  · rw [if_pos hj, if_pos hj, if_pos rfl]
  · rw [if_neg hj, if_neg hj]; exact if_neg (by decide)

/-- The reference's result at a row and a lane. -/
theorem REF_apply (A0 A1 A2 : FVec Ideal S32768x256 .bf16) (A3 : FVec Ideal S4x256x768 .f32) (b : Fin 8) (c : Fin 16) (q : Fin 256) (h : Fin 4) (d : Fin 64)
    (T : Fin 768 → EReal) (hT : T = msc c.val (fun d => A0 (ix2 ⟨b.val * 4096 + c.val * 256 + q.val, by omega⟩ ⟨h.val * 64 + d.val, by omega⟩))
      (fun j d => wnd A1 b c j ⟨h.val * 64 + d.val, by omega⟩) (fun j => A3 (ix3 h q j))) :
    REF A0 A1 A2 A3 (ix2 ⟨b.val * 4096 + c.val * 256 + q.val, by omega⟩ ⟨h.val * 64 + d.val, by omega⟩)
      = ∑ j, wnd A2 b c j ⟨h.val * 64 + d.val, by omega⟩ * Ideal.div (wt T j) (∑ k, wt T k) := by
  unfold REF
  rw [result_apply]
  simp only [wnd_apply, normed_apply, expo_apply, masked_apply, ← hT]

end Cert.Proof.Ref3

end
-- ==== Proof.Finite3.lean ====
module
public import proofs.«01_k».proof.Proof.Finite
public import proofs.«01_k».proof.Proof.Gen.Pre_finite_qkb
@[expose] public section
set_option maxRecDepth 16384
noncomputable section

/-!
# The precondition of the chunked attention, read

`|x| < ∞` at every element of the queries, of the keys and of the bias says that every one of them is a real number.
-/

namespace Cert.Proof.Finite3
open Idealize.ShloMosaic Idealize.ShloMosaic.TcCoe
open Cert.Pre_finite_qkb

attribute [local instance] Cert.Pre_finite_qkb.Gen.facts

theorem fn_0 (A0 A1 A2 : FVec Ideal S32768x256 .bf16) (A3 : FVec Ideal S4x256x768 .f32) (i : S32768x256.Idx) :
    (fn (F := Ideal) A0 A1 A2 A3).1 i = Ideal.cmp .olt (max (A0 i : EReal) (-(A0 i : EReal))) (Ideal.ofBits .f32 0x7F800000#32) := rfl

theorem fn_1 (A0 A1 A2 : FVec Ideal S32768x256 .bf16) (A3 : FVec Ideal S4x256x768 .f32) (i : S32768x256.Idx) :
    (fn (F := Ideal) A0 A1 A2 A3).2.1 i = Ideal.cmp .olt (max (A1 i : EReal) (-(A1 i : EReal))) (Ideal.ofBits .f32 0x7F800000#32) := rfl

theorem fn_2 (A0 A1 A2 : FVec Ideal S32768x256 .bf16) (A3 : FVec Ideal S4x256x768 .f32) (i : S4x256x768.Idx) :
    (fn (F := Ideal) A0 A1 A2 A3).2.2 i = Ideal.cmp .olt (max (A3 i : EReal) (-(A3 i : EReal))) (Ideal.ofBits .f32 0x7F800000#32) := rfl

/-- Every element of an array of rows is a real number. -/
def RealRows (A : FVec Ideal S32768x256 .bf16) : Prop := ∀ i, ∃ r : ℝ, (A i : EReal) = (r : EReal)

/-- Every element of a bias is a real number. -/
def RealBias (A : FVec Ideal S4x256x768 .f32) : Prop := ∀ i, ∃ r : ℝ, (A i : EReal) = (r : EReal)

/-- The precondition makes every query, key and bias entry real. -/
theorem pre_real (m : (ℓ : Loc Cert.Kernel3Ideal.nD Cert.Kernel3Ideal.τ Cert.Kernel3Ideal.sig) → Buf (Elt Ideal) ℓ) (h : Cert.Pre_Kernel3Ideal_finite_qkb m) (c : Dev Cert.Kernel3Ideal.nD) :
    RealRows (m ((c.tc : Thread Cert.Kernel3Ideal.nD Cert.Kernel3Ideal.τ).loc Cert.Kernel3Ideal.main_arg0))
    ∧ RealRows (m ((c.tc : Thread Cert.Kernel3Ideal.nD Cert.Kernel3Ideal.τ).loc Cert.Kernel3Ideal.main_arg1))
    ∧ RealBias (m ((c.tc : Thread Cert.Kernel3Ideal.nD Cert.Kernel3Ideal.τ).loc Cert.Kernel3Ideal.main_arg3)) :=
  ⟨fun i => Finite.real_of_cmp _ ((fn_0 _ _ _ _ i).symm.trans (congrFun (h c).1 i)),
   fun i => Finite.real_of_cmp _ ((fn_1 _ _ _ _ i).symm.trans (congrFun (h c).2.1 i)),
   fun i => Finite.real_of_cmp _ ((fn_2 _ _ _ _ i).symm.trans (congrFun (h c).2.2 i))⟩

end Cert.Proof.Finite3

end
-- ==== Proof.Value3.lean ====
module
public import proofs.«01_k».proof.Proof.Pieces3
public import proofs.«01_k».proof.Proof.RefValue3
public import proofs.«01_k».proof.Proof.Finite3
public import Idealize.ShloMosaic.Lib.Pipeline.ValueKit
@[expose] public section
set_option maxRecDepth 16384
set_option maxHeartbeats 1000000
noncomputable section

/-!
# The chunked attention: kernel and reference agree

Grid point `t` is block `t % 16` of sequence `t / 16`: it reads that block's queries, the keys and values of the block
and of the two before it (block 0 again where there is none), and all of the bias. A key before the sequence's start
has score −∞, so what is read in its place does not count, and the block written is the reference's.
-/

namespace Cert.Proof.Kernel3Ideal
open Cert.Kernel3Ideal Cert.Kernel3Ideal.Gen
open Idealize.ShloMosaic Idealize.ShloMosaic.TcCoe Idealize.SL.Sem
open Idealize.ShloMosaic.Pipeline (Dat)
open Cert.Proof.Average Cert.Proof.Finite3

/-- Keys that agree inside the sequence give the same scores. -/
theorem msc_congr {i : ℕ} {q : Fin 64 → EReal} {k k' : Fin 768 → Fin 64 → EReal} {b : Fin 768 → EReal}
    (h : ∀ j : Fin 768, 512 ≤ i * 256 + j.val → ∀ d, k j d = k' j d) : msc i q k b = msc i q k' b := by
  funext j
  unfold msc
  by_cases hj : 512 ≤ i * 256 + j.val
  · rw [if_pos hj, if_pos hj, Finset.sum_congr rfl fun d _ => congrArg (q d * ·) (h j hj d)]
  · rw [if_neg hj, if_neg hj]

/-- A score inside the sequence is real at real queries, keys and bias. -/
theorem msc_real {i : ℕ} {q : Fin 64 → EReal} {k : Fin 768 → Fin 64 → EReal} {b : Fin 768 → EReal}
    (hq : ∀ d, ∃ r : ℝ, q d = (r : EReal)) (hk : ∀ j d, ∃ r : ℝ, k j d = (r : EReal)) (hb : ∀ j, ∃ r : ℝ, b j = (r : EReal))
    (j : Fin 768) (hj : 512 ≤ i * 256 + j.val) : ∃ r : ℝ, msc i q k b j = (r : EReal) := by
  unfold msc
  rw [if_pos hj]
  obtain ⟨s, hs⟩ : ∃ r : ℝ, ∑ d, q d * k j d = (r : EReal) := by
    refine Finset.sum_induction _ (fun x : EReal => ∃ r : ℝ, x = (r : EReal)) ?_ ⟨0, rfl⟩ fun d _ => ?_
    · rintro _ _ ⟨a, rfl⟩ ⟨c, rfl⟩; exact ⟨a + c, (EReal.coe_add a c).symm⟩
    · obtain ⟨a, ha⟩ := hq d
      obtain ⟨c, hc⟩ := hk j d
      exact ⟨a * c, by rw [ha, hc, EReal.coe_mul]⟩
  obtain ⟨u, hu⟩ := hb j
  exact ⟨s + u, by rw [hs, hu, EReal.coe_add]⟩

/-- A score outside the sequence is `⊥`. -/
theorem msc_bot {i : ℕ} {q : Fin 64 → EReal} {k : Fin 768 → Fin 64 → EReal} {b : Fin 768 → EReal} (j : Fin 768) (hj : ¬512 ≤ i * 256 + j.val) :
    msc i q k b j = ⊥ := if_neg hj

variable (m : (ℓ : Loc nD τ sig) → Buf (Elt Ideal) ℓ)

/-- The windows' block indices at a grid point, and the block's number in its sequence. -/
theorem idx : ∀ t : Fin cfg0.N, win0_0.index t = ![t.val, 0] ∧ win0_1.index t = ![t.val / 16 * 16 + (t.val % 16 - 2), 0]
    ∧ win0_2.index t = ![t.val / 16 * 16 + (t.val % 16 - 1), 0] ∧ win0_3.index t = ![t.val, 0]
    ∧ win0_4.index t = ![t.val / 16 * 16 + (t.val % 16 - 2), 0] ∧ win0_5.index t = ![t.val / 16 * 16 + (t.val % 16 - 1), 0]
    ∧ win0_6.index t = ![t.val, 0] ∧ win0_7.index t = ![0, 0, 0] ∧ win0_8.index t = ![t.val, 0]
    ∧ (grid0.coords t 1).val = t.val % 16 ∧ t.val < 128 :=
  (by decide +kernel : ∀ t : Fin grid0.N, _)

theorem lt128 (t : Fin cfg0.N) : t.val < 128 := (idx t).2.2.2.2.2.2.2.2.2.2

theorem coord (t : Fin cfg0.N) : (grid0.coords t 1).val = t.val % 16 := (idx t).2.2.2.2.2.2.2.2.2.1

abbrev a0 (c : Dev nD) : FVec Ideal S32768x256 .bf16 := m ((c : Thread nD τ).loc main_arg0)
abbrev a1 (c : Dev nD) : FVec Ideal S32768x256 .bf16 := m ((c : Thread nD τ).loc main_arg1)
abbrev a2 (c : Dev nD) : FVec Ideal S32768x256 .bf16 := m ((c : Thread nD τ).loc main_arg2)
abbrev a3 (c : Dev nD) : FVec Ideal S4x256x768 .f32 := m ((c : Thread nD τ).loc main_arg3)

section
variable (c : Dev nD) (t : Fin cfg0.N) (b : Fin 8) (i : Fin 16) (ht : t.val = b.val * 16 + i.val)
include ht

theorem blk0 (r l : Fin 256) : iblk m c 0 t (ix2 r l) = a0 m c (ix2 ⟨b.val * 4096 + i.val * 256 + r.val, by omega⟩ l) := by
  blk_ext [iblk, V, idx t]

theorem blk1 (hi : 2 ≤ i.val) (r l : Fin 256) : iblk m c 1 t (ix2 r l) = a1 m c (ix2 ⟨b.val * 4096 + (i.val - 2) * 256 + r.val, by omega⟩ l) := by
  blk_ext [iblk, V, idx t]

theorem blk2 (hi : 1 ≤ i.val) (r l : Fin 256) : iblk m c 2 t (ix2 r l) = a1 m c (ix2 ⟨b.val * 4096 + (i.val - 1) * 256 + r.val, by omega⟩ l) := by
  blk_ext [iblk, V, idx t]

theorem blk3 (r l : Fin 256) : iblk m c 3 t (ix2 r l) = a1 m c (ix2 ⟨b.val * 4096 + i.val * 256 + r.val, by omega⟩ l) := by
  blk_ext [iblk, V, idx t]

theorem blk4 (hi : 2 ≤ i.val) (r l : Fin 256) : iblk m c 4 t (ix2 r l) = a2 m c (ix2 ⟨b.val * 4096 + (i.val - 2) * 256 + r.val, by omega⟩ l) := by
  blk_ext [iblk, V, idx t]

theorem blk5 (hi : 1 ≤ i.val) (r l : Fin 256) : iblk m c 5 t (ix2 r l) = a2 m c (ix2 ⟨b.val * 4096 + (i.val - 1) * 256 + r.val, by omega⟩ l) := by
  blk_ext [iblk, V, idx t]

theorem blk6 (r l : Fin 256) : iblk m c 6 t (ix2 r l) = a2 m c (ix2 ⟨b.val * 4096 + i.val * 256 + r.val, by omega⟩ l) := by
  blk_ext [iblk, V, idx t]

theorem blk7 (h : Fin 4) (r : Fin 256) (j : Fin 768) : iblk m c 7 t (ix3 h r j) = a3 m c (ix3 h r j) := by
  blk_ext [iblk, V, idx t]

end

/-- Three blocks that are those of a window, as far as it is in the sequence, make the window. -/
theorem win_wnd (A : FVec Ideal S32768x256 .bf16) (x y z : Vec Ideal S256x256 .bf16) (b : Fin 8) (i : Fin 16)
    (hx : ∀ (hi : 2 ≤ i.val) (r l : Fin 256), x (ix2 r l) = A (ix2 ⟨b.val * 4096 + (i.val - 2) * 256 + r.val, by omega⟩ l))
    (hy : ∀ (hi : 1 ≤ i.val) (r l : Fin 256), y (ix2 r l) = A (ix2 ⟨b.val * 4096 + (i.val - 1) * 256 + r.val, by omega⟩ l))
    (hz : ∀ r l : Fin 256, z (ix2 r l) = A (ix2 ⟨b.val * 4096 + i.val * 256 + r.val, by omega⟩ l))
    (j : Fin 768) (hj : 512 ≤ i.val * 256 + j.val) (l : Fin 256) : win x y z j l = Ref3.wnd A b i j l := by
  have key : ∀ (u v : Fin 32768), u.val = v.val → A (ix2 u l) = A (ix2 v l) := fun u v h => by rw [Fin.ext h]
  unfold win Ref3.wnd
  rw [dif_pos hj]
  by_cases h1 : j.val < 256
  · rw [dif_pos h1, hx (by omega)]
    exact key _ _ (by show b.val * 4096 + (i.val - 2) * 256 + j.val = b.val * 4096 + (i.val * 256 + j.val - 512); omega)
  · rw [dif_neg h1]
    by_cases h2 : j.val < 512
    · rw [dif_pos h2, hy (by omega)]
      exact key _ _ (by show b.val * 4096 + (i.val - 1) * 256 + (j.val - 256) = b.val * 4096 + (i.val * 256 + j.val - 512); omega)
    · rw [dif_neg h2, hz]
      exact key _ _ (by show b.val * 4096 + i.val * 256 + (j.val - 512) = b.val * 4096 + (i.val * 256 + j.val - 512); omega)

theorem wnd_real {A : FVec Ideal S32768x256 .bf16} (h : RealRows A) (b : Fin 8) (i : Fin 16) (j : Fin 768) (l : Fin 256) :
    ∃ r : ℝ, Ref3.wnd A b i j l = (r : EReal) := by
  unfold Ref3.wnd
  split
  · exact h _
  · exact ⟨0, rfl⟩

/-- One element of a grid point's output block is the reference's element at the place where the block lies. -/
theorem point (c : Dev nD) (f0 : RealRows (a0 m c)) (f1 : RealRows (a1 m c)) (f3 : RealBias (a3 m c)) (t : Fin cfg0.N) (b : Fin 8) (i : Fin 16)
    (ht : t.val = b.val * 16 + i.val) (y : S256x256.Idx) (r : Fin 256) (h : Fin 4) (d : Fin 64) (h0 : (y 0 : ℕ) = r) (h1 : (y 1 : ℕ) = h * 64 + d) :
    out0_8 (F := Ideal) (grid0.coords t) (iblk m c 0 t) (iblk m c 1 t) (iblk m c 2 t) (iblk m c 3 t) (iblk m c 4 t) (iblk m c 5 t) (iblk m c 6 t) (iblk m c 7 t) y
      = Ref3.REF (a0 m c) (a1 m c) (a2 m c) (a3 m c) (ix2 ⟨b.val * 4096 + i.val * 256 + r.val, by omega⟩ ⟨h.val * 64 + d.val, by omega⟩) := by
  have hc : (grid0.coords t 1).val = i.val := by rw [coord]; omega
  refine (out8_apply (grid0.coords t) (iblk m c 0 t) (iblk m c 1 t) (iblk m c 2 t) (iblk m c 3 t) (iblk m c 4 t) (iblk m c 5 t) (iblk m c 6 t) (iblk m c 7 t) y r h d h0 h1).trans ?_
  have hk : ∀ (j : Fin 768), 512 ≤ i.val * 256 + j.val → ∀ l, win (iblk m c 1 t) (iblk m c 2 t) (iblk m c 3 t) j l = Ref3.wnd (a1 m c) b i j l :=
    fun j hj l => win_wnd (a1 m c) _ _ _ b i (blk1 m c t b i ht) (blk2 m c t b i ht) (blk3 m c t b i ht) j hj l
  have hv : ∀ (j : Fin 768), 512 ≤ i.val * 256 + j.val → ∀ l, win (iblk m c 4 t) (iblk m c 5 t) (iblk m c 6 t) j l = Ref3.wnd (a2 m c) b i j l :=
    fun j hj l => win_wnd (a2 m c) _ _ _ b i (blk4 m c t b i ht) (blk5 m c t b i ht) (blk6 m c t b i ht) j hj l
  rw [Ref3.REF_apply (a0 m c) (a1 m c) (a2 m c) (a3 m c) b i r h d _ rfl, hc, msc_congr fun j hj d => hk j hj _,
    funext fun d : Fin 64 => blk0 m c t b i ht r ⟨h.val * 64 + d.val, by omega⟩, funext fun j => blk7 m c t b i ht h r j]
  have hr := msc_real (i := i.val) (q := fun d : Fin 64 => a0 m c (ix2 ⟨b.val * 4096 + i.val * 256 + r.val, by omega⟩ ⟨h.val * 64 + d.val, by omega⟩))
    (k := fun j d => Ref3.wnd (a1 m c) b i j ⟨h.val * 64 + d.val, by omega⟩) (b := fun j => a3 m c (ix3 h r j))
    (fun d => f0 _) (fun j d => wnd_real f1 b i j _) (fun j => f3 _)
  refine avg_eq _ _ _ (fun j => ?_) ⟨⟨767, by omega⟩, ?_⟩ (fun j hj => ?_)
  · by_cases hj : 512 ≤ i.val * 256 + j.val
    · obtain ⟨r, hr⟩ := hr j hj
      exact fun e => EReal.coe_ne_top r (hr.symm.trans e)
    · exact fun e => bot_ne_top ((msc_bot j hj).symm.trans e)
  · obtain ⟨r, hr⟩ := hr ⟨767, by omega⟩ (by show 512 ≤ i.val * 256 + 767; omega)
    exact fun e => EReal.coe_ne_bot r (hr.symm.trans e)
  · exact hv j (by by_contra hn; exact hj (msc_bot j hn)) _

/-- The result array at the end is the reference's of the arguments. -/
theorem final8 (c : Dev nD) (f0 : RealRows (a0 m c)) (f1 : RealRows (a1 m c)) (f3 : RealBias (a3 m c)) :
    (dats m 0 c).arrAt 8 cfg0.N = Ref3.REF (a0 m c) (a1 m c) (a2 m c) (a3 m c) := by
  refine (dats m 0 c).arrAt_eq_of_covers 8 _ (by decide +kernel) fun t _ y => ?_
  blk_simp
  rw [after0_8]
  have h128 := lt128 t
  obtain ⟨b, i, ht⟩ : ∃ (b : Fin 8) (i : Fin 16), t.val = b.val * 16 + i.val :=
    ⟨⟨t.val / 16, by omega⟩, ⟨t.val % 16, by omega⟩, by simp only []; omega⟩
  obtain ⟨h, d, hd⟩ : ∃ (h : Fin 4) (d : Fin 64), (y 1).val = h.val * 64 + d.val := by
    have : (y 1).val < 256 := (y 1).isLt
    exact ⟨⟨(y 1).val / 64, by omega⟩, ⟨(y 1).val % 64, by omega⟩, by simp only []; omega⟩
  refine (point m c f0 f1 f3 t b i ht y (y 0) h d rfl hd).trans ?_
  blk_ext [idx t]

end Cert.Proof.Kernel3Ideal

end
-- ==== Proof.Algebraic3.lean ====
module
public import proofs.«01_k».proof.Defs
public import proofs.«01_k».proof.Proof.Value3
@[expose] public section
set_option maxRecDepth 16384
set_option maxHeartbeats 1000000
noncomputable section

/-!
# The chunked attention: the claims

The reference's frame, and that at finite queries, keys and bias both programs compute the reference's result.
-/

namespace Cert.Proof
open Idealize.ShloMosaic Idealize.SL.Sem

/-- The chunked attention's reference ends in every run, its arguments unchanged; it has no semaphore. -/
theorem reference3_frame : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Equal arguments, equal reference. -/
theorem REF3_congr {A0 A1 A2 B0 B1 B2 : FVec Ideal Cert.Reference3Ideal.S32768x256 .bf16} {A3 B3 : FVec Ideal Cert.Reference3Ideal.S4x256x768 .f32}
    (h0 : A0 = B0) (h1 : A1 = B1) (h2 : A2 = B2) (h3 : A3 = B3) : Ref3.REF A0 A1 A2 A3 = Ref3.REF B0 B1 B2 B3 := by
  rw [h0, h1, h2, h3]

/-- The kernel's mask constant, named minus infinity in its idealisation, is the constant the kernel is printed with. -/
theorem preserves3 : Cert.preserves_Kernel3_Kernel3Ideal :=
  IdealRules.named_const.statement Cert.Kernel3Ideal.κ "mask" .f32 0xF149F2CA#32 ⊥ rfl

/-- At finite queries, keys and bias the kernel's result is the reference's, over the extended reals. -/
theorem algebraic3 : Cert.algebraic_Kernel3Ideal_Reference3Ideal_pre_finite_qkb := by
  intro m g m' g' hpre hargs
  refine ⟨fun c => Ref3.REF (Kernel3Ideal.a0 m c) (Kernel3Ideal.a1 m c) (Kernel3Ideal.a2 m c) (Kernel3Ideal.a3 m c), ?_, ?_⟩
  · refine (θ_run Cert.Kernel3Ideal.defs _ _).mono (fun r h c => ?_) (Cert.Kernel3Ideal.Gen.run_main (F := Ideal) m g)
    have hf := Finite3.pre_real m hpre c
    exact ⟨((h c).1 8).trans (Kernel3Ideal.final8 m c hf.1 hf.2.1 hf.2.2),
      ((h c).1 0).trans ((Cert.Kernel3Ideal.Gen.dats m 0 c).arrAt_in 0 rfl _),
      ((h c).1 1).trans ((Cert.Kernel3Ideal.Gen.dats m 0 c).arrAt_in 1 rfl _),
      ((h c).1 4).trans ((Cert.Kernel3Ideal.Gen.dats m 0 c).arrAt_in 4 rfl _),
      ((h c).1 7).trans ((Cert.Kernel3Ideal.Gen.dats m 0 c).arrAt_in 7 rfl _)⟩
  · refine (θ_run Cert.Reference3Ideal.defs _ _).mono (fun r h c => ⟨(h c).1.trans ?_, (h c).2⟩)
      (Cert.Reference3Ideal.Value.run (F := Ideal) m' g')
    exact (Ref3.res_eq m' c).trans (REF3_congr (hargs c).1 (hargs c).2.1 (hargs c).2.2.1 (hargs c).2.2.2)

end Cert.Proof

end
-- ==== Proof.Sink.lean ====
module
public import proofs.«01_k».proof.Proof.Average
@[expose] public section
noncomputable section

/-!
# A softmax average with a sink

The softmax over the scores of finitely many keys and one more score, the sink's, which has no value: its weight counts
in the denominator only. Divided at the end or weight by weight, over a window or over a wider one whose other keys have
score `⊥`, the average is the same.
-/

namespace Cert.Proof.Sink
open Idealize.ShloMosaic
open Cert.Proof.Softmax Cert.Proof.Average

/-- The largest score, the sink's included. -/
def mxs {n : ℕ} (S : Fin n → EReal) (s : EReal) : EReal := max ((Finset.univ : Finset (Fin n)).fold max ⊥ S) s

/-- The weight of key `j` before the division. -/
def wts {n : ℕ} (S : Fin n → EReal) (s : EReal) (j : Fin n) : EReal := Ideal.exp (S j - mxs S s)

/-- The average, divided at the end. -/
def avgs {n : ℕ} (S : Fin n → EReal) (s : EReal) (V : Fin n → EReal) : EReal :=
  Ideal.div (∑ j, wts S s j * V j) (∑ j, wts S s j + Ideal.exp (s - mxs S s))

/-- The scores followed by the sink's. -/
def ext {n : ℕ} (S : Fin n → EReal) (s : EReal) (k : Fin (n + 1)) : EReal := if h : k.val < n then S ⟨k.val, h⟩ else s

theorem ext_castSucc {n : ℕ} (S : Fin n → EReal) (s : EReal) (j : Fin n) : ext S s j.castSucc = S j := dif_pos j.isLt

theorem ext_last {n : ℕ} (S : Fin n → EReal) (s : EReal) : ext S s (Fin.last n) = s := dif_neg (by simp)

/-- The score of row `r` of block `i` of a sequence with key `j` of the window of 384 keys that ends with the block: their
    product, or `⊥` where the key's chunk of 64 is after the row's or more than two before it, or not in the sequence. -/
def scw (i r : ℕ) (q : Fin 64 → EReal) (k : Fin 384 → Fin 64 → EReal) (j : Fin 384) : EReal :=
  if (r / 64 ≤ j.val / 64 ∧ j.val / 64 ≤ r / 64 + 2) ∧ (128 ≤ j.val ∨ 0 < i) then ∑ d, q d * k j d else ⊥

/-- The score of a query of chunk `c` of a sequence with key `j` of the window of three chunks that ends with its own: their
    product, or `⊥` where the key is not in the sequence. -/
def scc (c : ℕ) (q : Fin 64 → EReal) (k : Fin 192 → Fin 64 → EReal) (j : Fin 192) : EReal :=
  if 128 ≤ c * 64 + j.val then ∑ d, q d * k j d else ⊥

/-- Keys of score `⊥` may be left out. -/
theorem avgs_emb {n N : ℕ} (e : Fin n → Fin N) (he : Function.Injective e) (S V : Fin N → EReal) (s : EReal)
    (hS : ∀ j, j ∉ Set.range e → S j = ⊥) : avgs S s V = avgs (fun j => S (e j)) s (fun j => V (e j)) := by
  have hm : mxs S s = mxs (fun j => S (e j)) s := by
    unfold mxs
    rw [fold_sup, fold_sup]
    refine congrArg (max · s) (le_antisymm (Finset.sup_le fun j _ => ?_) (Finset.sup_le fun i _ => Finset.le_sup (f := S) (Finset.mem_univ (e i))))
    by_cases h : j ∈ Set.range e
    · obtain ⟨i, rfl⟩ := h
      exact Finset.le_sup (f := fun i => S (e i)) (Finset.mem_univ i)
    · rw [hS j h]; exact bot_le
  have hw : ∀ i, wts (fun j => S (e j)) s i = wts S s (e i) := fun i => by unfold wts; rw [hm]
  have h0 : ∀ j, j ∉ Set.range e → wts S s j = 0 := fun j h => by rw [wts, hS j h, EReal.bot_sub, Ideal.exp_bot]
  unfold avgs
  rw [hm, Fintype.sum_of_injective e he (fun i => wts (fun j => S (e j)) s i * V (e i)) (fun j => wts S s j * V j) (fun j h => by rw [h0 j h, zero_mul]) (fun i => by rw [hw]),
    Fintype.sum_of_injective e he (fun i => wts (fun j => S (e j)) s i) (fun j => wts S s j) h0 hw]

/-- Dividing the weights first gives the same average, and masked keys do not count. -/
theorem avgs_eq {n : ℕ} (S V W : Fin n → EReal) (s : EReal) (ht : ∀ j, S j ≠ ⊤) (hs : s ≠ ⊤) (hb : ∃ j, S j ≠ ⊥) (hV : ∀ j, S j ≠ ⊥ → V j = W j) :
    avgs S s V = ∑ j, W j * Ideal.div (wt (ext S s) j.castSucc) (∑ k, wt (ext S s) k) := by
  have h := avg_eq (ext S s) (ext V 0) (ext W 0) (fun k => ?_) ?_ (fun k => ?_)
  · have hm : (Finset.univ : Finset (Fin (n + 1))).fold max ⊥ (ext S s) = mxs S s := by
      unfold mxs
      rw [fold_sup, fold_sup]
      refine le_antisymm (Finset.sup_le fun k _ => ?_) (max_le (Finset.sup_le fun j _ => ?_) ?_)
      · induction k using Fin.lastCases with
        | last => rw [ext_last]; exact le_max_right _ _
        | cast j => rw [ext_castSucc]; exact le_max_of_le_left (Finset.le_sup (f := S) (Finset.mem_univ j))
      · exact (ext_castSucc S s j).ge.trans (Finset.le_sup (f := ext S s) (Finset.mem_univ j.castSucc))
      · exact (ext_last S s).ge.trans (Finset.le_sup (f := ext S s) (Finset.mem_univ (Fin.last n)))
    have hw : ∀ j : Fin n, wt (ext S s) j.castSucc = wts S s j := fun j => by unfold wt wts; rw [ext_castSucc, hm]
    have hl : wt (ext S s) (Fin.last n) = Ideal.exp (s - mxs S s) := by unfold wt; rw [ext_last, hm]
    rw [avg, Fin.sum_univ_castSucc, Fin.sum_univ_castSucc, Fin.sum_univ_castSucc (f := fun j => ext W 0 j * _), ext_last, ext_last, mul_zero, zero_mul, add_zero, add_zero] at h
    rw [Fin.sum_univ_castSucc]
    simp only [hw, hl, ext_castSucc] at h ⊢
    exact h
  · induction k using Fin.lastCases with
    | last => rw [ext_last]; exact hs
    | cast j => rw [ext_castSucc]; exact ht j
  · obtain ⟨j, hj⟩ := hb
    exact ⟨j.castSucc, by rw [ext_castSucc]; exact hj⟩
  · induction k using Fin.lastCases with
    | last => exact fun _ => (ext_last V 0).trans (ext_last W 0).symm
    | cast j => rw [ext_castSucc, ext_castSucc, ext_castSucc]; exact hV j

end Cert.Proof.Sink

end
-- ==== Proof.Pieces4.lean ====
module
public import proofs.«01_k».proof.Proof.Sink
public import proofs.«01_k».proof.Proof.Gen.Kernel4Ideal.Frame
public import Idealize.ShloMosaic.Lib.Pipeline.ValueKit
@[expose] public section
set_option maxRecDepth 16384
set_option maxHeartbeats 4000000
noncomputable section

/-!
# The window attention's kernel: a grid point's output block, element by element

The body's computed values and the two pieces it stores, read at a row and a lane.
-/

namespace Cert.Proof.Kernel4Ideal
open Cert.Kernel4Ideal Cert.Kernel4Ideal.Gen
open Idealize.ShloMosaic Idealize.ShloMosaic.TcCoe
open Cert.Proof.Sink

/-- The masked scores. -/
def fill (a : IVec S256x384 1) (s : FVec Ideal S256x384 .f32) : FVec Ideal S256x384 .f32 := k0_pay16 (F := Ideal) a s

/-- The row maxima, the sink included. -/
def mrow (x : FVec Ideal S256x384 .f32) (z : Elt Ideal .f32) : FVec Ideal S256x1 .f32 :=
  maximumf (shapeCast S256x1 (multiReduction .maximumf [1] S256 x 0xFF800000#32 reduces_S256x384_S256 (.inl rfl) rfl) shapeCasts_S256_S256x1) (broadcast S256x1 z)

/-- The weights of a block of scores before the division, given the row maxima. -/
def expo (x : FVec Ideal S256x384 .f32) (m : FVec Ideal S256x1 .f32) : FVec Ideal S256x384 .f32 :=
  exp (subf x (broadcastTo S256x384 m broadcasts_S256x1_S256x384))

/-- The averages of a window of values by the weights, the sink's weight in the denominator. -/
def quo (w : FVec Ideal S384x128 .bf16) (e : FVec Ideal S256x384 .f32) (m : FVec Ideal S256x1 .f32) (z : Elt Ideal .f32) : FVec Ideal S256x128 .f32 :=
  divf (matmul dot_S256x384_S384x128_S256x128_1_0_0_1_n_n none (truncf .bf16 e bitsLt_bf16_f32) w (constant S256x128 .f32 0x00000000#32))
    (broadcastTo S256x128 (addf (shapeCast S256x1 (multiReduction .add [1] S256 e 0x00000000#32 reduces_S256x384_S256 (.inl rfl) rfl) shapeCasts_S256_S256x1)
      (exp (subf (broadcast S256x1 z) m))) broadcasts_S256x1_S256x128)

/-- One head's averages. -/
def hd (w : FVec Ideal S384x128 .bf16) (a : IVec S256x384 1) (s : FVec Ideal S256x384 .f32) (z : Elt Ideal .f32) : FVec Ideal S256x128 .f32 :=
  quo w (expo (fill a s) (mrow (fill a s) z)) (mrow (fill a s) z) z

theorem pay15_eq (w : FVec Ideal S384x128 .bf16) (a : IVec S256x384 1) (s : FVec Ideal S256x384 .f32) (z : Elt Ideal .f32) :
    k0_pay15 (F := Ideal) w a s z = hd w a s z := rfl

theorem pay19_eq (w : FVec Ideal S384x128 .bf16) (a : IVec S256x384 1) (s : FVec Ideal S256x384 .f32) (z : Elt Ideal .f32) :
    k0_pay19 (F := Ideal) w z (k0_pay17 a s z) (k0_pay18 a s z) = hd w a s z := rfl

theorem pay20_eq (w : FVec Ideal S384x128 .bf16) (a : IVec S256x384 1) (s : FVec Ideal S256x384 .f32) (z : Elt Ideal .f32) :
    k0_pay20 (F := Ideal) w a s z = hd w a s z := rfl

theorem pay2_eq (f : IVec S1x128 1) (o : FVec Ideal S256x128 .f32) (w : FVec Ideal S384x128 .bf16) (a : IVec S256x384 1) (s : FVec Ideal S256x384 .f32) (z : Elt Ideal .f32) :
    k0_pay2 (F := Ideal) f o (k0_pay24 a s z) (k0_pay25 w a s z) = k0_pay1 f o (hd w a s z) := rfl

theorem ofBits_ninf : Ideal.ofBits .f32 0xFF800000#32 = ⊥ := by
  simp [Ideal.ofBits, Ideal.ieee]

theorem pay1_apply (f : IVec S1x128 1) (x y : FVec Ideal S256x128 .f32) (r : Fin 256) (l : Fin 128) :
    k0_pay1 (F := Ideal) f x y (ix2 r l) = if f (ix2 0 l) = 1#1 then x (ix2 r l) else y (ix2 r l) := by
  pointwise [k0_pay1]
  rfl

theorem fill_apply (a : IVec S256x384 1) (s : FVec Ideal S256x384 .f32) (r : Fin 256) (j : Fin 384) :
    fill a s (ix2 r j) = if a (ix2 r j) = 1#1 then s (ix2 r j) else ⊥ := by
  pointwise [fill, k0_pay16]
  rfl

theorem mrow_apply (x : FVec Ideal S256x384 .f32) (z : Elt Ideal .f32) (r : Fin 256) :
    mrow x z (ix2 r 0) = max ((Finset.univ : Finset (Fin 384)).fold max ⊥ fun j => x (ix2 r j)) z := by
  pointwise [mrow]
  rw [ofBits_ninf]

theorem expo_apply (x : FVec Ideal S256x384 .f32) (m : FVec Ideal S256x1 .f32) (r : Fin 256) (j : Fin 384) :
    expo x m (ix2 r j) = Ideal.exp (x (ix2 r j) - m (ix2 r 0)) := by
  pointwise [expo]

theorem quo_apply (w : FVec Ideal S384x128 .bf16) (e : FVec Ideal S256x384 .f32) (m : FVec Ideal S256x1 .f32) (z : Elt Ideal .f32) (r : Fin 256) (l : Fin 128) :
    quo w e m z (ix2 r l) = Ideal.div (∑ j, e (ix2 r j) * w (ix2 j l)) (∑ j, e (ix2 r j) + Ideal.exp (z - m (ix2 r 0))) := by
  pointwise [quo]

/-- One head's average at a row and a lane, from its masked scores. -/
theorem hd_apply (w : FVec Ideal S384x128 .bf16) (a : IVec S256x384 1) (s : FVec Ideal S256x384 .f32) (z : Elt Ideal .f32) (r : Fin 256) (l : Fin 128)
    (S V : Fin 384 → EReal) (hS : ∀ j, fill a s (ix2 r j) = S j) (hV : ∀ j, w (ix2 j l) = V j) :
    hd w a s z (ix2 r l) = avgs S z V := by
  have hm : mrow (fill a s) z (ix2 r 0) = mxs S z := by rw [mrow_apply, funext hS, mxs]
  unfold hd
  rw [quo_apply, hm, avgs]
  simp only [expo_apply, hm, hS, hV, wts]

theorem pay5_apply (r : Fin 256) (j : Fin 384) : k0_pay5 (ix2 r j) = BitVec.ofNat 32 (r.val / 64) := by
  pointwise [k0_pay5]
  revert r
  decide +kernel

/-- The mask of a grid point. -/
def mask (i : grid0.Coords) : IVec S256x384 1 :=
  k0_pay9 (BitVec.ofNat 32 (i 1).val) k0_pay5 (iota .tc S256x384 32 [1] iota_S256x384_d1_w32) 64#32 k0_pay6 k0_pay7 k0_pay8

/-- A key's chunk of 64, as the body computes it. -/
theorem chunk_at : ∀ j : Fin 384, Scalar.select
      (IntOp.andi
        (IntOp.cmpi .ne
          (IntOp.subi (BitVec.setWidth 32 (IntOp.cmpi .sgt (BitVec.ofNat 32 j.val) 0#32)) (BitVec.setWidth 32 (IntOp.cmpi .slt (BitVec.ofNat 32 j.val) 0#32)))
          (Scalar.subi (Scalar.extui (Scalar.cmpi .sgt 64#32 0#32)) (Scalar.extui (Scalar.cmpi .slt 64#32 0#32))))
        (IntOp.cmpi .ne (IntOp.remsi .vector (BitVec.ofNat 32 j.val) 64#32) 0#32))
      (IntOp.subi (IntOp.divsi .vector (BitVec.ofNat 32 j.val) 64#32) 1#32)
      (IntOp.divsi .vector (BitVec.ofNat 32 j.val) 64#32) = BitVec.ofNat 32 (j.val / 64) := by decide +kernel

theorem ge_at : ∀ (a : Fin 6) (b : Fin 4), IntOp.cmpi .sge (BitVec.ofNat 32 a.val) (BitVec.ofNat 32 b.val) = if b.val ≤ a.val then 1#1 else 0#1 := by decide +kernel

theorem le_at : ∀ (a : Fin 6) (b : Fin 4), IntOp.cmpi .sle (BitVec.ofNat 32 a.val) (IntOp.addi (BitVec.ofNat 32 b.val) 2#32) = if a.val ≤ b.val + 2 then 1#1 else 0#1 := by
  decide +kernel

theorem col_at : ∀ j : Fin 384, IntOp.cmpi .sge (BitVec.ofNat 32 j.val) 128#32 = if 128 ≤ j.val then 1#1 else 0#1 := by decide +kernel

theorem block_at : ∀ i : Fin 16, Scalar.cmpi .sgt (BitVec.ofNat 32 i.val) 0#32 = if 0 < i.val then 1#1 else 0#1 := by decide +kernel

/-- The mask's bits conjoined. -/
theorem bits {A B C D : Prop} [Decidable A] [Decidable B] [Decidable C] [Decidable D] :
    IntOp.andi (IntOp.andi (if A then 1#1 else 0#1) (if B then 1#1 else 0#1)) (IntOp.ori (if C then 1#1 else 0#1) (if D then 1#1 else 0#1))
      = if (A ∧ B) ∧ (C ∨ D) then 1#1 else 0#1 := by
  by_cases a : A <;> by_cases b : B <;> by_cases c : C <;> by_cases d : D <;> simp [a, b, c, d, IntOp.andi, IntOp.ori]

theorem mask_apply (i : grid0.Coords) (r : Fin 256) (j : Fin 384) :
    mask i (ix2 r j) = if (r.val / 64 ≤ j.val / 64 ∧ j.val / 64 ≤ r.val / 64 + 2) ∧ (128 ≤ j.val ∨ 0 < (i 1).val) then 1#1 else 0#1 := by
  pointwise [mask, k0_pay9, k0_pay6, k0_pay7, k0_pay8]
  rw [pay5_apply, chunk_at j, ge_at ⟨j.val / 64, by omega⟩ ⟨r.val / 64, by omega⟩, le_at ⟨j.val / 64, by omega⟩ ⟨r.val / 64, by omega⟩, col_at, block_at (i 1), bits]

theorem pay10_apply (l : Fin 128) : k0_pay10 (ix2 0 l) = if l.val < 64 then 1#1 else 0#1 := by
  pointwise [k0_pay10]
  revert l
  decide +kernel

/-- A window: the last half of the rows of one block and another block. -/
def win (x : Vec Ideal S128x128 .bf16) (y : Vec Ideal S256x128 .bf16) (j : Fin 384) (l : Fin 128) : EReal :=
  if h : j.val < 128 then x (ix2 ⟨j.val, h⟩ l) else y (ix2 ⟨j.val - 128, by omega⟩ l)

theorem pay3_apply (x : Vec Ideal S128x128 .bf16) (y : Vec Ideal S256x128 .bf16) (j : Fin 384) (l : Fin 128) : k0_pay3 (F := Ideal) x y (ix2 j l) = win x y j l := by
  pointwise [k0_pay3]
  rfl

theorem pay4_apply (x : Vec Ideal S128x128 .bf16) (y : Vec Ideal S256x128 .bf16) (j : Fin 384) (l : Fin 128) : k0_pay4 (F := Ideal) x y (ix2 j l) = win x y j l := by
  pointwise [k0_pay4]
  rfl

theorem pay11_apply (k : FVec Ideal S384x128 .bf16) (q : Vec Ideal S256x128 .bf16) (r : Fin 256) (j : Fin 384) :
    k0_pay11 (F := Ideal) k q (ix2 r j) = ∑ l : Fin 128, Scalar.select (k0_pay10 (ix2 0 l)) (q (ix2 r l) * k (ix2 j l)) 0 := by
  pointwise [k0_pay11]

theorem pay12_apply (k : FVec Ideal S384x128 .bf16) (q : Vec Ideal S256x128 .bf16) (r : Fin 256) (j : Fin 384) :
    k0_pay12 (F := Ideal) k q (ix2 r j) = ∑ l : Fin 128, Scalar.select (IntOp.xori (k0_pay10 (ix2 0 l)) 1#1) (q (ix2 r l) * k (ix2 j l)) 0 := by
  pointwise [k0_pay12]

theorem pay13_apply (k : FVec Ideal S384x128 .bf16) (f : IVec S1x128 1) (q : Vec Ideal S256x128 .bf16) (r : Fin 256) (j : Fin 384) :
    k0_pay13 (F := Ideal) k f q (ix2 r j) = ∑ l : Fin 128, Scalar.select (f (ix2 0 l)) (q (ix2 r l) * k (ix2 j l)) 0 := by
  pointwise [k0_pay13]

theorem pay14_apply (k : FVec Ideal S384x128 .bf16) (f : IVec S1x128 1) (q : Vec Ideal S256x128 .bf16) (r : Fin 256) (j : Fin 384) :
    k0_pay14 (F := Ideal) k f q (ix2 r j) = ∑ l : Fin 128, Scalar.select (IntOp.xori (f (ix2 0 l)) 1#1) (q (ix2 r l) * k (ix2 j l)) 0 := by
  pointwise [k0_pay14]

/-- A sum over the left half of the lanes. -/
theorem left_sum (f : Fin 128 → EReal) : ∑ l : Fin 128, Scalar.select (k0_pay10 (ix2 0 l)) (f l) 0 = ∑ d : Fin 64, f ⟨d.val, by omega⟩ := by
  have e : ∀ l : Fin 128, Scalar.select (k0_pay10 (ix2 0 l)) (f l) 0 = if l.val < 64 then f l else 0 := fun l => by
    rw [pay10_apply]; split <;> rfl
  rw [Finset.sum_congr rfl fun l _ => e l]
  refine (Fin.sum_univ_add (a := 64) (b := 64) fun l => if l.val < 64 then f l else 0).trans ?_
  rw [Finset.sum_eq_zero (s := Finset.univ) (f := fun d : Fin 64 => if (Fin.natAdd 64 d).val < 64 then f (Fin.natAdd 64 d) else 0) fun d _ => if_neg (by simp), add_zero]
  exact Finset.sum_congr rfl fun d _ => if_pos d.isLt

/-- A sum over the right half of the lanes. -/
theorem right_sum (f : Fin 128 → EReal) : ∑ l : Fin 128, Scalar.select (IntOp.xori (k0_pay10 (ix2 0 l)) 1#1) (f l) 0 = ∑ d : Fin 64, f ⟨64 + d.val, by omega⟩ := by
  have e : ∀ l : Fin 128, Scalar.select (IntOp.xori (k0_pay10 (ix2 0 l)) 1#1) (f l) 0 = if l.val < 64 then 0 else f l := fun l => by
    rw [pay10_apply]; split <;> rfl
  rw [Finset.sum_congr rfl fun l _ => e l]
  refine (Fin.sum_univ_add (a := 64) (b := 64) fun l => if l.val < 64 then 0 else f l).trans ?_
  rw [Finset.sum_eq_zero (s := Finset.univ) (f := fun d : Fin 64 => if (Fin.castAdd 64 d).val < 64 then 0 else f (Fin.castAdd 64 d)) fun d _ => if_pos d.isLt, zero_add]
  exact Finset.sum_congr rfl fun d _ => if_neg (by simp)

/-- One head's masked scores, from their products. -/
theorem scores (i : grid0.Coords) (s : FVec Ideal S256x384 .f32) (r : Fin 256) (q : Fin 64 → EReal) (k : Fin 384 → Fin 64 → EReal)
    (hs : ∀ j, s (ix2 r j) = ∑ d, q d * k j d) (j : Fin 384) : fill (mask i) s (ix2 r j) = scw (i 1).val r.val q k j := by
  rw [fill_apply, mask_apply, hs, scw]
  by_cases h : (r.val / 64 ≤ j.val / 64 ∧ j.val / 64 ≤ r.val / 64 + 2) ∧ (128 ≤ j.val ∨ 0 < (i 1).val)
  · rw [if_pos h, if_pos h, if_pos rfl]
  · rw [if_neg h, if_neg h]; exact if_neg (by decide)

variable (i : grid0.Coords) (x0 : Vec Ideal S4 .f32) (x1 : Vec Ideal S256x256 .bf16) (x2 x3 x4 x5 : Vec Ideal S256x128 .bf16)

/-- The first two heads' lanes of the queries. -/
def qlo : Vec Ideal S256x128 .bf16 := View.ld x1 (Rect.unit (s := S256x256) ![0, 0] ![256, 128] inb_S256x256_S256x128_0_0)

/-- The last two heads' lanes of the queries. -/
def qhi : Vec Ideal S256x128 .bf16 := View.ld x1 (Rect.unit (s := S256x256) ![0, 128] ![256, 128] inb_S256x256_S256x128_0_128)

/-- The last half of a block's rows. -/
def half (x : Vec Ideal S256x128 .bf16) : Vec Ideal S128x128 .bf16 := View.ld x (Rect.unit (s := S256x128) ![128, 0] ![128, 128] inb_S256x128_S128x128_128_0)

/-- All of a block's rows. -/
def whole (x : Vec Ideal S256x128 .bf16) : Vec Ideal S256x128 .bf16 := View.ld x (Rect.unit (s := S256x128) ![0, 0] ![256, 128] inb_S256x128_S256x128_0_0)

theorem qlo_apply (r : Fin 256) (l : Fin 128) : qlo x1 (ix2 r l) = x1 (ix2 r ⟨l.val, by omega⟩) := by
  show x1 ((Rect.unit (s := S256x256) ![0, 0] ![256, 128] inb_S256x256_S256x128_0_0).emb (ix2 r l)) = _; blk_ext

theorem qhi_apply (r : Fin 256) (l : Fin 128) : qhi x1 (ix2 r l) = x1 (ix2 r ⟨128 + l.val, by omega⟩) := by
  show x1 ((Rect.unit (s := S256x256) ![0, 128] ![256, 128] inb_S256x256_S256x128_0_128).emb (ix2 r l)) = _; blk_ext

theorem half_apply (x : Vec Ideal S256x128 .bf16) (r : Fin 128) (l : Fin 128) : half x (ix2 r l) = x (ix2 ⟨128 + r.val, by omega⟩ l) := by
  show x ((Rect.unit (s := S256x128) ![128, 0] ![128, 128] inb_S256x128_S128x128_128_0).emb (ix2 r l)) = _; blk_ext

theorem whole_apply (x : Vec Ideal S256x128 .bf16) (r : Fin 256) (l : Fin 128) : whole x (ix2 r l) = x (ix2 r l) := by
  show x ((Rect.unit (s := S256x128) ![0, 0] ![256, 128] inb_S256x128_S256x128_0_0).emb (ix2 r l)) = _; blk_ext

/-- The sinks, word by word. -/
def snk0 : Elt Ideal .f32 := View.ld x0 (Rect.unit (s := S4) ![0] ![1] inb_S4_S1_0) (Shape.Idx.first (by decide))
def snk1 : Elt Ideal .f32 := View.ld x0 (Rect.unit (s := S4) ![1] ![1] inb_S4_S1_1) (Shape.Idx.first (by decide))
def snk2 : Elt Ideal .f32 := View.ld x0 (Rect.unit (s := S4) ![2] ![1] inb_S4_S1_2) (Shape.Idx.first (by decide))
def snk3 : Elt Ideal .f32 := View.ld x0 (Rect.unit (s := S4) ![3] ![1] inb_S4_S1_3) (Shape.Idx.first (by decide))

theorem snk0_eq : snk0 x0 = x0 (ix1 0) := by
  show x0 ((Rect.unit (s := S4) ![0] ![1] inb_S4_S1_0).emb (Shape.Idx.first (by decide))) = _; blk_ext

theorem snk1_eq : snk1 x0 = x0 (ix1 1) := by
  show x0 ((Rect.unit (s := S4) ![1] ![1] inb_S4_S1_1).emb (Shape.Idx.first (by decide))) = _; blk_ext

theorem snk2_eq : snk2 x0 = x0 (ix1 2) := by
  show x0 ((Rect.unit (s := S4) ![2] ![1] inb_S4_S1_2).emb (Shape.Idx.first (by decide))) = _; blk_ext

theorem snk3_eq : snk3 x0 = x0 (ix1 3) := by
  show x0 ((Rect.unit (s := S4) ![3] ![1] inb_S4_S1_3).emb (Shape.Idx.first (by decide))) = _; blk_ext

/-- The window's keys (or values), from its two blocks. -/
def kw (x y : Vec Ideal S256x128 .bf16) : FVec Ideal S384x128 .bf16 := k0_pay3 (F := Ideal) (half x) (whole y)

/-- The output block of a grid point, in its two pieces. -/
def out : Vec Ideal S256x256 .bf16 :=
  View.canon
    [⟨Rect.unit (s := S256x256) ![0, 128] ![256, 128] inb_S256x256_S256x128_0_128, k0_pay1 (F := Ideal) k0_pay10
        (hd (kw x4 x5) (mask i) (k0_pay13 (F := Ideal) (kw x2 x3) k0_pay10 (qhi x1)) (snk1 x0))
        (hd (kw x4 x5) (mask i) (k0_pay14 (F := Ideal) (kw x2 x3) k0_pay10 (qhi x1)) (snk3 x0))⟩,
     ⟨Rect.unit (s := S256x256) ![0, 0] ![256, 128] inb_S256x256_S256x128_0_0, k0_pay1 (F := Ideal) k0_pay10
        (hd (kw x4 x5) (mask i) (k0_pay11 (F := Ideal) (kw x2 x3) (qlo x1)) (snk0 x0))
        (hd (kw x4 x5) (mask i) (k0_pay12 (F := Ideal) (kw x2 x3) (qlo x1)) (snk2 x0))⟩]

/-- What the run leaves in the output's buffer is that block. -/
theorem outs_eq (m : (ℓ : Loc nD τ sig) → Buf (Elt Ideal) ℓ) (c : Dev nD) (t : Fin cfg0.N) :
    outsAt0 m c t = out (grid0.coords t) (iblk m c 0 t) (iblk m c 1 t) (iblk m c 2 t) (iblk m c 3 t) (iblk m c 4 t) (iblk m c 5 t) := by
  unfold outsAt0 out0_A_6
  rw [View.read_writes_eq_canon _ _ _ (cover0_A_6 c _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rfl

theorem idx_eq (x : S256x128.Idx) (r : Fin 256) (l : Fin 128) (h0 : (x 0 : ℕ) = r) (h1 : (x 1 : ℕ) = l) : x = ix2 r l := by
  funext a
  match a with
  | ⟨0, _⟩ => exact Fin.ext h0
  | ⟨1, _⟩ => exact Fin.ext h1

theorem lt_left (d : Fin 64) : d.val < 128 := by omega

theorem lt_right (d : Fin 64) : 64 + d.val < 128 := by omega

/-- Row `j` and lane `l` of the window of two blocks. -/
def wrow (x y : Vec Ideal S256x128 .bf16) (j : Fin 384) (l : Fin 128) : EReal :=
  if h : j.val < 128 then x (ix2 ⟨128 + j.val, by omega⟩ l) else y (ix2 ⟨j.val - 128, by omega⟩ l)

theorem kw_apply (x y : Vec Ideal S256x128 .bf16) (j : Fin 384) (l : Fin 128) : kw x y (ix2 j l) = wrow x y j l := by
  unfold kw wrow
  rw [pay3_apply, win]
  by_cases h : j.val < 128
  · rw [dif_pos h, dif_pos h, half_apply]
  · rw [dif_neg h, dif_neg h, whole_apply]

theorem lane_congr {n : ℕ} {α : Type} (f : Fin n → α) {a b : ℕ} (h : a = b) (ha : a < n) (hb : b < n) : f ⟨a, ha⟩ = f ⟨b, hb⟩ := by
  subst h; rfl

/-- The output block at row `r`, member `g` of the group of key head `k`, lane `d`. -/
theorem out_apply (y : S256x256.Idx) (r : Fin 256) (g k : Fin 2) (d : Fin 64) (h0 : (y 0 : ℕ) = r) (h1 : (y 1 : ℕ) = g * 128 + k * 64 + d) :
    out i x0 x1 x2 x3 x4 x5 y
      = avgs (scw (i 1).val r.val (fun d => x1 (ix2 r ⟨g.val * 128 + k.val * 64 + d.val, by omega⟩)) (fun j d => wrow x2 x3 j ⟨k.val * 64 + d.val, by omega⟩))
          (x0 (ix1 ⟨k.val * 2 + g.val, by omega⟩)) (fun j => wrow x4 x5 j ⟨k.val * 64 + d.val, by omega⟩) := by
  unfold out
  rename' h0 => a0, h1 => a1
  canon_tiles x h
  case piece0 =>
    have hg : g.val = 1 := by
      have := g.isLt
      have : 128 ≤ g.val * 128 + k.val * 64 + d.val := by omega
      omega
    obtain rfl : g = 1 := Fin.ext hg
    have hk : k.val = 0 ∨ k.val = 1 := by omega
    rcases hk with hk | hk
    · obtain rfl := idx_eq x r ⟨d.val, lt_left d⟩ (by omega) (show (x 1 : ℕ) = d.val by omega)
      obtain rfl : k = 0 := Fin.ext hk
      rw [pay1_apply, pay10_apply, if_pos d.isLt, if_pos rfl, snk1_eq]
      refine hd_apply _ _ _ _ r _ _ _ (scores i _ r _ _ fun j => ?_) (fun j => ?_)
      · rw [pay13_apply, left_sum]
        refine Finset.sum_congr rfl fun d _ => ?_
        rw [qhi_apply, kw_apply]
        exact congrArg₂ (· * ·) (lane_congr (fun a => x1 (ix2 r a)) (by show 128 + d.val = 1 * 128 + 0 * 64 + d.val; omega) _ _)
          (lane_congr (fun a => wrow x2 x3 j a) (by show d.val = 0 * 64 + d.val; omega) _ _)
      · rw [kw_apply]
        exact lane_congr (fun a => wrow x4 x5 j a) (by show d.val = 0 * 64 + d.val; omega) _ _
    · obtain rfl := idx_eq x r ⟨64 + d.val, lt_right d⟩ (by omega) (show (x 1 : ℕ) = 64 + d.val by omega)
      obtain rfl : k = 1 := Fin.ext hk
      rw [pay1_apply, pay10_apply, if_neg (show ¬64 + d.val < 64 by omega), if_neg (by decide), snk3_eq]
      refine hd_apply _ _ _ _ r _ _ _ (scores i _ r _ _ fun j => ?_) (fun j => ?_)
      · rw [pay14_apply, right_sum]
        refine Finset.sum_congr rfl fun d _ => ?_
        rw [qhi_apply, kw_apply]
        exact congrArg₂ (· * ·) (lane_congr (fun a => x1 (ix2 r a)) (by show 128 + (64 + d.val) = 1 * 128 + 1 * 64 + d.val; omega) _ _)
          (lane_congr (fun a => wrow x2 x3 j a) (by show 64 + d.val = 1 * 64 + d.val; omega) _ _)
      · rw [kw_apply]
        exact lane_congr (fun a => wrow x4 x5 j a) (by show 64 + d.val = 1 * 64 + d.val; omega) _ _
  case piece1 =>
    have hg : g.val = 0 := by
      have := (x 1).isLt
      have h128 : (x 1 : ℕ) < 128 := this
      omega
    obtain rfl : g = 0 := Fin.ext hg
    have hk : k.val = 0 ∨ k.val = 1 := by omega
    rcases hk with hk | hk
    · obtain rfl := idx_eq x r ⟨d.val, lt_left d⟩ (by omega) (show (x 1 : ℕ) = d.val by omega)
      obtain rfl : k = 0 := Fin.ext hk
      rw [pay1_apply, pay10_apply, if_pos d.isLt, if_pos rfl, snk0_eq]
      refine hd_apply _ _ _ _ r _ _ _ (scores i _ r _ _ fun j => ?_) (fun j => ?_)
      · rw [pay11_apply, left_sum]
        refine Finset.sum_congr rfl fun d _ => ?_
        rw [qlo_apply, kw_apply]
        exact congrArg₂ (· * ·) (lane_congr (fun a => x1 (ix2 r a)) (by show d.val = 0 * 128 + 0 * 64 + d.val; omega) _ _)
          (lane_congr (fun a => wrow x2 x3 j a) (by show d.val = 0 * 64 + d.val; omega) _ _)
      · rw [kw_apply]
        exact lane_congr (fun a => wrow x4 x5 j a) (by show d.val = 0 * 64 + d.val; omega) _ _
    · obtain rfl := idx_eq x r ⟨64 + d.val, lt_right d⟩ (by omega) (show (x 1 : ℕ) = 64 + d.val by omega)
      obtain rfl : k = 1 := Fin.ext hk
      rw [pay1_apply, pay10_apply, if_neg (show ¬64 + d.val < 64 by omega), if_neg (by decide), snk2_eq]
      refine hd_apply _ _ _ _ r _ _ _ (scores i _ r _ _ fun j => ?_) (fun j => ?_)
      · rw [pay12_apply, right_sum]
        refine Finset.sum_congr rfl fun d _ => ?_
        rw [qlo_apply, kw_apply]
        exact congrArg₂ (· * ·) (lane_congr (fun a => x1 (ix2 r a)) (by show 64 + d.val = 0 * 128 + 1 * 64 + d.val; omega) _ _)
          (lane_congr (fun a => wrow x2 x3 j a) (by show 64 + d.val = 1 * 64 + d.val; omega) _ _)
      · rw [kw_apply]
        exact lane_congr (fun a => wrow x4 x5 j a) (by show 64 + d.val = 1 * 64 + d.val; omega) _ _

end Cert.Proof.Kernel4Ideal

end
-- ==== Proof.RefValue4.lean ====
module
public import proofs.«01_k».proof.Proof.Sink
public import proofs.«01_k».proof.Proof.Gen.Reference4Ideal.Run
public import Idealize.ShloMosaic.Lib.Pointwise
@[expose] public section
set_option maxRecDepth 16384
set_option maxHeartbeats 4000000
noncomputable section

/-!
# The window attention's reference, element by element

The reference's operations in stages, and its result read at a row and a lane: the softmax average, with a sink, of one
key head's values over the three chunks of 64 keys that end with the row's own, the keys before the sequence's start
masked by −∞.
-/

namespace Cert.Proof.Ref4
open Cert.Reference4Ideal Cert.Reference4Ideal.Gen
open Idealize.ShloMosaic Idealize.ShloMosaic.TcCoe
open Cert.Proof.Average Cert.Proof.Sink

/-- Chunks of rows by head, two chunks of zeros before each sequence. -/
def padded (A : FVec Ideal S32768x128 .bf16) : FVec Ideal S8x66x64x2x64 .f32 :=
  pad S8x66x64x2x64 ![0, 2, 0, 0, 0] ![0, 0, 0, 0, 0] ![0, 0, 0, 0, 0] (shapeCast _ (extf .f32 A bitsLt_bf16_f32) shapeCasts_S32768x128_S8x64x64x2x64)
    (sitofp .f32 (constantI S_ 32 0#32)) pads_S8x64x64x2x64_S8x66x64x2x64_000_200_000_000_000 h_S_

/-- Each chunk's window: the two chunks before it and itself. -/
def windowOf (x : FVec Ideal S8x66x64x2x64 .f32) : FVec Ideal S512x192x2x64 .f32 :=
  shapeCast _ (concatenate S8x64x192x2x64 2 [⟨S8x64x64x2x64, (extractStridedSlice S8x64x64x2x64 ![0, 0, 0, 0, 0] x slices_S8x66x64x2x64_S8x64x64x2x64_0_0_0_0_0 : (⟨S8x64x64x2x64, .f32⟩ : BufTy).Contents (Elt Ideal))⟩,
    ⟨S8x64x64x2x64, (extractStridedSlice S8x64x64x2x64 ![0, 1, 0, 0, 0] x slices_S8x66x64x2x64_S8x64x64x2x64_0_1_0_0_0 : (⟨S8x64x64x2x64, .f32⟩ : BufTy).Contents (Elt Ideal))⟩,
    ⟨S8x64x64x2x64, (extractStridedSlice S8x64x64x2x64 ![0, 2, 0, 0, 0] x slices_S8x66x64x2x64_S8x64x64x2x64_0_2_0_0_0 : (⟨S8x64x64x2x64, .f32⟩ : BufTy).Contents (Elt Ideal))⟩]
    concatenates_S8x64x64x2x64_S8x64x64x2x64_S8x64x64x2x64_S8x64x192x2x64_d2) shapeCasts_S8x64x192x2x64_S512x192x2x64

/-- The products of the queries with the keys of their windows. -/
def scoresOf (A0 : FVec Ideal S32768x256 .bf16) (k : FVec Ideal S512x192x2x64 .f32) : FVec Ideal S512x2x2x64x192 .f32 :=
  transpose S512x2x2x64x192 [0, 1, 4, 3, 2] (Host.dotGeneral dot_S512x192x2x64_S512x64x2x2x64_S512x2x192x64x2_3_4_1_12_02_03 none k
    (shapeCast _ (extf .f32 A0 bitsLt_bf16_f32) shapeCasts_S32768x256_S512x64x2x2x64)) transposes_S512x2x192x64x2_S512x2x2x64x192_0_1_4_3_2

/-- Whether a key of a chunk's window is in the sequence, chunk by chunk of one sequence. -/
def valid1 : IVec S64x192 1 :=
  cmpi .sge (addi (broadcastInDim S64x192 ![0, 1] bcast_S64x1_S64x192_0_1 (broadcastInDim S64x1 ![0] bcast_S64_S64x1_0 (muli (iotaInDim S64 32 0) (broadcastInDim S64 ![] bcast_S_S64 (constantI S_ 32 64#32)))))
    (broadcastInDim S64x192 ![0, 1] bcast_S1x192_S64x192_0_1 (broadcastInDim S1x192 ![1] bcast_S192_S1x192_1 (iotaInDim S192 32 0)))) (broadcastInDim S64x192 ![] bcast_S_S64x192 (constantI S_ 32 128#32))

/-- The same for every sequence. -/
def repeated (a : IVec S64x192 1) : IVec S512x192 1 :=
  shapeCast _ (broadcastInDim S8x64x1x192 ![0, 1, 2, 3] bcast_S1x64x1x192_S8x64x1x192_0_1_2_3 (shapeCast _ a shapeCasts_S64x192_S1x64x1x192)) shapeCasts_S8x64x1x192_S512x192

/-- The scores masked. -/
def maskedOf (a : IVec S512x192 1) (s : FVec Ideal S512x2x2x64x192 .f32) : FVec Ideal S512x2x2x64x192 .f32 :=
  select (broadcastInDim S512x2x2x64x192 ![0, 1, 2, 3, 4] bcast_S512x1x1x1x192_S512x2x2x64x192_0_1_2_3_4 (broadcastInDim S512x1x1x1x192 ![0, 4] bcast_S512x192_S512x1x1x1x192_0_4 a)) s
    (broadcastInDim S512x2x2x64x192 ![] bcast_S_S512x2x2x64x192 (id (constant S_ .f32 0xFF800000#32)))

/-- The scores followed by the sinks. -/
def sunk (x : FVec Ideal S512x2x2x64x192 .f32) (A3 : FVec Ideal S4 .f32) : FVec Ideal S512x2x2x64x193 .f32 :=
  concatenate S512x2x2x64x193 4 [⟨S512x2x2x64x192, x⟩, ⟨S512x2x2x64x1, broadcastInDim S512x2x2x64x1 ![0, 1, 2, 3, 4] bcast_S1x2x2x1x1_S512x2x2x64x1_0_1_2_3_4
    (broadcastInDim S1x2x2x1x1 ![1, 2] bcast_S2x2_S1x2x2x1x1_1_2 (shapeCast _ A3 shapeCasts_S4_S2x2))⟩] concatenates_S512x2x2x64x192_S512x2x2x64x1_S512x2x2x64x193_d4

/-- Each row's maximum. -/
def rmax (x : FVec Ideal S512x2x2x64x193 .f32) : FVec Ideal S512x2x2x64 .f32 :=
  Host.reduce FloatOps.maximumf x (constant S_ .f32 0xFF800000#32) reducesTo_S512x2x2x64x193_S512x2x2x64_d4 h_S_

/-- The weights of a score array before the division, given its row maxima. -/
def expoOf (x : FVec Ideal S512x2x2x64x193 .f32) (r : FVec Ideal S512x2x2x64 .f32) : FVec Ideal S512x2x2x64x193 .f32 :=
  Host.exp (subf x (broadcastInDim S512x2x2x64x193 ![0, 1, 2, 3, 4] bcast_S512x2x2x64x1_S512x2x2x64x193_0_1_2_3_4 (broadcastInDim S512x2x2x64x1 ![0, 1, 2, 3] bcast_S512x2x2x64_S512x2x2x64x1_0_1_2_3
    (maximumf (broadcastInDim S512x2x2x64 ![] bcast_S_S512x2x2x64 (constant S_ .f32 0xFF800000#32)) r))))

/-- Each row of weights divided by its sum. -/
def normed (e : FVec Ideal S512x2x2x64x193 .f32) : FVec Ideal S512x2x2x64x193 .f32 :=
  Host.divf e (broadcastInDim S512x2x2x64x193 ![0, 1, 2, 3, 4] bcast_S512x2x2x64x1_S512x2x2x64x193_0_1_2_3_4 (broadcastInDim S512x2x2x64x1 ![0, 1, 2, 3] bcast_S512x2x2x64_S512x2x2x64x1_0_1_2_3
    (Host.reduceAdd e (constant S_ .f32 0x00000000#32) reducesTo_S512x2x2x64x193_S512x2x2x64_d4 h_S_)))

/-- The result from the weights, the sinks' left out, and the windows of values. -/
def result (p : FVec Ideal S512x2x2x64x193 .f32) (v : FVec Ideal S512x192x2x64 .f32) : FVec Ideal S32768x256 .bf16 :=
  truncf .bf16 (shapeCast _ (transpose S512x64x2x2x64 [0, 4, 3, 1, 2] (Host.dotGeneral dot_S512x192x2x64_S512x2x2x64x192_S512x2x64x2x64_1_4_3_23_02_01 none v
    (extf .f32 (truncf .bf16 (extractStridedSlice S512x2x2x64x192 ![0, 0, 0, 0, 0] p slices_S512x2x2x64x193_S512x2x2x64x192_0_0_0_0_0) bitsLt_bf16_f32) bitsLt_bf16_f32))
    transposes_S512x2x64x2x64_S512x64x2x2x64_0_4_3_1_2) shapeCasts_S512x64x2x2x64_S32768x256) bitsLt_bf16_f32

/-- The masked scores of queries and keys, followed by the sinks. -/
def masked (A0 : FVec Ideal S32768x256 .bf16) (A1 : FVec Ideal S32768x128 .bf16) (A3 : FVec Ideal S4 .f32) : FVec Ideal S512x2x2x64x193 .f32 :=
  sunk (maskedOf (repeated valid1) (scoresOf A0 (windowOf (padded A1)))) A3

/-- The weights of a score array before the division. -/
def expo (x : FVec Ideal S512x2x2x64x193 .f32) : FVec Ideal S512x2x2x64x193 .f32 := expoOf x (rmax x)

/-- The reference's result of its four arguments. -/
def REF (A0 : FVec Ideal S32768x256 .bf16) (A1 A2 : FVec Ideal S32768x128 .bf16) (A3 : FVec Ideal S4 .f32) : FVec Ideal S32768x256 .bf16 :=
  result (normed (expo (masked A0 A1 A3))) (windowOf (padded A2))

theorem res_eq (m : (ℓ : Loc nD τ sig) → Buf (Elt Ideal) ℓ) (c : Dev nD) :
    Value.res_out0 (F := Ideal) m c = REF (m ((c.tc : Thread nD τ).loc main_arg0)) (m ((c.tc : Thread nD τ).loc main_arg1)) (m ((c.tc : Thread nD τ).loc main_arg2)) (m ((c.tc : Thread nD τ).loc main_arg3)) := rfl

theorem ofBits_ninf : Ideal.ofBits .f32 0xFF800000#32 = ⊥ := by
  simp [Ideal.ofBits, Ideal.ieee]

theorem sitofp_zero : (FloatOps.sitofp .f32 (0#32 : BitVec 32) : Ideal .f32) = (0 : EReal) := by
  show ((((0#32 : BitVec 32).toInt : ℤ) : ℝ) : EReal) = 0
  simp

theorem padded_apply (A : FVec Ideal S32768x128 .bf16) (b : Fin 8) (c : Fin 66) (q : Fin 64) (h : Fin 2) (d : Fin 64) :
    padded A (ix5 b c q h d) = if hc : 2 ≤ c.val then A (ix2 ⟨b.val * 4096 + (c.val - 2) * 64 + q.val, by omega⟩ ⟨h.val * 64 + d.val, by omega⟩) else 0 := by
  pointwise [padded]
  by_cases hc : 2 ≤ c.val
  · rw [dif_pos hc, dif_pos ⟨hc, by omega⟩]
  · rw [dif_neg hc, dif_neg fun h => hc h.1]
    exact sitofp_zero

theorem windowOf_apply (x : FVec Ideal S8x66x64x2x64 .f32) (b : Fin 8) (c : Fin 64) (j : Fin 192) (h : Fin 2) (d : Fin 64) :
    windowOf x (ix4 ⟨b.val * 64 + c.val, by omega⟩ j h d) = x (ix5 b ⟨c.val + j.val / 64, by omega⟩ ⟨j.val % 64, by omega⟩ h d) := by
  pointwise [windowOf]
  have key : ∀ {a a' : Fin 66} {q q' : Fin 64}, a.val = a'.val → q.val = q'.val → x (ix5 b a q h d) = x (ix5 b a' q' h d) := by
    intro a a' q q' h1 h2
    obtain rfl := Fin.ext h1
    obtain rfl := Fin.ext h2
    rfl
  by_cases h1 : j.val < 64
  · rw [dif_pos h1]
    exact key (by show c.val = c.val + j.val / 64; omega) (by show j.val = j.val % 64; omega)
  · rw [dif_neg h1]
    by_cases h2 : j.val - 64 < 64
    · rw [dif_pos h2]
      exact key (by show 1 + c.val = c.val + j.val / 64; omega) (by show j.val - 64 = j.val % 64; omega)
    · rw [dif_neg h2]
      exact key (by show 2 + c.val = c.val + j.val / 64; omega) (by show j.val - 64 - 64 = j.val % 64; omega)

theorem scoresOf_apply (A0 : FVec Ideal S32768x256 .bf16) (x : FVec Ideal S512x192x2x64 .f32) (n : Fin 512) (k g : Fin 2) (q : Fin 64) (j : Fin 192) :
    scoresOf A0 x (ix5 n k g q j) = ∑ d : Fin 64, x (ix4 n j k d) * A0 (ix2 ⟨n.val * 64 + q.val, by omega⟩ ⟨g.val * 128 + k.val * 64 + d.val, by omega⟩) := by
  pointwise [scoresOf]

theorem valid_at : ∀ (c : Fin 64) (j : Fin 192), IntOp.cmpi .sge (IntOp.addi (IntOp.muli (BitVec.ofNat 32 c.val) 64#32) (BitVec.ofNat 32 j.val)) 128#32
    = if 128 ≤ c.val * 64 + j.val then 1#1 else 0#1 := by decide +kernel

theorem valid1_apply (c : Fin 64) (j : Fin 192) : valid1 (ix2 c j) = if 128 ≤ c.val * 64 + j.val then 1#1 else 0#1 := by
  pointwise [valid1]
  exact valid_at c j

theorem repeated_apply (a : IVec S64x192 1) (b : Fin 8) (c : Fin 64) (j : Fin 192) : repeated a (ix2 ⟨b.val * 64 + c.val, by omega⟩ j) = a (ix2 c j) := by
  pointwise [repeated]

theorem maskedOf_apply (a : IVec S512x192 1) (s : FVec Ideal S512x2x2x64x192 .f32) (n : Fin 512) (k g : Fin 2) (q : Fin 64) (j : Fin 192) :
    maskedOf a s (ix5 n k g q j) = if a (ix2 n j) = 1#1 then s (ix5 n k g q j) else ⊥ := by
  pointwise [maskedOf]
  rw [show (id (constant (F := Ideal) S_ FTy.f32 4286578688#32) ix0 : EReal) = ⊥ from ofBits_ninf]
  rfl

theorem sunk_apply (x : FVec Ideal S512x2x2x64x192 .f32) (A3 : FVec Ideal S4 .f32) (n : Fin 512) (k g : Fin 2) (q : Fin 64) (j : Fin 193) :
    sunk x A3 (ix5 n k g q j) = ext (fun j => x (ix5 n k g q j)) (A3 (ix1 ⟨k.val * 2 + g.val, by omega⟩)) j := by
  unfold ext
  pointwise [sunk]

/-- A row maximum over the last of five axes, at any extents. -/
theorem hostMax {n0 n1 n2 n3 n4 : ℕ} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce FloatOps.maximumf x init h hu (ix4 a b c d) = (Finset.univ : Finset (Fin n4)).fold max (init (Shape.Idx.first hu)) fun k => x (ix5 a b c d k) := by
  rw [Host.reduce_eq_fold, Shape.ReducesTo.fold_fiber_r5_a4]
  rfl

theorem fill_first (h : 0 < S_.numel) : (constant (F := Ideal) S_ .f32 0xFF800000#32 : FVec Ideal S_ .f32) (Shape.Idx.first h) = (⊥ : EReal) :=
  ofBits_ninf

theorem rmax_apply (x : FVec Ideal S512x2x2x64x193 .f32) (n : Fin 512) (k g : Fin 2) (q : Fin 64) :
    rmax x (ix4 n k g q) = (Finset.univ : Finset (Fin 193)).fold max ⊥ fun j => x (ix5 n k g q j) := by
  have e := hostMax x (constant (F := Ideal) S_ .f32 0xFF800000#32) reducesTo_S512x2x2x64x193_S512x2x2x64_d4 h_S_ n k g q
  rw [fill_first] at e
  exact e

theorem expoOf_apply (x : FVec Ideal S512x2x2x64x193 .f32) (r : FVec Ideal S512x2x2x64 .f32) (n : Fin 512) (k g : Fin 2) (q : Fin 64) (j : Fin 193) :
    expoOf x r (ix5 n k g q j) = Ideal.exp (x (ix5 n k g q j) - max (Ideal.ofBits .f32 0xFF800000#32) (r (ix4 n k g q))) := by
  pointwise [expoOf]

theorem expo_apply (x : FVec Ideal S512x2x2x64x193 .f32) (n : Fin 512) (k g : Fin 2) (q : Fin 64) (j : Fin 193) :
    expo x (ix5 n k g q j) = wt (fun j => x (ix5 n k g q j)) j := by
  have e := expoOf_apply x (rmax x) n k g q j
  rw [rmax_apply, ofBits_ninf, max_eq_right bot_le] at e
  exact e

theorem normed_apply (x : FVec Ideal S512x2x2x64x193 .f32) (n : Fin 512) (k g : Fin 2) (q : Fin 64) (j : Fin 193) :
    normed x (ix5 n k g q j) = Ideal.div (x (ix5 n k g q j)) (∑ y, x (ix5 n k g q y)) := by
  pointwise [normed]

theorem result_apply (p : FVec Ideal S512x2x2x64x193 .f32) (v : FVec Ideal S512x192x2x64 .f32) (n : Fin 512) (q : Fin 64) (g k : Fin 2) (d : Fin 64) :
    result p v (ix2 ⟨n.val * 64 + q.val, by omega⟩ ⟨g.val * 128 + k.val * 64 + d.val, by omega⟩) = ∑ j : Fin 192, v (ix4 n j k d) * p (ix5 n k g q j.castSucc) := by
  pointwise [result]
  rfl

/-- A window of an array at chunk `c` of sequence `b`: key `j` and lane `l`, zero before the sequence. -/
def wnd (A : FVec Ideal S32768x128 .bf16) (b : Fin 8) (c : Fin 64) (j : Fin 192) (l : Fin 128) : EReal :=
  if hj : 128 ≤ c.val * 64 + j.val then A (ix2 ⟨b.val * 4096 + (c.val * 64 + j.val - 128), by omega⟩ l) else 0

theorem wnd_apply (A : FVec Ideal S32768x128 .bf16) (b : Fin 8) (c : Fin 64) (j : Fin 192) (h : Fin 2) (d : Fin 64) :
    windowOf (padded A) (ix4 ⟨b.val * 64 + c.val, by omega⟩ j h d) = wnd A b c j ⟨h.val * 64 + d.val, by omega⟩ := by
  rw [windowOf_apply, padded_apply, wnd]
  by_cases hj : 128 ≤ c.val * 64 + j.val
  · rw [dif_pos hj, dif_pos (show 2 ≤ c.val + j.val / 64 by omega)]
    exact congrArg A (congrArg (fun a => ix2 a _) (Fin.ext (by show b.val * 4096 + (c.val + j.val / 64 - 2) * 64 + j.val % 64 = b.val * 4096 + (c.val * 64 + j.val - 128); omega)))
  · rw [dif_neg hj, dif_neg (show ¬2 ≤ c.val + j.val / 64 by omega)]

/-- The masked scores of one query and its sink. -/
theorem masked_apply (A0 : FVec Ideal S32768x256 .bf16) (A1 : FVec Ideal S32768x128 .bf16) (A3 : FVec Ideal S4 .f32) (b : Fin 8) (c : Fin 64) (q : Fin 64) (g k : Fin 2) :
    (fun j => masked A0 A1 A3 (ix5 ⟨b.val * 64 + c.val, by omega⟩ k g q j))
      = ext (scc c.val (fun d => A0 (ix2 ⟨(b.val * 64 + c.val) * 64 + q.val, by omega⟩ ⟨g.val * 128 + k.val * 64 + d.val, by omega⟩))
          (fun j d => wnd A1 b c j ⟨k.val * 64 + d.val, by omega⟩)) (A3 (ix1 ⟨k.val * 2 + g.val, by omega⟩)) := by
  funext j
  unfold masked
  rw [sunk_apply]
  refine congrFun (congrArg (fun f => ext f _) (funext fun j => ?_)) j
  rw [maskedOf_apply, repeated_apply, valid1_apply, scoresOf_apply, scc]
  simp only [wnd_apply]
  by_cases hj : 128 ≤ c.val * 64 + j.val
  · rw [if_pos hj, if_pos hj, if_pos rfl]
    exact Finset.sum_congr rfl fun d _ => mul_comm _ _
  · rw [if_neg hj, if_neg hj]; exact if_neg (by decide)

/-- The reference's result at a row and a lane. -/
theorem REF_apply (A0 : FVec Ideal S32768x256 .bf16) (A1 A2 : FVec Ideal S32768x128 .bf16) (A3 : FVec Ideal S4 .f32) (b : Fin 8) (c : Fin 64) (q : Fin 64) (g k : Fin 2) (d : Fin 64)
    (T : Fin 193 → EReal) (hT : T = ext (scc c.val (fun d => A0 (ix2 ⟨(b.val * 64 + c.val) * 64 + q.val, by omega⟩ ⟨g.val * 128 + k.val * 64 + d.val, by omega⟩))
          (fun j d => wnd A1 b c j ⟨k.val * 64 + d.val, by omega⟩)) (A3 (ix1 ⟨k.val * 2 + g.val, by omega⟩))) :
    REF A0 A1 A2 A3 (ix2 ⟨(b.val * 64 + c.val) * 64 + q.val, by omega⟩ ⟨g.val * 128 + k.val * 64 + d.val, by omega⟩)
      = ∑ j : Fin 192, wnd A2 b c j ⟨k.val * 64 + d.val, by omega⟩ * Ideal.div (wt T j.castSucc) (∑ k, wt T k) := by
  unfold REF
  have e := result_apply (normed (expo (masked A0 A1 A3))) (windowOf (padded A2)) ⟨b.val * 64 + c.val, by omega⟩ q g k d
  refine e.trans ?_
  simp only [wnd_apply, normed_apply, expo_apply, masked_apply, ← hT]

end Cert.Proof.Ref4

end
-- ==== Proof.Finite4.lean ====
module
public import proofs.«01_k».proof.Proof.Finite
public import proofs.«01_k».proof.Proof.Gen.Pre_finite_qks
@[expose] public section
set_option maxRecDepth 16384
noncomputable section

/-!
# The precondition of the window attention, read

`|x| < ∞` at every element of the queries and of the keys says that every one of them is a real number; `x < ∞` at
every sink that none is `⊤`.
-/

namespace Cert.Proof.Finite4
open Idealize.ShloMosaic Idealize.ShloMosaic.TcCoe
open Cert.Pre_finite_qks

attribute [local instance] Cert.Pre_finite_qks.Gen.facts

theorem fn_0 (A0 : FVec Ideal S32768x256 .bf16) (A1 A2 : FVec Ideal S32768x128 .bf16) (A3 : FVec Ideal S4 .f32) (i : S32768x256.Idx) :
    (fn (F := Ideal) A0 A1 A2 A3).1 i = Ideal.cmp .olt (max (A0 i : EReal) (-(A0 i : EReal))) (Ideal.ofBits .f32 0x7F800000#32) := rfl

theorem fn_1 (A0 : FVec Ideal S32768x256 .bf16) (A1 A2 : FVec Ideal S32768x128 .bf16) (A3 : FVec Ideal S4 .f32) (i : S32768x128.Idx) :
    (fn (F := Ideal) A0 A1 A2 A3).2.1 i = Ideal.cmp .olt (max (A1 i : EReal) (-(A1 i : EReal))) (Ideal.ofBits .f32 0x7F800000#32) := rfl

theorem fn_2 (A0 : FVec Ideal S32768x256 .bf16) (A1 A2 : FVec Ideal S32768x128 .bf16) (A3 : FVec Ideal S4 .f32) (i : S4.Idx) :
    (fn (F := Ideal) A0 A1 A2 A3).2.2 i = Ideal.cmp .olt (A3 i : EReal) (Ideal.ofBits .f32 0x7F800000#32) := rfl

/-- Nothing that compares below the constant `∞` is `⊤`. -/
theorem ne_top_of_cmp (x : EReal) (h : Ideal.cmp .olt x (Ideal.ofBits .f32 0x7F800000#32) = 1#1) : x ≠ ⊤ := by
  rintro rfl
  simp [Ideal.cmp, Ideal.ofBits, Ideal.ieee] at h

/-- Every element of the queries is a real number. -/
def RealQueries (A : FVec Ideal S32768x256 .bf16) : Prop := ∀ i, ∃ r : ℝ, (A i : EReal) = (r : EReal)

/-- Every element of the keys is a real number. -/
def RealKeys (A : FVec Ideal S32768x128 .bf16) : Prop := ∀ i, ∃ r : ℝ, (A i : EReal) = (r : EReal)

/-- No sink is `⊤`. -/
def BelowTop (A : FVec Ideal S4 .f32) : Prop := ∀ i, (A i : EReal) ≠ ⊤

/-- The precondition makes every query and key real, and no sink `⊤`. -/
theorem pre_real (m : (ℓ : Loc Cert.Kernel4Ideal.nD Cert.Kernel4Ideal.τ Cert.Kernel4Ideal.sig) → Buf (Elt Ideal) ℓ) (h : Cert.Pre_Kernel4Ideal_finite_qks m) (c : Dev Cert.Kernel4Ideal.nD) :
    RealQueries (m ((c.tc : Thread Cert.Kernel4Ideal.nD Cert.Kernel4Ideal.τ).loc Cert.Kernel4Ideal.main_arg0))
    ∧ RealKeys (m ((c.tc : Thread Cert.Kernel4Ideal.nD Cert.Kernel4Ideal.τ).loc Cert.Kernel4Ideal.main_arg1))
    ∧ BelowTop (m ((c.tc : Thread Cert.Kernel4Ideal.nD Cert.Kernel4Ideal.τ).loc Cert.Kernel4Ideal.main_arg3)) :=
  ⟨fun i => Finite.real_of_cmp _ ((fn_0 _ _ _ _ i).symm.trans (congrFun (h c).1 i)),
   fun i => Finite.real_of_cmp _ ((fn_1 _ _ _ _ i).symm.trans (congrFun (h c).2.1 i)),
   fun i => ne_top_of_cmp _ ((fn_2 _ _ _ _ i).symm.trans (congrFun (h c).2.2 i))⟩

end Cert.Proof.Finite4

end
-- ==== Proof.Value4.lean ====
module
public import proofs.«01_k».proof.Proof.Pieces4
public import proofs.«01_k».proof.Proof.RefValue4
public import proofs.«01_k».proof.Proof.Finite4
public import Idealize.ShloMosaic.Lib.Pipeline.ValueKit
@[expose] public section
set_option maxRecDepth 16384
set_option maxHeartbeats 1000000
noncomputable section

/-!
# The window attention: kernel and reference agree

Grid point `t` is block `t % 16` of sequence `t / 16`: it reads that block's queries, the keys and values of the block
and of the one before it (block 0 again where there is none), and the sinks. A row's scores outside the three chunks
that end with its own, or before the sequence's start, are −∞: what is left is the reference's window.
-/

namespace Cert.Proof.Kernel4Ideal
open Cert.Kernel4Ideal Cert.Kernel4Ideal.Gen
open Idealize.ShloMosaic Idealize.ShloMosaic.TcCoe Idealize.SL.Sem
open Idealize.ShloMosaic.Pipeline (Dat)
open Cert.Proof.Average Cert.Proof.Sink Cert.Proof.Finite4

/-- Where key `j` of a chunk's window lies in the window of its block. -/
def place (u : Fin 4) (j : Fin 192) : Fin 384 := ⟨u.val * 64 + j.val, by omega⟩

theorem place_inj (u : Fin 4) : Function.Injective (place u) := fun a b h => by
  have : u.val * 64 + a.val = u.val * 64 + b.val := congrArg Fin.val h
  exact Fin.ext (by omega)

/-- A block's scores at the keys of a row's own window are the window's. -/
theorem scw_place (i u r : ℕ) (hu : u < 4) (hr : r / 64 = u) (q : Fin 64 → EReal) (k : Fin 384 → Fin 64 → EReal) (k' : Fin 192 → Fin 64 → EReal)
    (h : ∀ j : Fin 192, 128 ≤ (i * 4 + u) * 64 + j.val → ∀ d, k (place ⟨u, hu⟩ j) d = k' j d) (j : Fin 192) :
    scw i r q k (place ⟨u, hu⟩ j) = scc (i * 4 + u) q k' j := by
  have e : (place ⟨u, hu⟩ j).val = u * 64 + j.val := rfl
  unfold scw scc
  by_cases hj : 128 ≤ (i * 4 + u) * 64 + j.val
  · rw [if_pos (by rw [e]; omega), if_pos hj]
    exact Finset.sum_congr rfl fun d _ => congrArg (q d * ·) (h j hj d)
  · rw [if_neg (by rw [e]; omega), if_neg hj]

/-- A block's scores at other keys are `⊥`. -/
theorem scw_out (i u r : ℕ) (hu : u < 4) (hr : r / 64 = u) (q : Fin 64 → EReal) (k : Fin 384 → Fin 64 → EReal) (j : Fin 384)
    (hj : j ∉ Set.range (place ⟨u, hu⟩)) : scw i r q k j = ⊥ := by
  refine if_neg fun hc => hj ⟨⟨j.val - u * 64, by omega⟩, Fin.ext ?_⟩
  show u * 64 + (j.val - u * 64) = j.val
  omega

/-- A score inside the sequence is real at real queries and keys. -/
theorem scc_real {c : ℕ} {q : Fin 64 → EReal} {k : Fin 192 → Fin 64 → EReal} (hq : ∀ d, ∃ r : ℝ, q d = (r : EReal))
    (hk : ∀ j d, ∃ r : ℝ, k j d = (r : EReal)) (j : Fin 192) (hj : 128 ≤ c * 64 + j.val) : ∃ r : ℝ, scc c q k j = (r : EReal) := by
  unfold scc
  rw [if_pos hj]
  refine Finset.sum_induction _ (fun x : EReal => ∃ r : ℝ, x = (r : EReal)) ?_ ⟨0, rfl⟩ fun d _ => ?_
  · rintro _ _ ⟨a, rfl⟩ ⟨c, rfl⟩; exact ⟨a + c, (EReal.coe_add a c).symm⟩
  · obtain ⟨a, ha⟩ := hq d
    obtain ⟨c, hc⟩ := hk j d
    exact ⟨a * c, by rw [ha, hc, EReal.coe_mul]⟩

/-- A score outside the sequence is `⊥`. -/
theorem scc_bot {c : ℕ} {q : Fin 64 → EReal} {k : Fin 192 → Fin 64 → EReal} (j : Fin 192) (hj : ¬128 ≤ c * 64 + j.val) : scc c q k j = ⊥ := if_neg hj

variable (m : (ℓ : Loc nD τ sig) → Buf (Elt Ideal) ℓ)

/-- The windows' block indices at a grid point, and the block's number in its sequence. -/
theorem idx : ∀ t : Fin cfg0.N, win0_0.index t = ![0] ∧ win0_1.index t = ![t.val, 0]
    ∧ win0_2.index t = ![t.val / 16 * 16 + (t.val % 16 - 1), 0] ∧ win0_3.index t = ![t.val, 0]
    ∧ win0_4.index t = ![t.val / 16 * 16 + (t.val % 16 - 1), 0] ∧ win0_5.index t = ![t.val, 0]
    ∧ win0_6.index t = ![t.val, 0] ∧ (grid0.coords t 1).val = t.val % 16 ∧ t.val < 128 :=
  (by decide +kernel : ∀ t : Fin grid0.N, _)

theorem lt128 (t : Fin cfg0.N) : t.val < 128 := (idx t).2.2.2.2.2.2.2.2

theorem coord (t : Fin cfg0.N) : (grid0.coords t 1).val = t.val % 16 := (idx t).2.2.2.2.2.2.2.1

abbrev a0 (c : Dev nD) : FVec Ideal S32768x256 .bf16 := m ((c : Thread nD τ).loc main_arg0)
abbrev a1 (c : Dev nD) : FVec Ideal S32768x128 .bf16 := m ((c : Thread nD τ).loc main_arg1)
abbrev a2 (c : Dev nD) : FVec Ideal S32768x128 .bf16 := m ((c : Thread nD τ).loc main_arg2)
abbrev a3 (c : Dev nD) : FVec Ideal S4 .f32 := m ((c : Thread nD τ).loc main_arg3)

section
variable (c : Dev nD) (t : Fin cfg0.N) (b : Fin 8) (i : Fin 16) (ht : t.val = b.val * 16 + i.val)

theorem blk0 (h : Fin 4) : iblk m c 0 t (ix1 h) = a3 m c (ix1 h) := by
  blk_ext [iblk, V, idx t]

include ht

theorem blk1 (r l : Fin 256) : iblk m c 1 t (ix2 r l) = a0 m c (ix2 ⟨b.val * 4096 + i.val * 256 + r.val, by omega⟩ l) := by
  blk_ext [iblk, V, idx t]

theorem blk2 (hi : 1 ≤ i.val) (r : Fin 256) (l : Fin 128) : iblk m c 2 t (ix2 r l) = a1 m c (ix2 ⟨b.val * 4096 + (i.val - 1) * 256 + r.val, by omega⟩ l) := by
  blk_ext [iblk, V, idx t]

theorem blk3 (r : Fin 256) (l : Fin 128) : iblk m c 3 t (ix2 r l) = a1 m c (ix2 ⟨b.val * 4096 + i.val * 256 + r.val, by omega⟩ l) := by
  blk_ext [iblk, V, idx t]

theorem blk4 (hi : 1 ≤ i.val) (r : Fin 256) (l : Fin 128) : iblk m c 4 t (ix2 r l) = a2 m c (ix2 ⟨b.val * 4096 + (i.val - 1) * 256 + r.val, by omega⟩ l) := by
  blk_ext [iblk, V, idx t]

theorem blk5 (r : Fin 256) (l : Fin 128) : iblk m c 5 t (ix2 r l) = a2 m c (ix2 ⟨b.val * 4096 + i.val * 256 + r.val, by omega⟩ l) := by
  blk_ext [iblk, V, idx t]

end

/-- Two blocks that are those of a window, as far as it is in the sequence, make each chunk's window. -/
theorem wrow_wnd (A : FVec Ideal S32768x128 .bf16) (x y : Vec Ideal S256x128 .bf16) (b : Fin 8) (i : Fin 16)
    (hx : ∀ (hi : 1 ≤ i.val) (r : Fin 256) (l : Fin 128), x (ix2 r l) = A (ix2 ⟨b.val * 4096 + (i.val - 1) * 256 + r.val, by omega⟩ l))
    (hy : ∀ (r : Fin 256) (l : Fin 128), y (ix2 r l) = A (ix2 ⟨b.val * 4096 + i.val * 256 + r.val, by omega⟩ l))
    (u : Fin 4) (j : Fin 192) (hj : 128 ≤ (i.val * 4 + u.val) * 64 + j.val) (l : Fin 128) :
    wrow x y (place u j) l = Ref4.wnd A b ⟨i.val * 4 + u.val, by omega⟩ j l := by
  have key : ∀ (u v : Fin 32768), u.val = v.val → A (ix2 u l) = A (ix2 v l) := fun u v h => by rw [Fin.ext h]
  have e : (place u j).val = u.val * 64 + j.val := rfl
  unfold wrow Ref4.wnd
  rw [dif_pos hj]
  by_cases h1 : (place u j).val < 128
  · rw [dif_pos h1, hx (by omega)]
    exact key _ _ (by show b.val * 4096 + (i.val - 1) * 256 + (128 + (u.val * 64 + j.val)) = b.val * 4096 + ((i.val * 4 + u.val) * 64 + j.val - 128); omega)
  · rw [dif_neg h1, hy]
    exact key _ _ (by show b.val * 4096 + i.val * 256 + (u.val * 64 + j.val - 128) = b.val * 4096 + ((i.val * 4 + u.val) * 64 + j.val - 128); omega)

theorem wnd_real {A : FVec Ideal S32768x128 .bf16} (h : RealKeys A) (b : Fin 8) (i : Fin 64) (j : Fin 192) (l : Fin 128) :
    ∃ r : ℝ, Ref4.wnd A b i j l = (r : EReal) := by
  unfold Ref4.wnd
  split
  · exact h _
  · exact ⟨0, rfl⟩

/-- One element of a grid point's output block is the reference's element at the place where the block lies. -/
theorem point (c : Dev nD) (f0 : RealQueries (a0 m c)) (f1 : RealKeys (a1 m c)) (f3 : BelowTop (a3 m c)) (t : Fin cfg0.N) (b : Fin 8) (i : Fin 16)
    (ht : t.val = b.val * 16 + i.val) (y : S256x256.Idx) (r : Fin 256) (g k : Fin 2) (d : Fin 64) (u : Fin 4) (q : Fin 64)
    (hr : r.val = u.val * 64 + q.val) (h0 : (y 0 : ℕ) = r) (h1 : (y 1 : ℕ) = g * 128 + k * 64 + d) :
    outsAt0 m c t y = Ref4.REF (a0 m c) (a1 m c) (a2 m c) (a3 m c)
      (ix2 ⟨(b.val * 64 + (i.val * 4 + u.val)) * 64 + q.val, by omega⟩ ⟨g.val * 128 + k.val * 64 + d.val, by omega⟩) := by
  have hc : (grid0.coords t 1).val = i.val := by rw [coord]; omega
  have hu : r.val / 64 = u.val := by omega
  rw [outs_eq]
  refine (out_apply (grid0.coords t) (iblk m c 0 t) (iblk m c 1 t) (iblk m c 2 t) (iblk m c 3 t) (iblk m c 4 t) (iblk m c 5 t) y r g k d h0 h1).trans ?_
  rw [hc, blk0 m c t, funext fun d : Fin 64 => (blk1 m c t b i ht r ⟨g.val * 128 + k.val * 64 + d.val, by omega⟩).trans
      (congrArg (fun n => a0 m c (ix2 n ⟨g.val * 128 + k.val * 64 + d.val, by omega⟩))
        (Fin.ext (by show b.val * 4096 + i.val * 256 + r.val = (b.val * 64 + (i.val * 4 + u.val)) * 64 + q.val; omega) :
          (⟨b.val * 4096 + i.val * 256 + r.val, by omega⟩ : Fin 32768) = ⟨(b.val * 64 + (i.val * 4 + u.val)) * 64 + q.val, by omega⟩)),
    avgs_emb (place u) (place_inj u) _ _ _ fun j hj => scw_out i.val u.val r.val u.isLt hu _ _ j hj]
  have hs := scw_place i.val u.val r.val u.isLt hu (fun d : Fin 64 => a0 m c (ix2 ⟨(b.val * 64 + (i.val * 4 + u.val)) * 64 + q.val, by omega⟩ ⟨g.val * 128 + k.val * 64 + d.val, by omega⟩))
    (fun j d => wrow (iblk m c 2 t) (iblk m c 3 t) j ⟨k.val * 64 + d.val, by omega⟩)
    (fun j d => Ref4.wnd (a1 m c) b ⟨i.val * 4 + u.val, by omega⟩ j ⟨k.val * 64 + d.val, by omega⟩)
    (fun j hj d => wrow_wnd (a1 m c) _ _ b i (blk2 m c t b i ht) (blk3 m c t b i ht) u j hj _)
  refine (congrArg (fun S => avgs S _ _) (funext hs)).trans ?_
  rw [Ref4.REF_apply (a0 m c) (a1 m c) (a2 m c) (a3 m c) b ⟨i.val * 4 + u.val, by omega⟩ q g k d _ rfl]
  have hr := scc_real (c := i.val * 4 + u.val)
    (q := fun d : Fin 64 => a0 m c (ix2 ⟨(b.val * 64 + (i.val * 4 + u.val)) * 64 + q.val, by omega⟩ ⟨g.val * 128 + k.val * 64 + d.val, by omega⟩))
    (k := fun j d => Ref4.wnd (a1 m c) b ⟨i.val * 4 + u.val, by omega⟩ j ⟨k.val * 64 + d.val, by omega⟩) (fun d => f0 _) (fun j d => wnd_real f1 b _ j _)
  refine avgs_eq _ _ _ _ (fun j => ?_) (f3 _) ⟨⟨191, by omega⟩, ?_⟩ (fun j hj => ?_)
  · by_cases hj : 128 ≤ (i.val * 4 + u.val) * 64 + j.val
    · obtain ⟨r, hr⟩ := hr j hj
      exact fun e => EReal.coe_ne_top r (hr.symm.trans e)
    · exact fun e => bot_ne_top ((scc_bot j hj).symm.trans e)
  · obtain ⟨r, hr⟩ := hr ⟨191, by omega⟩ (by show 128 ≤ (i.val * 4 + u.val) * 64 + 191; omega)
    exact fun e => EReal.coe_ne_bot r (hr.symm.trans e)
  · exact wrow_wnd (a2 m c) _ _ b i (blk4 m c t b i ht) (blk5 m c t b i ht) u j (by by_contra hn; exact hj (scc_bot j hn)) _

/-- The result array at the end is the reference's of the arguments. -/
theorem final6 (c : Dev nD) (f0 : RealQueries (a0 m c)) (f1 : RealKeys (a1 m c)) (f3 : BelowTop (a3 m c)) :
    (dats m 0 c).arrAt 6 cfg0.N = Ref4.REF (a0 m c) (a1 m c) (a2 m c) (a3 m c) := by
  refine (dats m 0 c).arrAt_eq_of_covers 6 _ (by decide +kernel) fun t _ y => ?_
  blk_simp
  rw [after0_6]
  have h128 := lt128 t
  obtain ⟨b, i, ht⟩ : ∃ (b : Fin 8) (i : Fin 16), t.val = b.val * 16 + i.val :=
    ⟨⟨t.val / 16, by omega⟩, ⟨t.val % 16, by omega⟩, by simp only []; omega⟩
  obtain ⟨u, q, hq⟩ : ∃ (u : Fin 4) (q : Fin 64), (y 0).val = u.val * 64 + q.val := by
    have : (y 0).val < 256 := (y 0).isLt
    exact ⟨⟨(y 0).val / 64, by omega⟩, ⟨(y 0).val % 64, by omega⟩, by simp only []; omega⟩
  obtain ⟨g, k, d, hd⟩ : ∃ (g k : Fin 2) (d : Fin 64), (y 1).val = g.val * 128 + k.val * 64 + d.val := by
    have : (y 1).val < 256 := (y 1).isLt
    exact ⟨⟨(y 1).val / 128, by omega⟩, ⟨(y 1).val % 128 / 64, by omega⟩, ⟨(y 1).val % 64, by omega⟩, by simp only []; omega⟩
  refine (point m c f0 f1 f3 t b i ht y (y 0) g k d u q hq rfl hd).trans ?_
  blk_ext [idx t]

end Cert.Proof.Kernel4Ideal

end
-- ==== Proof.Algebraic4.lean ====
module
public import proofs.«01_k».proof.Defs
public import proofs.«01_k».proof.Proof.Value4
@[expose] public section
set_option maxRecDepth 16384
set_option maxHeartbeats 1000000
noncomputable section

/-!
# The window attention: the claims

The reference's frame, and that at finite queries and keys and at sinks below infinity both programs compute the
reference's result.
-/

namespace Cert.Proof
open Idealize.ShloMosaic Idealize.SL.Sem

/-- The window attention's reference ends in every run, its arguments unchanged; it has no semaphore. -/
theorem reference4_frame : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Equal arguments, equal reference. -/
theorem REF4_congr {A0 B0 : FVec Ideal Cert.Reference4Ideal.S32768x256 .bf16} {A1 A2 B1 B2 : FVec Ideal Cert.Reference4Ideal.S32768x128 .bf16}
    {A3 B3 : FVec Ideal Cert.Reference4Ideal.S4 .f32} (h0 : A0 = B0) (h1 : A1 = B1) (h2 : A2 = B2) (h3 : A3 = B3) :
    Ref4.REF A0 A1 A2 A3 = Ref4.REF B0 B1 B2 B3 := by
  rw [h0, h1, h2, h3]

/-- The kernel's mask constant, named minus infinity in its idealisation, is the constant the kernel is printed with. -/
theorem preserves4 : Cert.preserves_Kernel4_Kernel4Ideal :=
  IdealRules.named_const.statement Cert.Kernel4Ideal.κ "mask" .f32 0xF149F2CA#32 ⊥ rfl

/-- At finite queries and keys and at sinks below infinity the kernel's result is the reference's, over the extended reals. -/
theorem algebraic4 : Cert.algebraic_Kernel4Ideal_Reference4Ideal_pre_finite_qks := by
  intro m g m' g' hpre hargs
  refine ⟨fun c => Ref4.REF (Kernel4Ideal.a0 m c) (Kernel4Ideal.a1 m c) (Kernel4Ideal.a2 m c) (Kernel4Ideal.a3 m c), ?_, ?_⟩
  · refine (θ_run Cert.Kernel4Ideal.defs _ _).mono (fun r h c => ?_) (Cert.Kernel4Ideal.Gen.run_main (F := Ideal) m g)
    have hf := Finite4.pre_real m hpre c
    exact ⟨((h c).1 6).trans (Kernel4Ideal.final6 m c hf.1 hf.2.1 hf.2.2),
      ((h c).1 1).trans ((Cert.Kernel4Ideal.Gen.dats m 0 c).arrAt_in 1 rfl _),
      ((h c).1 2).trans ((Cert.Kernel4Ideal.Gen.dats m 0 c).arrAt_in 2 rfl _),
      ((h c).1 4).trans ((Cert.Kernel4Ideal.Gen.dats m 0 c).arrAt_in 4 rfl _),
      ((h c).1 0).trans ((Cert.Kernel4Ideal.Gen.dats m 0 c).arrAt_in 0 rfl _)⟩
  · refine (θ_run Cert.Reference4Ideal.defs _ _).mono (fun r h c => ⟨(h c).1.trans ?_, (h c).2⟩)
      (Cert.Reference4Ideal.Value.run (F := Ideal) m' g')
    exact (Ref4.res_eq m' c).trans (REF4_congr (hargs c).1 (hargs c).2.1 (hargs c).2.2.1 (hargs c).2.2.2)

end Cert.Proof

end
-- ==== Proof.Table.lean ====
module
public import Idealize.ShloMosaic.Lib.Pointwise
@[expose] public section
noncomputable section

/-!
# The table of position biases

The bias of a query of a block of 256 with a key of the window of the block and the two before it, from the biases by
distance.
-/

namespace Cert.Proof.Table
open Idealize.ShloMosaic Idealize.ShloMosaic.TcCoe

/-- The bias of query `q` with key `j`: that of their distance, which counts from 63 after to 256 before, where the key's
    chunk of 64 is the query's or one of the eight before it, and the fill elsewhere. -/
def tab (x : Fin 320 → EReal) (q j : ℕ) : EReal :=
  if q / 64 ≤ j / 64 ∧ j / 64 ≤ q / 64 + 8 then x ⟨min (575 + q - j) 319, by omega⟩ else Ideal.ofBits .f32 0xF149F2CA#32

/-- The conjunction of two bits. -/
theorem bits {A B : Prop} [Decidable A] [Decidable B] :
    IntOp.andi (if A then 1#1 else 0#1) (if B then 1#1 else 0#1) = if A ∧ B then 1#1 else 0#1 := by
  by_cases a : A <;> by_cases b : B <;> simp [a, b, IntOp.andi]

/-- The fill where a bit is off. -/
theorem tab_select {A : Prop} [Decidable A] (x y : EReal) : Scalar.select (if A then 1#1 else 0#1) x y = if A then x else y := by
  by_cases a : A <;> simp [a, Scalar.select]

end Cert.Proof.Table

end
-- ==== Proof.Pieces5.lean ====
module
public import proofs.«01_k».proof.Proof.Table
public import proofs.«01_k».proof.Proof.Gen.Kernel5Ideal.Frame
public import Idealize.ShloMosaic.Lib.Pipeline.ValueKit
@[expose] public section
set_option maxRecDepth 16384
set_option maxHeartbeats 400000
noncomputable section

/-!
# The bias table's kernel, element by element

The row of 1024 biases that the host operations make of each head, and the block that the kernel makes of it: each query's
row is the row of biases rotated by the query's place.
-/

namespace Cert.Proof.Kernel5Ideal
open Cert.Kernel5Ideal Cert.Kernel5Ideal.Gen
open Idealize.ShloMosaic Idealize.ShloMosaic.TcCoe Idealize.SL.Sem
open Cert.Proof.Table

/-- The distances' numbers before negative ones are wrapped. -/
def numbers : IVec S1024 32 :=
  addi (minsi (broadcastInDim S1024 ![] bcast_S_S1024 (id (constantI S_ 32 256#32))) (maxsi (broadcastInDim S1024 ![] bcast_S_S1024 (id (constantI S_ 32 4294967233#32)))
    (subi (broadcastInDim S1024 ![] bcast_S_S1024 (constantI S_ 32 768#32)) (iotaInDim S1024 32 0)))) (broadcastInDim S1024 ![] bcast_S_S1024 (constantI S_ 32 63#32))

/-- Where each entry of a row of biases is taken from. -/
def starts (n : IVec S1024 32) : IVec S1024x1 32 :=
  broadcastInDim S1024x1 ![0] bcast_S1024_S1024x1_0 (select (cmpi .slt n (broadcastInDim S1024 ![] bcast_S_S1024 (constantI S_ 32 0#32)))
    (addi n (broadcastInDim S1024 ![] bcast_S_S1024 (constantI S_ 32 320#32))) n)

/-- The rows of biases, by head. -/
def rows (A : FVec Ideal S4x320 .f32) : FVec Ideal S4x1x1024 .f32 :=
  shapeCast S4x1x1024 (Host.gather gather_S4x320_S1024x1_S4x1024_0_1_n_n_1_1_41 A (starts numbers)) shapeCasts_S4x1024_S4x1x1024

theorem V_rows (m : (ℓ : Loc nD τ sig) → Buf (Elt Ideal) ℓ) (c : Dev nD) : V m c main_v13 = rows (m ((c : Thread nD τ).loc main_arg0)) := by
  show StableHlo.after (List.flatten [hostOps0, hostOps0_1, hostOps0_2]) _ (Proc.devRef .tc main_v13) = _
  simp only [List.flatten_cons, List.flatten_nil, List.append_nil, List.cons_append, List.nil_append, StableHlo.TRef.binary, StableHlo.TRef.unary, StableHlo.TRef.toBuf, StableHlo.TRef.ofBuf, cast_eq]
  after_results_simp
  rfl

theorem number_at : ∀ k : Fin 1024, Scalar.select (IntOp.cmpi .slt (IntOp.addi (IntOp.minsi 256#32 (IntOp.maxsi 4294967233#32 (IntOp.subi 768#32 (BitVec.ofNat 32 k.val)))) 63#32) 0#32)
      (IntOp.addi (IntOp.addi (IntOp.minsi 256#32 (IntOp.maxsi 4294967233#32 (IntOp.subi 768#32 (BitVec.ofNat 32 k.val)))) 63#32) 320#32)
      (IntOp.addi (IntOp.minsi 256#32 (IntOp.maxsi 4294967233#32 (IntOp.subi 768#32 (BitVec.ofNat 32 k.val)))) 63#32)
    = BitVec.ofNat 32 (min (831 - k.val) 319) := by decide +kernel

theorem starts_apply (k : Fin 1024) : starts numbers (ix2 k 0) = BitVec.ofNat 32 (min (831 - k.val) 319) := by
  pointwise [starts, numbers]
  exact number_at k

theorem gather_apply (A : FVec Ideal S4x320 .f32) (s : IVec S1024x1 32) (h : Fin 4) (k : Fin 1024) :
    Host.gather gather_S4x320_S1024x1_S4x1024_0_1_n_n_1_1_41 A s (ix2 h k) = A (ix2 h ⟨min (s (ix2 k 0)).toInt.toNat 319, by omega⟩) := by
  unfold Host.gather
  refine congrArg A (funext fun a => Fin.ext ?_)
  have hs : (gather_S4x320_S1024x1_S4x1024_0_1_n_n_1_1_41).siIdx (ix2 h k) ⟨0, by decide⟩ = ix2 k 0 := by
    funext b
    match b with
    | ⟨0, _⟩ => rfl
    | ⟨1, _⟩ => rfl
  have s0 : (gather_S4x320_S1024x1_S4x1024_0_1_n_n_1_1_41).start (ix2 h k) s (0 : Fin 2) = 0 := dif_neg (by decide)
  have o0 : (gather_S4x320_S1024x1_S4x1024_0_1_n_n_1_1_41).offCoord (ix2 h k) (0 : Fin 2) = h.val := dif_pos (by decide)
  have s1 : (gather_S4x320_S1024x1_S4x1024_0_1_n_n_1_1_41).start (ix2 h k) s (1 : Fin 2) = min (s (ix2 k 0)).toInt.toNat 319 :=
    (dif_pos (by decide)).trans (congrArg (fun i => min (s i).toInt.toNat 319) hs)
  have o1 : (gather_S4x320_S1024x1_S4x1024_0_1_n_n_1_1_41).offCoord (ix2 h k) (1 : Fin 2) = 0 := dif_neg (by decide)
  show (gather_S4x320_S1024x1_S4x1024_0_1_n_n_1_1_41).start (ix2 h k) s a + (gather_S4x320_S1024x1_S4x1024_0_1_n_n_1_1_41).batchCoord (ix2 h k) a
    + (gather_S4x320_S1024x1_S4x1024_0_1_n_n_1_1_41).offCoord (ix2 h k) a = _
  rw [GatherDims.batchCoord_eq_zero _ _ _ List.not_mem_nil]
  match a with
  | ⟨0, _⟩ => exact (congrArg₂ (fun x y => x + 0 + y) s0 o0).trans (Nat.zero_add _)
  | ⟨1, _⟩ => exact congrArg₂ (fun x y => x + 0 + y) s1 o1

theorem toNat_fin : ∀ n : Fin 320, (BitVec.ofNat 32 n.val).toInt.toNat = n.val := by decide +kernel

theorem toNat_at (n : ℕ) (h : n < 320) : (BitVec.ofNat 32 n).toInt.toNat = n := toNat_fin ⟨n, h⟩

theorem rows_apply (A : FVec Ideal S4x320 .f32) (h : Fin 4) (k : Fin 1024) : rows A (ix3 h 0 k) = A (ix2 h ⟨min (831 - k.val) 319, by omega⟩) := by
  have e : rows A (ix3 h 0 k) = Host.gather gather_S4x320_S1024x1_S4x1024_0_1_n_n_1_1_41 A (starts numbers) (ix2 h k) := by
    pointwise [rows]
  refine e.trans ((gather_apply A (starts numbers) h k).trans (congrArg (fun a => A (ix2 h a)) (Fin.ext ?_)))
  refine (congrArg (fun b : BitVec 32 => min b.toInt.toNat 319) (starts_apply k)).trans ?_
  exact (congrArg (fun n => min n 319) (toNat_at (min (831 - k.val) 319) (by omega))).trans (by rw [Nat.min_assoc, Nat.min_self])

theorem pay2_apply (x : Vec Ideal S1x1x1024 .f32) (q : Fin 256) (j : Fin 768) : k0_pay2 (F := Ideal) x (ix2 q j) = x (ix3 0 0 ⟨j.val + 256 - q.val, by omega⟩) := by
  pointwise [k0_pay2]
  exact congrArg (fun a => x (ix3 0 0 a)) (Fin.ext (by show (j.val + 1024 - (768 + q.val) % 1024) % 1024 = j.val + 256 - q.val; omega))

/-- A place's chunk of 64, as the body computes it. -/
theorem chunk_at : ∀ j : Fin 768, Scalar.select
      (IntOp.andi
        (IntOp.cmpi .ne
          (IntOp.subi (BitVec.setWidth 32 (IntOp.cmpi .sgt (BitVec.ofNat 32 j.val) 0#32)) (BitVec.setWidth 32 (IntOp.cmpi .slt (BitVec.ofNat 32 j.val) 0#32)))
          (Scalar.subi (Scalar.extui (Scalar.cmpi .sgt 64#32 0#32)) (Scalar.extui (Scalar.cmpi .slt 64#32 0#32))))
        (IntOp.cmpi .ne (IntOp.remsi .vector (BitVec.ofNat 32 j.val) 64#32) 0#32))
      (IntOp.subi (IntOp.divsi .vector (BitVec.ofNat 32 j.val) 64#32) 1#32)
      (IntOp.divsi .vector (BitVec.ofNat 32 j.val) 64#32) = BitVec.ofNat 32 (j.val / 64) := by decide +kernel

theorem ge_at : ∀ (a : Fin 12) (b : Fin 4), IntOp.cmpi .sge (BitVec.ofNat 32 a.val) (IntOp.subi (IntOp.addi (BitVec.ofNat 32 b.val) 8#32) 8#32)
    = if b.val ≤ a.val then 1#1 else 0#1 := by decide +kernel

theorem le_at : ∀ (a : Fin 12) (b : Fin 4), IntOp.cmpi .sle (BitVec.ofNat 32 a.val) (IntOp.addi (BitVec.ofNat 32 b.val) 8#32) = if a.val ≤ b.val + 8 then 1#1 else 0#1 := by
  decide +kernel

theorem pay1_apply (x : FVec Ideal S256x768 .f32) (q : Fin 256) (j : Fin 768) :
    k0_pay1 (F := Ideal) x k0_pay3 (iota .tc S256x768 32 [1] iota_S256x768_d1_w32) 64#32 k0_pay4 k0_pay5 0#32 (ix3 0 q j)
      = if q.val / 64 ≤ j.val / 64 ∧ j.val / 64 ≤ q.val / 64 + 8 then x (ix2 q j) else Ideal.ofBits .f32 0xF149F2CA#32 := by
  pointwise [k0_pay1, k0_pay3, k0_pay4, k0_pay5]
  rw [chunk_at j, chunk_at ⟨q.val, by omega⟩, ge_at ⟨j.val / 64, by omega⟩ ⟨q.val / 64, by omega⟩, le_at ⟨j.val / 64, by omega⟩ ⟨q.val / 64, by omega⟩, bits, tab_select]

/-- The block a grid point writes, from a head's row of biases. -/
theorem out1_apply (x : Vec Ideal S1x1x1024 .f32) (B : Fin 320 → EReal) (hx : ∀ k : Fin 1024, x (ix3 0 0 k) = B ⟨min (831 - k.val) 319, by omega⟩)
    (y : S1x256x768.Idx) (q : Fin 256) (j : Fin 768) (h1 : (y 1 : ℕ) = q) (h2 : (y 2 : ℕ) = j) : out0_1 (F := Ideal) x y = tab B q.val j.val := by
  unfold out0_1
  have hy : y = ix3 0 q j := by
    funext a
    match a with
    | ⟨0, _⟩ => exact Subsingleton.elim (α := Fin 1) _ _
    | ⟨1, _⟩ => exact Fin.ext h1
    | ⟨2, _⟩ => exact Fin.ext h2
  subst hy
  canon_tiles z h
  case piece0 =>
    have hz : z = ix3 0 q j := by
      funext a
      match a with
      | ⟨0, _⟩ => exact Subsingleton.elim (α := Fin 1) _ _
      | ⟨1, _⟩ => exact Fin.ext h1.symm
      | ⟨2, _⟩ => exact Fin.ext h2.symm
    subst hz
    rw [pay1_apply, pay2_apply]
    refine if_congr Iff.rfl ?_ rfl
    have e : View.ld x r0_0 (ix3 0 0 ⟨j.val + 256 - q.val, by omega⟩) = x (ix3 0 0 ⟨j.val + 256 - q.val, by omega⟩) := by
      show x (r0_0.emb (ix3 0 0 ⟨j.val + 256 - q.val, by omega⟩)) = _
      blk_ext
    exact (e.trans (hx _)).trans (congrArg B (Fin.ext (by show min (831 - (j.val + 256 - q.val)) 319 = min (575 + q.val - j.val) 319; omega)))

end Cert.Proof.Kernel5Ideal

end
-- ==== Proof.RefValue5.lean ====
module
public import proofs.«01_k».proof.Proof.Gen.Reference5Ideal.Run
public import proofs.«01_k».proof.Proof.Table
public import Idealize.ShloMosaic.Lib.Pointwise
@[expose] public section
set_option maxRecDepth 16384
set_option maxHeartbeats 400000
noncomputable section

/-!
# The table of biases by position: what the reference computes

The distance of each query and key, the entry of the biases it numbers, and the bits of the chunks seen.
-/

namespace Cert.Proof.Ref5
open Cert.Reference5Ideal Cert.Reference5Ideal.Gen
open Idealize.ShloMosaic Idealize.ShloMosaic.TcCoe Idealize.SL.Sem
open Cert.Proof.Table

/-- The queries' places in the window. -/
def qpos : IVec S256x1 32 :=
  addi (broadcastInDim S256x1 ![] bcast_S_S256x1 (constantI S_ 32 512#32)) (broadcastInDim S256x1 ![0] bcast_S256_S256x1_0 (iotaInDim S256 32 0))

/-- The keys' places in the window. -/
def kpos : IVec S1x768 32 := broadcastInDim S1x768 ![1] bcast_S768_S1x768_1 (iotaInDim S768 32 0)

/-- The queries' chunks. -/
def qchunk (p : IVec S256x1 32) : IVec S256x1 32 :=
  select (andi (cmpi .ne (signi p) (broadcastInDim S256x1 ![] bcast_S_S256x1 (signi (constantI S_ 32 64#32)))) (cmpi .ne (Host.remsi p (broadcastInDim S256x1 ![] bcast_S_S256x1 (constantI S_ 32 64#32))) (broadcastInDim S256x1 ![] bcast_S_S256x1 (constantI S_ 32 0#32)))) (subi (Host.divsi p (broadcastInDim S256x1 ![] bcast_S_S256x1 (constantI S_ 32 64#32))) (broadcastInDim S256x1 ![] bcast_S_S256x1 (constantI S_ 32 1#32))) (Host.divsi p (broadcastInDim S256x1 ![] bcast_S_S256x1 (constantI S_ 32 64#32)))

/-- The keys' chunks. -/
def kchunk (p : IVec S1x768 32) : IVec S1x768 32 :=
  select (andi (cmpi .ne (signi p) (broadcastInDim S1x768 ![] bcast_S_S1x768 (signi (constantI S_ 32 64#32)))) (cmpi .ne (Host.remsi p (broadcastInDim S1x768 ![] bcast_S_S1x768 (constantI S_ 32 64#32))) (broadcastInDim S1x768 ![] bcast_S_S1x768 (constantI S_ 32 0#32)))) (subi (Host.divsi p (broadcastInDim S1x768 ![] bcast_S_S1x768 (constantI S_ 32 64#32))) (broadcastInDim S1x768 ![] bcast_S_S1x768 (constantI S_ 32 1#32))) (Host.divsi p (broadcastInDim S1x768 ![] bcast_S_S1x768 (constantI S_ 32 64#32)))

/-- Which keys a query sees. -/
def seen (q : IVec S256x1 32) (k : IVec S1x768 32) : IVec S4x256x768 1 :=
  broadcastInDim S4x256x768 ![0, 1, 2] bcast_S1x256x768_S4x256x768_0_1_2 (broadcastInDim S1x256x768 ![1, 2] bcast_S256x768_S1x256x768_1_2 (andi (cmpi .sle (broadcastInDim S256x768 ![0, 1] bcast_S1x768_S256x768_0_1 k) (broadcastInDim S256x768 ![0, 1] bcast_S256x1_S256x768_0_1 q)) (cmpi .sle (broadcastInDim S256x768 ![0, 1] bcast_S256x1_S256x768_0_1 q) (broadcastInDim S256x768 ![0, 1] bcast_S1x768_S256x768_0_1 (addi k (broadcastInDim S1x768 ![] bcast_S_S1x768 (constantI S_ 32 8#32)))))))

/-- The distances' numbers before negative ones are wrapped. -/
def numbers (q : IVec S256x1 32) (k : IVec S1x768 32) : IVec S256x768 32 :=
  addi (minsi (broadcastInDim S256x768 ![] bcast_S_S256x768 (constantI S_ 32 256#32)) (maxsi (broadcastInDim S256x768 ![] bcast_S_S256x768 (constantI S_ 32 4294967233#32)) (subi (broadcastInDim S256x768 ![0, 1] bcast_S256x1_S256x768_0_1 q) (broadcastInDim S256x768 ![0, 1] bcast_S1x768_S256x768_0_1 k)))) (broadcastInDim S256x768 ![] bcast_S_S256x768 (constantI S_ 32 63#32))

/-- Where each bias is taken from. -/
def starts (n : IVec S256x768 32) : IVec S256x768x1 32 :=
  broadcastInDim S256x768x1 ![0, 1] bcast_S256x768_S256x768x1_0_1 (select (cmpi .slt n (broadcastInDim S256x768 ![] bcast_S_S256x768 (constantI S_ 32 0#32))) (addi n (broadcastInDim S256x768 ![] bcast_S_S256x768 (constantI S_ 32 320#32))) n)

/-- The reference's result. -/
def REF (A : FVec Ideal S4x320 .f32) : FVec Ideal S4x256x768 .f32 :=
  select (seen (qchunk qpos) (kchunk kpos)) (Host.gather gather_S4x320_S256x768x1_S4x256x768_0_1_n_n_1_2_41 A (starts (numbers qpos kpos)))
    (broadcastInDim S4x256x768 ![] bcast_S_S4x256x768 (constant S_ .f32 0xF149F2CA#32))

/-- The reference's result is the one above. -/
theorem res_eq (m : (ℓ : Loc nD τ sig) → Buf (Elt Ideal) ℓ) (c : Dev nD) : Value.res_main_v33 m c = REF (m ((c.tc : Thread nD τ).loc main_arg0)) := rfl

theorem qchunk_at : ∀ q : Fin 256, Scalar.select
      (IntOp.andi
        (IntOp.cmpi .ne (if IntOp.addi 512#32 (BitVec.ofNat 32 q.val) = 0 then 0 else if (IntOp.addi 512#32 (BitVec.ofNat 32 q.val)).msb = true then -1 else (1 : BitVec 32))
          (if 64#32 = 0 then 0 else if (64#32).msb = true then -1 else (1 : BitVec 32)))
        (IntOp.cmpi .ne (IntOp.remsi .host (IntOp.addi 512#32 (BitVec.ofNat 32 q.val)) 64#32) 0#32))
      (IntOp.subi (IntOp.divsi .host (IntOp.addi 512#32 (BitVec.ofNat 32 q.val)) 64#32) 1#32)
      (IntOp.divsi .host (IntOp.addi 512#32 (BitVec.ofNat 32 q.val)) 64#32) = BitVec.ofNat 32 (q.val / 64 + 8) := by decide +kernel

theorem qchunk_apply (q : Fin 256) : qchunk qpos (ix2 q 0) = BitVec.ofNat 32 (q.val / 64 + 8) := by
  pointwise [qchunk, qpos]
  exact qchunk_at q

theorem kchunk_at : ∀ j : Fin 768, Scalar.select
      (IntOp.andi
        (IntOp.cmpi .ne (if BitVec.ofNat 32 j.val = 0 then 0 else if (BitVec.ofNat 32 j.val).msb = true then -1 else (1 : BitVec 32))
          (if 64#32 = 0 then 0 else if (64#32).msb = true then -1 else (1 : BitVec 32)))
        (IntOp.cmpi .ne (IntOp.remsi .host (BitVec.ofNat 32 j.val) 64#32) 0#32))
      (IntOp.subi (IntOp.divsi .host (BitVec.ofNat 32 j.val) 64#32) 1#32)
      (IntOp.divsi .host (BitVec.ofNat 32 j.val) 64#32) = BitVec.ofNat 32 (j.val / 64) := by decide +kernel

theorem kchunk_apply (j : Fin 768) : kchunk kpos (ix2 0 j) = BitVec.ofNat 32 (j.val / 64) := by
  pointwise [kchunk, kpos]
  exact kchunk_at j

theorem ge_at : ∀ (a : Fin 12) (b : Fin 4), IntOp.cmpi .sle (BitVec.ofNat 32 (b.val + 8)) (IntOp.addi (BitVec.ofNat 32 a.val) 8#32)
    = if b.val ≤ a.val then 1#1 else 0#1 := by decide +kernel

theorem le_at : ∀ (a : Fin 12) (b : Fin 4), IntOp.cmpi .sle (BitVec.ofNat 32 a.val) (BitVec.ofNat 32 (b.val + 8)) = if a.val ≤ b.val + 8 then 1#1 else 0#1 := by
  decide +kernel

theorem and_comm' (A B : BitVec 1) : IntOp.andi A B = IntOp.andi B A := BitVec.and_comm A B

/-- A query sees the keys of its chunk and of the eight before it. -/
theorem seen_apply (h : Fin 4) (q : Fin 256) (j : Fin 768) : seen (qchunk qpos) (kchunk kpos) (ix3 h q j)
    = if q.val / 64 ≤ j.val / 64 ∧ j.val / 64 ≤ q.val / 64 + 8 then 1#1 else 0#1 := by
  have e : seen (qchunk qpos) (kchunk kpos) (ix3 h q j) = IntOp.andi (IntOp.cmpi .sle (kchunk kpos (ix2 0 j)) (qchunk qpos (ix2 q 0)))
      (IntOp.cmpi .sle (qchunk qpos (ix2 q 0)) (IntOp.addi (kchunk kpos (ix2 0 j)) 8#32)) := by
    pointwise [seen]
  refine e.trans ?_
  rw [kchunk_apply, qchunk_apply, and_comm', ge_at ⟨j.val / 64, by omega⟩ ⟨q.val / 64, by omega⟩, le_at ⟨j.val / 64, by omega⟩ ⟨q.val / 64, by omega⟩, bits]

/-- The number of a distance, by how far it is from the least one. -/
theorem number_at : ∀ n : Fin 1023, Scalar.select (IntOp.cmpi .slt (IntOp.addi (IntOp.minsi 256#32 (IntOp.maxsi 4294967233#32 (IntOp.subi (BitVec.ofNat 32 n.val) 255#32))) 63#32) 0#32)
      (IntOp.addi (IntOp.addi (IntOp.minsi 256#32 (IntOp.maxsi 4294967233#32 (IntOp.subi (BitVec.ofNat 32 n.val) 255#32))) 63#32) 320#32)
      (IntOp.addi (IntOp.minsi 256#32 (IntOp.maxsi 4294967233#32 (IntOp.subi (BitVec.ofNat 32 n.val) 255#32))) 63#32)
    = BitVec.ofNat 32 (min (n.val - 192) 319) := by decide +kernel

theorem distance (q : Fin 256) (j : Fin 768) : IntOp.subi (IntOp.addi 512#32 (BitVec.ofNat 32 q.val)) (BitVec.ofNat 32 j.val)
    = IntOp.subi (BitVec.ofNat 32 (767 + q.val - j.val)) 255#32 := by
  unfold IntOp.subi IntOp.addi
  apply BitVec.eq_of_toNat_eq
  simp only [BitVec.toNat_sub, BitVec.toNat_add, BitVec.toNat_ofNat]
  omega

theorem starts_apply (q : Fin 256) (j : Fin 768) : starts (numbers qpos kpos) (ix3 q j 0) = BitVec.ofNat 32 (min (575 + q.val - j.val) 319) := by
  pointwise [starts, numbers, qpos, kpos]
  rw [distance]
  exact (number_at ⟨767 + q.val - j.val, by omega⟩).trans (congrArg (fun n => BitVec.ofNat 32 (min n 319)) (by simp only []; omega))

theorem gather_apply (A : FVec Ideal S4x320 .f32) (s : IVec S256x768x1 32) (h : Fin 4) (q : Fin 256) (j : Fin 768) :
    Host.gather gather_S4x320_S256x768x1_S4x256x768_0_1_n_n_1_2_41 A s (ix3 h q j) = A (ix2 h ⟨min (s (ix3 q j 0)).toInt.toNat 319, by omega⟩) := by
  unfold Host.gather
  refine congrArg A (funext fun a => Fin.ext ?_)
  have hs : (gather_S4x320_S256x768x1_S4x256x768_0_1_n_n_1_2_41).siIdx (ix3 h q j) ⟨0, by decide⟩ = ix3 q j 0 := by
    funext b
    match b with
    | ⟨0, _⟩ => rfl
    | ⟨1, _⟩ => rfl
    | ⟨2, _⟩ => rfl
  have s0 : (gather_S4x320_S256x768x1_S4x256x768_0_1_n_n_1_2_41).start (ix3 h q j) s (0 : Fin 2) = 0 := dif_neg (by decide)
  have o0 : (gather_S4x320_S256x768x1_S4x256x768_0_1_n_n_1_2_41).offCoord (ix3 h q j) (0 : Fin 2) = h.val := dif_pos (by decide)
  have s1 : (gather_S4x320_S256x768x1_S4x256x768_0_1_n_n_1_2_41).start (ix3 h q j) s (1 : Fin 2) = min (s (ix3 q j 0)).toInt.toNat 319 :=
    (dif_pos (by decide)).trans (congrArg (fun i => min (s i).toInt.toNat 319) hs)
  have o1 : (gather_S4x320_S256x768x1_S4x256x768_0_1_n_n_1_2_41).offCoord (ix3 h q j) (1 : Fin 2) = 0 := dif_neg (by decide)
  show (gather_S4x320_S256x768x1_S4x256x768_0_1_n_n_1_2_41).start (ix3 h q j) s a + (gather_S4x320_S256x768x1_S4x256x768_0_1_n_n_1_2_41).batchCoord (ix3 h q j) a
    + (gather_S4x320_S256x768x1_S4x256x768_0_1_n_n_1_2_41).offCoord (ix3 h q j) a = _
  rw [GatherDims.batchCoord_eq_zero _ _ _ List.not_mem_nil]
  match a with
  | ⟨0, _⟩ => exact (congrArg₂ (fun x y => x + 0 + y) s0 o0).trans (Nat.zero_add _)
  | ⟨1, _⟩ => exact congrArg₂ (fun x y => x + 0 + y) s1 o1

theorem toNat_fin : ∀ n : Fin 320, (BitVec.ofNat 32 n.val).toInt.toNat = n.val := by decide +kernel

theorem toNat_at (n : ℕ) (h : n < 320) : (BitVec.ofNat 32 n).toInt.toNat = n := toNat_fin ⟨n, h⟩

theorem taken_apply (A : FVec Ideal S4x320 .f32) (h : Fin 4) (q : Fin 256) (j : Fin 768) :
    Host.gather gather_S4x320_S256x768x1_S4x256x768_0_1_n_n_1_2_41 A (starts (numbers qpos kpos)) (ix3 h q j) = A (ix2 h ⟨min (575 + q.val - j.val) 319, by omega⟩) := by
  refine (gather_apply A (starts (numbers qpos kpos)) h q j).trans (congrArg (fun a => A (ix2 h a)) (Fin.ext ?_))
  refine (congrArg (fun b : BitVec 32 => min b.toInt.toNat 319) (starts_apply q j)).trans ?_
  exact (congrArg (fun n => min n 319) (toNat_at (min (575 + q.val - j.val) 319) (by omega))).trans (by rw [Nat.min_assoc, Nat.min_self])

/-- The reference's result at a head, a query and a key. -/
theorem REF_apply (A : FVec Ideal S4x320 .f32) (h : Fin 4) (q : Fin 256) (j : Fin 768) :
    REF A (ix3 h q j) = tab (fun d => A (ix2 h d)) q.val j.val := by
  have e : REF A (ix3 h q j) = Scalar.select (seen (qchunk qpos) (kchunk kpos) (ix3 h q j))
      (Host.gather gather_S4x320_S256x768x1_S4x256x768_0_1_n_n_1_2_41 A (starts (numbers qpos kpos)) (ix3 h q j)) (Ideal.ofBits .f32 0xF149F2CA#32) := by
    pointwise [REF]
  rw [e, seen_apply, taken_apply]
  exact tab_select _ _

end Cert.Proof.Ref5

end
-- ==== Proof.Value5.lean ====
module
public import proofs.«01_k».proof.Proof.Pieces5
public import proofs.«01_k».proof.Proof.RefValue5
public import Idealize.ShloMosaic.Lib.Pipeline.ValueKit
@[expose] public section
set_option maxRecDepth 16384
set_option maxHeartbeats 1000000
noncomputable section

/-!
# The bias table: kernel and reference agree

Grid point `t` is head `t`: it reads that head's row of biases and writes that head's table.
-/

namespace Cert.Proof.Kernel5Ideal
open Cert.Kernel5Ideal Cert.Kernel5Ideal.Gen
open Idealize.ShloMosaic Idealize.ShloMosaic.TcCoe Idealize.SL.Sem
open Idealize.ShloMosaic.Pipeline (Dat)
open Cert.Proof.Table

variable (m : (ℓ : Loc nD τ sig) → Buf (Elt Ideal) ℓ)

/-- The windows' block indices at a grid point. -/
theorem idx : ∀ t : Fin cfg0.N, win0_0.index t = ![t.val, 0, 0] ∧ win0_1.index t = ![t.val, 0, 0] ∧ t.val < 4 :=
  (by decide +kernel : ∀ t : Fin grid0.N, _)

/-- The biases by distance. -/
abbrev a0 (c : Dev nD) : FVec Ideal S4x320 .f32 := m ((c : Thread nD τ).loc main_arg0)

/-- A grid point's row of biases is its head's. -/
theorem blk0 (c : Dev nD) (t : Fin cfg0.N) (h : Fin 4) (ht : t.val = h.val) (k : Fin 1024) :
    iblk m c 0 t (ix3 0 0 k) = a0 m c (ix2 h ⟨min (831 - k.val) 319, by omega⟩) := by
  have e : iblk m c 0 t (ix3 0 0 k) = V m c main_v13 (ix3 h 0 k) := by
    blk_ext [iblk, idx t]
  exact e.trans ((congrFun (V_rows m c) _).trans (rows_apply (a0 m c) h k))

/-- One element of a grid point's block is the reference's element at its head. -/
theorem point (c : Dev nD) (t : Fin cfg0.N) (h : Fin 4) (ht : t.val = h.val) (y : S1x256x768.Idx) (q : Fin 256) (j : Fin 768)
    (h1 : (y 1 : ℕ) = q) (h2 : (y 2 : ℕ) = j) : out0_1 (iblk m c 0 t) y = Ref5.REF (a0 m c) (ix3 h q j) :=
  (out1_apply (iblk m c 0 t) (fun d => a0 m c (ix2 h d)) (blk0 m c t h ht) y q j h1 h2).trans (Ref5.REF_apply (a0 m c) h q j).symm

/-- The result array at the end is the reference's of the argument. -/
theorem final1 (c : Dev nD) : (dats m 0 c).arrAt 1 cfg0.N = Ref5.REF (a0 m c) := by
  refine (dats m 0 c).arrAt_eq_of_covers 1 _ (by decide +kernel) fun t _ y => ?_
  blk_simp
  rw [after0_1]
  have h4 := (idx t).2.2
  refine (point m c t ⟨t.val, h4⟩ rfl y (y 1) (y 2) rfl rfl).trans ?_
  blk_ext [idx t]

end Cert.Proof.Kernel5Ideal

end
-- ==== Proof.Algebraic5.lean ====
module
public import proofs.«01_k».proof.Defs
public import proofs.«01_k».proof.Proof.Value5
@[expose] public section
set_option maxRecDepth 16384
set_option maxHeartbeats 1000000
noncomputable section

/-!
# The bias table: the claims

The reference's frame, and that both programs compute the reference's result at any biases.
-/

namespace Cert.Proof
open Idealize.ShloMosaic Idealize.SL.Sem

/-- The bias table's reference ends in every run, its argument unchanged; it has no semaphore. -/
theorem reference5_frame : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The kernel's table is the reference's, over the extended reals. -/
theorem algebraic5 : Cert.algebraic_Kernel5Ideal_Reference5Ideal := by
  intro m g m' g' _ hargs
  refine ⟨fun c => Ref5.REF (Kernel5Ideal.a0 m c), ?_, ?_⟩
  · exact (θ_run Cert.Kernel5Ideal.defs _ _).mono (fun r h c => ⟨((h c).1 1).trans (Kernel5Ideal.final1 m c),
      ((h c).2 Cert.Kernel5Ideal.main_arg0 (Pipeline.mem_restRefs_of Cert.Kernel5Ideal.main_arg0 (by decide) (by decide))).trans
        (Cert.Kernel5Ideal.Gen.V_main_arg0 m c)⟩) (Cert.Kernel5Ideal.Gen.run_main (F := Ideal) m g)
  · exact (θ_run Cert.Reference5Ideal.defs _ _).mono
      (fun r h c => ⟨(h c).1.trans ((Ref5.res_eq m' c).trans (congrArg Ref5.REF (hargs c))), (h c).2⟩)
      (Cert.Reference5Ideal.Value.run (F := Ideal) m' g')

end Cert.Proof

end
-- ==== Proof.lean ====
module

public import proofs.«01_k».proof.Defs
public import proofs.«01_k».proof.Proof.Run
public import proofs.«01_k».proof.Proof.RunIdeal
public import proofs.«01_k».proof.Proof.Value
public import proofs.«01_k».proof.Proof.Algebraic2
public import proofs.«01_k».proof.Proof.Algebraic3
public import proofs.«01_k».proof.Proof.Algebraic4
public import proofs.«01_k».proof.Proof.Algebraic5
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite_qks
public import proofs.«01_k».proof.Proof.Gen.Pre_finite_qk
public import proofs.«01_k».proof.Proof.Gen.Pre_finite_qkb
public import Idealize.ShloMosaic.Lib.Claim
public import Idealize.ShloMosaic.Adequacy
public import Idealize.ShloMosaic.Init

@[expose] public section

noncomputable section

namespace Cert.Proof

open Idealize.ShloMosaic Idealize.SL.Sem

/-- The reference ends in every run, its arguments unchanged; it has no semaphore, so every counter is at zero. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's mask constant, named minus infinity in its idealisation, is the constant the kernel is printed with. -/
theorem preserves : Cert.preserves_Kernel_KernelIdeal :=
  IdealRules.named_const.statement Cert.KernelIdeal.κ "mask" .f32 0xF149F2CA#32 ⊥ rfl

/-- Equal arguments, equal reference. -/
theorem REF_congr {A0 A1 B0 B1 : FVec Ideal Cert.ReferenceIdeal.S32768x1024 .bf16} {A2 B2 : FVec Ideal Cert.ReferenceIdeal.S64x512x512 .bf16}
    (h0 : A0 = B0) (h1 : A1 = B1) (h2 : A2 = B2) : Ref.REF A0 A1 A2 = Ref.REF B0 B1 B2 := by
  rw [h0, h1, h2]

/-- At finite queries and keys the kernel's result is the reference's, over the extended reals. -/
theorem algebraic : Cert.algebraic_KernelIdeal_ReferenceIdeal_pre_finite_qk := by
  intro m g m' g' hpre hargs
  refine ⟨fun c => Ref.REF (KernelIdeal.argQ m c) (KernelIdeal.argK m c) (KernelIdeal.argV m c), ?_, ?_⟩
  · refine (θ_run Cert.KernelIdeal.defs _ _).mono (fun r h c => ?_) (KernelIdeal.launch_run m g)
    have hf := Finite.pre_real m hpre c
    exact ⟨((h.1 c).1 3).trans (KernelIdeal.final m c hf.1 hf.2),
      ((h.1 c).1 0).trans ((KernelIdeal.dats m 0 c).arrAt_in 0 rfl _),
      ((h.1 c).1 1).trans ((KernelIdeal.dats m 0 c).arrAt_in 1 rfl _),
      ((h.1 c).1 2).trans ((KernelIdeal.dats m 0 c).arrAt_in 2 rfl _)⟩
  · refine (θ_run Cert.ReferenceIdeal.defs _ _).mono (fun r h c => ⟨(h c).1.trans ?_, (h c).2⟩)
      (Cert.ReferenceIdeal.Value.run (F := Ideal) m' g')
    exact (Ref.res_eq m' c).trans (REF_congr (hargs c).1 (hargs c).2.1 (hargs c).2.2)

/-- The whole claim. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite_qk.Gen.facts, Cert.Pre_finite_qkb.Gen.facts, Cert.Pre_finite_qks.Gen.facts,
    fun m ρ _ => Cert.Proof.Kernel.frame_run m ρ, fun m ρ _ => Cert.Proof.KernelIdeal.frame_run m ρ,
    fun m ρ _ => Cert.Proof.KernelIdeal.frame_run m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, fun m ρ _ => Cert.Kernel3Ideal.Gen.frame m ρ,
    reference3_frame, fun m ρ _ => reference3_frame m ρ trivial,
    fun m ρ _ => Cert.Kernel4.Gen.frame m ρ, fun m ρ _ => Cert.Kernel4Ideal.Gen.frame m ρ, fun m ρ _ => Cert.Kernel4Ideal.Gen.frame m ρ,
    reference4_frame, fun m ρ _ => reference4_frame m ρ trivial,
    fun m ρ _ => Cert.Kernel5.Gen.frame m ρ, fun m ρ _ => Cert.Kernel5Ideal.Gen.frame m ρ, reference5_frame,
    preserves, algebraic, trivial, algebraic2, preserves3, algebraic3, preserves4, algebraic4, trivial, algebraic5⟩

end Cert.Proof

end
